-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15)
      ∧ r.2.mem ((c.tc : Thread Cert.Proj.nD Cert.Proj.τ).loc Cert.Proj.main_arg16) = m ((c.tc : Thread Cert.Proj.nD Cert.Proj.τ).loc Cert.Proj.main_arg16)
      ∧ r.2.mem ((c.tc : Thread Cert.Proj.nD Cert.Proj.τ).loc Cert.Proj.main_arg17) = m ((c.tc : Thread Cert.Proj.nD Cert.Proj.τ).loc Cert.Proj.main_arg17)
      ∧ r.2.mem ((c.tc : Thread Cert.Proj.nD Cert.Proj.τ).loc Cert.Proj.main_arg18) = m ((c.tc : Thread Cert.Proj.nD Cert.Proj.τ).loc Cert.Proj.main_arg18)
      ∧ r.2.mem ((c.tc : Thread Cert.Proj.nD Cert.Proj.τ).loc Cert.Proj.main_arg19) = m ((c.tc : Thread Cert.Proj.nD Cert.Proj.τ).loc Cert.Proj.main_arg19))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
      ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
      ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
      ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
      ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15)
      ∧ r.2.mem ((c.tc : Thread Cert.ProjReferenceIdeal.nD Cert.ProjReferenceIdeal.τ).loc Cert.ProjReferenceIdeal.main_arg16) = m ((c.tc : Thread Cert.ProjReferenceIdeal.nD Cert.ProjReferenceIdeal.τ).loc Cert.ProjReferenceIdeal.main_arg16)
      ∧ r.2.mem ((c.tc : Thread Cert.ProjReferenceIdeal.nD Cert.ProjReferenceIdeal.τ).loc Cert.ProjReferenceIdeal.main_arg17) = m ((c.tc : Thread Cert.ProjReferenceIdeal.nD Cert.ProjReferenceIdeal.τ).loc Cert.ProjReferenceIdeal.main_arg17)
      ∧ r.2.mem ((c.tc : Thread Cert.ProjReferenceIdeal.nD Cert.ProjReferenceIdeal.τ).loc Cert.ProjReferenceIdeal.main_arg18) = m ((c.tc : Thread Cert.ProjReferenceIdeal.nD Cert.ProjReferenceIdeal.τ).loc Cert.ProjReferenceIdeal.main_arg18)
      ∧ r.2.mem ((c.tc : Thread Cert.ProjReferenceIdeal.nD Cert.ProjReferenceIdeal.τ).loc Cert.ProjReferenceIdeal.main_arg19) = m ((c.tc : Thread Cert.ProjReferenceIdeal.nD Cert.ProjReferenceIdeal.τ).loc Cert.ProjReferenceIdeal.main_arg19))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  IdealRules.named_const.Statement Cert.ProjIdeal.κ "inv192" .f32 0x3BAAAAAB#32 ((192⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)
      ∧ m' ((c.tc : Thread Cert.ProjReferenceIdeal.nD Cert.ProjReferenceIdeal.τ).loc Cert.ProjReferenceIdeal.main_arg15) = m ((c.tc : Thread Cert.ProjIdeal.nD Cert.ProjIdeal.τ).loc Cert.ProjIdeal.main_arg15)
      ∧ m' ((c.tc : Thread Cert.ProjReferenceIdeal.nD Cert.ProjReferenceIdeal.τ).loc Cert.ProjReferenceIdeal.main_arg16) = m ((c.tc : Thread Cert.ProjIdeal.nD Cert.ProjIdeal.τ).loc Cert.ProjIdeal.main_arg16)
      ∧ m' ((c.tc : Thread Cert.ProjReferenceIdeal.nD Cert.ProjReferenceIdeal.τ).loc Cert.ProjReferenceIdeal.main_arg17) = m ((c.tc : Thread Cert.ProjIdeal.nD Cert.ProjIdeal.τ).loc Cert.ProjIdeal.main_arg17)
      ∧ m' ((c.tc : Thread Cert.ProjReferenceIdeal.nD Cert.ProjReferenceIdeal.τ).loc Cert.ProjReferenceIdeal.main_arg18) = m ((c.tc : Thread Cert.ProjIdeal.nD Cert.ProjIdeal.τ).loc Cert.ProjIdeal.main_arg18)
      ∧ m' ((c.tc : Thread Cert.ProjReferenceIdeal.nD Cert.ProjReferenceIdeal.τ).loc Cert.ProjReferenceIdeal.main_arg19) = m ((c.tc : Thread Cert.ProjIdeal.nD Cert.ProjIdeal.τ).loc Cert.ProjIdeal.main_arg19)) →
    ∃ (v0 : (c : Dev Cert.ProjIdeal.nD) → Buf (Elt Ideal) ((c.tc : Thread Cert.ProjIdeal.nD Cert.ProjIdeal.τ).loc Cert.ProjIdeal.main_v138_6)) (v1 : (c : Dev Cert.ProjIdeal.nD) → Buf (Elt Ideal) ((c.tc : Thread Cert.ProjIdeal.nD Cert.ProjIdeal.τ).loc Cert.ProjIdeal.main_v138_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v138_6) = v0 c
          ∧ r.2.mem ((c.tc : Thread Cert.ProjIdeal.nD Cert.ProjIdeal.τ).loc Cert.ProjIdeal.main_v138_7) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
          ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
          ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
          ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
          ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
          ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v286) = v0 c
          ∧ r.2.mem ((c.tc : Thread Cert.ProjReferenceIdeal.nD Cert.ProjReferenceIdeal.τ).loc Cert.ProjReferenceIdeal.main_v288) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14)
          ∧ r.2.mem ((c.tc : Thread Cert.ProjReferenceIdeal.nD Cert.ProjReferenceIdeal.τ).loc Cert.ProjReferenceIdeal.main_arg15) = m' ((c.tc : Thread Cert.ProjReferenceIdeal.nD Cert.ProjReferenceIdeal.τ).loc Cert.ProjReferenceIdeal.main_arg15)
          ∧ r.2.mem ((c.tc : Thread Cert.ProjReferenceIdeal.nD Cert.ProjReferenceIdeal.τ).loc Cert.ProjReferenceIdeal.main_arg16) = m' ((c.tc : Thread Cert.ProjReferenceIdeal.nD Cert.ProjReferenceIdeal.τ).loc Cert.ProjReferenceIdeal.main_arg16)
          ∧ r.2.mem ((c.tc : Thread Cert.ProjReferenceIdeal.nD Cert.ProjReferenceIdeal.τ).loc Cert.ProjReferenceIdeal.main_arg17) = m' ((c.tc : Thread Cert.ProjReferenceIdeal.nD Cert.ProjReferenceIdeal.τ).loc Cert.ProjReferenceIdeal.main_arg17)
          ∧ r.2.mem ((c.tc : Thread Cert.ProjReferenceIdeal.nD Cert.ProjReferenceIdeal.τ).loc Cert.ProjReferenceIdeal.main_arg18) = m' ((c.tc : Thread Cert.ProjReferenceIdeal.nD Cert.ProjReferenceIdeal.τ).loc Cert.ProjReferenceIdeal.main_arg18)
          ∧ r.2.mem ((c.tc : Thread Cert.ProjReferenceIdeal.nD Cert.ProjReferenceIdeal.τ).loc Cert.ProjReferenceIdeal.main_arg19) = m' ((c.tc : Thread Cert.ProjReferenceIdeal.nD Cert.ProjReferenceIdeal.τ).loc Cert.ProjReferenceIdeal.main_arg19))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
-- ==== Pre_finite.lean ====
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S_ : Shape := ⟨0, ![]⟩

class Facts : Prop where
  bcast_S_S1x4x4096x192 : S_.BroadcastsInDim S1x4x4096x192 (![] : Fin 0 → Fin S1x4x4096x192.rank)
  bcast_S_S1x4x4352x192 : S_.BroadcastsInDim S1x4x4352x192 (![] : Fin 0 → Fin S1x4x4352x192.rank)
  bcast_S_S1x4x4352x128 : S_.BroadcastsInDim S1x4x4352x128 (![] : Fin 0 → Fin S1x4x4352x128.rank)
  bcast_S_S1x4096x512 : S_.BroadcastsInDim S1x4096x512 (![] : Fin 0 → Fin S1x4096x512.rank)

variable [Facts]

def fn {F : FTy → Type} [FloatOps F] (main_arg0 : FVec F S1x4x4096x192 .f32) (main_arg1 : FVec F S1x4x4352x192 .f32) (main_arg2 : FVec F S1x4x4352x128 .f32) (main_arg3 : FVec F S1x4096x512 .f32) : IVec S1x4x4096x192 1 × IVec S1x4x4352x192 1 × IVec S1x4x4352x128 1 × IVec S1x4096x512 1 :=
  let main_v0 : FVec F S1x4x4096x192 .f32 := Host.absf main_arg0
  let main_cst : FVec F S_ .f32 := constant S_ .f32 0x7F800000#32
  let main_v1 : FVec F S1x4x4096x192 .f32 := broadcastInDim S1x4x4096x192 ![] bcast_S_S1x4x4096x192 main_cst
  let main_v2 : IVec S1x4x4096x192 1 := cmpf .olt main_v0 main_v1
  let main_v3 : FVec F S1x4x4352x192 .f32 := Host.absf main_arg1
  let main_cst_0 : FVec F S_ .f32 := constant S_ .f32 0x7F800000#32
  let main_v4 : FVec F S1x4x4352x192 .f32 := broadcastInDim S1x4x4352x192 ![] bcast_S_S1x4x4352x192 main_cst_0
  let main_v5 : IVec S1x4x4352x192 1 := cmpf .olt main_v3 main_v4
  let main_v6 : FVec F S1x4x4352x128 .f32 := Host.absf main_arg2
  let main_cst_1 : FVec F S_ .f32 := constant S_ .f32 0x7F800000#32
  let main_v7 : FVec F S1x4x4352x128 .f32 := broadcastInDim S1x4x4352x128 ![] bcast_S_S1x4x4352x128 main_cst_1
  let main_v8 : IVec S1x4x4352x128 1 := cmpf .olt main_v6 main_v7
  let main_v9 : FVec F S1x4096x512 .f32 := Host.absf main_arg3
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  (main_v2, main_v5, main_v8, main_v11)
-- ==== Kernel.lean ====
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S_ : Shape := ⟨0, ![]⟩
abbrev S4x4096x192 : Shape := ⟨3, ![4, 4096, 192]⟩
abbrev S4x4096x256 : Shape := ⟨3, ![4, 4096, 256]⟩
abbrev S4x4352x192 : Shape := ⟨3, ![4, 4352, 192]⟩
abbrev S4x4352x256 : Shape := ⟨3, ![4, 4352, 256]⟩
abbrev S4x4352x128 : Shape := ⟨3, ![4, 4352, 128]⟩
abbrev S4096x512 : Shape := ⟨2, ![4096, 512]⟩
abbrev S4x4096x1 : Shape := ⟨3, ![4, 4096, 1]⟩
abbrev S1x2048x256 : Shape := ⟨3, ![1, 2048, 256]⟩
abbrev S1x4352x256 : Shape := ⟨3, ![1, 4352, 256]⟩
abbrev S1x4352x128 : Shape := ⟨3, ![1, 4352, 128]⟩
abbrev S2048x128 : Shape := ⟨2, ![2048, 128]⟩
abbrev S1x2048x1 : Shape := ⟨3, ![1, 2048, 1]⟩
abbrev S4352x256 : Shape := ⟨2, ![4352, 256]⟩
abbrev S4352x128 : Shape := ⟨2, ![4352, 128]⟩
abbrev S1x256x256 : Shape := ⟨3, ![1, 256, 256]⟩
abbrev S256x256 : Shape := ⟨2, ![256, 256]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩
abbrev S1x256x1 : Shape := ⟨3, ![1, 256, 1]⟩
abbrev S4x256x4352 : Shape := ⟨3, ![4, 256, 4352]⟩
abbrev S4x128x4352 : Shape := ⟨3, ![4, 128, 4352]⟩
abbrev S1x1024x256 : Shape := ⟨3, ![1, 1024, 256]⟩
abbrev S1024x128 : Shape := ⟨2, ![1024, 128]⟩
abbrev S1x1024x1 : Shape := ⟨3, ![1, 1024, 1]⟩
abbrev S1x256x4352 : Shape := ⟨3, ![1, 256, 4352]⟩
abbrev S1x128x4352 : Shape := ⟨3, ![1, 128, 4352]⟩
abbrev S1024x256 : Shape := ⟨2, ![1024, 256]⟩
abbrev S1024x4352 : Shape := ⟨2, ![1024, 4352]⟩
abbrev S128x4352 : Shape := ⟨2, ![128, 4352]⟩

abbrev nBuf : Space → Nat
  | .hbm => 41
  | .vmem => 28
  | .smem => 0
  | _ => 0

abbrev bufTy : (tb : Table) → Fin (tcTables nBuf tb) → BufTy
  | .hbm, ⟨0, _⟩ => ⟨S1x4x4096x192, .f32⟩
  | .hbm, ⟨1, _⟩ => ⟨S1x4x4352x192, .f32⟩
  | .hbm, ⟨2, _⟩ => ⟨S1x4x4352x128, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S4x4096x192, .f32⟩
  | .hbm, ⟨7, _⟩ => ⟨S_, .f32⟩
  | .hbm, ⟨8, _⟩ => ⟨S_, .f32⟩
  | .hbm, ⟨9, _⟩ => ⟨S4x4096x192, .f32⟩
  | .hbm, ⟨10, _⟩ => ⟨S4x4096x192, .f32⟩
  | .hbm, ⟨11, _⟩ => ⟨S_, .i32⟩
  | .hbm, ⟨12, _⟩ => ⟨S_, .f32⟩
  | .hbm, ⟨13, _⟩ => ⟨S4x4096x256, .f32⟩
  | .hbm, ⟨14, _⟩ => ⟨S4x4096x256, .bf16⟩
  | .hbm, ⟨15, _⟩ => ⟨S4x4352x192, .f32⟩
  | .hbm, ⟨16, _⟩ => ⟨S_, .i32⟩
  | .hbm, ⟨17, _⟩ => ⟨S_, .f32⟩
  | .hbm, ⟨18, _⟩ => ⟨S4x4352x256, .f32⟩
  | .hbm, ⟨19, _⟩ => ⟨S4x4352x256, .bf16⟩
  | .hbm, ⟨20, _⟩ => ⟨S4x4352x128, .f32⟩
  | .hbm, ⟨21, _⟩ => ⟨S4x4352x128, .bf16⟩
  | .hbm, ⟨22, _⟩ => ⟨S4096x512, .f32⟩
  | .hbm, ⟨23, _⟩ => ⟨S4x4096x1, .f32⟩
  | .hbm, ⟨24, _⟩ => ⟨S4096x512, .f32⟩
  | .hbm, ⟨25, _⟩ => ⟨S4x4096x256, .f32⟩
  | .hbm, ⟨26, _⟩ => ⟨S4x256x4352, .f32⟩
  | .hbm, ⟨27, _⟩ => ⟨S4x128x4352, .f32⟩
  | .hbm, ⟨28, _⟩ => ⟨S1x4096x512, .f32⟩
  | .hbm, ⟨29, _⟩ => ⟨S_, .f32⟩
  | .hbm, ⟨30, _⟩ => ⟨S4x4096x256, .f32⟩
  | .hbm, ⟨31, _⟩ => ⟨S4x4096x256, .f32⟩
  | .hbm, ⟨32, _⟩ => ⟨S4x4096x192, .f32⟩
  | .hbm, ⟨33, _⟩ => ⟨S1x4x4096x192, .f32⟩
  | .hbm, ⟨34, _⟩ => ⟨S4x4352x256, .f32⟩
  | .hbm, ⟨35, _⟩ => ⟨S4x4352x256, .f32⟩
  | .hbm, ⟨36, _⟩ => ⟨S4x4352x256, .f32⟩
  | .hbm, ⟨37, _⟩ => ⟨S4x4352x192, .f32⟩
  | .hbm, ⟨38, _⟩ => ⟨S1x4x4352x192, .f32⟩
  | .hbm, ⟨39, _⟩ => ⟨S4x4352x128, .f32⟩
  | .hbm, ⟨40, _⟩ => ⟨S1x4x4352x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S2048x128, .f32⟩
  | .local _ .vmem, ⟨7, _⟩ => ⟨S2048x128, .f32⟩
  | .local _ .vmem, ⟨8, _⟩ => ⟨S1x2048x1, .f32⟩
  | .local _ .vmem, ⟨9, _⟩ => ⟨S1x2048x1, .f32⟩
  | .local _ .vmem, ⟨10, _⟩ => ⟨S1x1024x256, .bf16⟩
  | .local _ .vmem, ⟨11, _⟩ => ⟨S1x1024x256, .bf16⟩
  | .local _ .vmem, ⟨12, _⟩ => ⟨S1x4352x256, .bf16⟩
  | .local _ .vmem, ⟨13, _⟩ => ⟨S1x4352x256, .bf16⟩
  | .local _ .vmem, ⟨14, _⟩ => ⟨S1x4352x128, .bf16⟩
  | .local _ .vmem, ⟨15, _⟩ => ⟨S1x4352x128, .bf16⟩
  | .local _ .vmem, ⟨16, _⟩ => ⟨S1024x128, .f32⟩
  | .local _ .vmem, ⟨17, _⟩ => ⟨S1024x128, .f32⟩
  | .local _ .vmem, ⟨18, _⟩ => ⟨S1x1024x1, .f32⟩
  | .local _ .vmem, ⟨19, _⟩ => ⟨S1x1024x1, .f32⟩
  | .local _ .vmem, ⟨20, _⟩ => ⟨S1024x128, .f32⟩
  | .local _ .vmem, ⟨21, _⟩ => ⟨S1024x128, .f32⟩
  | .local _ .vmem, ⟨22, _⟩ => ⟨S1x1024x256, .f32⟩
  | .local _ .vmem, ⟨23, _⟩ => ⟨S1x1024x256, .f32⟩
  | .local _ .vmem, ⟨24, _⟩ => ⟨S1x256x4352, .f32⟩
  | .local _ .vmem, ⟨25, _⟩ => ⟨S1x256x4352, .f32⟩
  | .local _ .vmem, ⟨26, _⟩ => ⟨S1x128x4352, .f32⟩
  | .local _ .vmem, ⟨27, _⟩ => ⟨S1x128x4352, .f32⟩
  | _, _ => ⟨S1x4x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4352x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x4352 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x128x4352 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S1x4x4096x4352 : Shape := ⟨4, ![1, 4, 4096, 4352]⟩
abbrev S_ : Shape := ⟨0, ![]⟩
abbrev S1x4x4096 : Shape := ⟨3, ![1, 4, 4096]⟩
abbrev S1x4x4096x1 : Shape := ⟨4, ![1, 4, 4096, 1]⟩
abbrev S1x4x4096x128 : Shape := ⟨4, ![1, 4, 4096, 128]⟩
abbrev S1x4096x4x128 : Shape := ⟨4, ![1, 4096, 4, 128]⟩
abbrev S1x4x128x4352 : Shape := ⟨4, ![1, 4, 128, 4352]⟩
abbrev S4x4096 : Shape := ⟨2, ![4, 4096]⟩

abbrev nBuf : Space → Nat
  | .hbm => 74
  | .vmem => 0
  | .smem => 0
  | _ => 0

abbrev bufTy : (tb : Table) → Fin (tcTables nBuf tb) → BufTy
  | .hbm, ⟨0, _⟩ => ⟨S1x4x4096x192, .f32⟩
  | .hbm, ⟨1, _⟩ => ⟨S1x4x4352x192, .f32⟩
  | .hbm, ⟨2, _⟩ => ⟨S1x4x4352x128, .f32⟩
  | .hbm, ⟨3, _⟩ => ⟨S1x4096x512, .f32⟩
  | .hbm, ⟨4, _⟩ => ⟨S1x4x4096x4352, .f32⟩
  | .hbm, ⟨5, _⟩ => ⟨S_, .f32⟩
  | .hbm, ⟨6, _⟩ => ⟨S1x4x4096x4352, .f32⟩
  | .hbm, ⟨7, _⟩ => ⟨S1x4x4096x4352, .f32⟩
  | .hbm, ⟨8, _⟩ => ⟨S_, .f32⟩
  | .hbm, ⟨9, _⟩ => ⟨S1x4x4096, .f32⟩
  | .hbm, ⟨10, _⟩ => ⟨S1x4x4096x1, .f32⟩
  | .hbm, ⟨11, _⟩ => ⟨S1x4x4096x4352, .f32⟩
  | .hbm, ⟨12, _⟩ => ⟨S1x4x4096x4352, .i1⟩
  | .hbm, ⟨13, _⟩ => ⟨S1x4x4096x4352, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .i1⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S_, .f32⟩
  | .hbm, ⟨28, _⟩ => ⟨S1x4x4096, .f32⟩
  | .hbm, ⟨29, _⟩ => ⟨S_, .f32⟩
  | .hbm, ⟨30, _⟩ => ⟨S1x4x4096, .f32⟩
  | .hbm, ⟨31, _⟩ => ⟨S1x4x4096, .f32⟩
  | .hbm, ⟨32, _⟩ => ⟨S1x4x4096, .f32⟩
  | .hbm, ⟨33, _⟩ => ⟨S1x4x4096x1, .f32⟩
  | .hbm, ⟨34, _⟩ => ⟨S1x4x4096x4352, .f32⟩
  | .hbm, ⟨35, _⟩ => ⟨S1x4x4096x4352, .f32⟩
  | .hbm, ⟨36, _⟩ => ⟨S1x4x4096x4352, .f32⟩
  | .hbm, ⟨37, _⟩ => ⟨S_, .f32⟩
  | .hbm, ⟨38, _⟩ => ⟨S1x4x4096, .f32⟩
  | .hbm, ⟨39, _⟩ => ⟨S1x4x4096x1, .f32⟩
  | .hbm, ⟨40, _⟩ => ⟨S1x4x4096x4352, .f32⟩
  | .hbm, ⟨41, _⟩ => ⟨S1x4x4096x4352, .f32⟩
  | .hbm, ⟨42, _⟩ => ⟨S1x4x4096x1, .f32⟩
  | .hbm, ⟨43, _⟩ => ⟨S_, .f32⟩
  | .hbm, ⟨44, _⟩ => ⟨S1x4x4096x1, .f32⟩
  | .hbm, ⟨45, _⟩ => ⟨S1x4x4096x1, .f32⟩
  | .hbm, ⟨46, _⟩ => ⟨S1x4x4096x128, .f32⟩
  | .hbm, ⟨47, _⟩ => ⟨S1x4096x4x128, .f32⟩
  | .hbm, ⟨48, _⟩ => ⟨S1x4096x512, .f32⟩
  | .hbm, ⟨49, _⟩ => ⟨S1x4096x4x128, .f32⟩
  | .hbm, ⟨50, _⟩ => ⟨S1x4x4096x128, .f32⟩
  | .hbm, ⟨51, _⟩ => ⟨S1x4x128x4352, .f32⟩
  | .hbm, ⟨52, _⟩ => ⟨S1x4x4352x128, .f32⟩
  | .hbm, ⟨53, _⟩ => ⟨S1x4x4096x4352, .f32⟩
  | .hbm, ⟨54, _⟩ => ⟨S1x4x4096x4352, .f32⟩
  | .hbm, ⟨55, _⟩ => ⟨S1x4x4096x4352, .f32⟩
  | .hbm, ⟨56, _⟩ => ⟨S1x4x4096x4352, .f32⟩
  | .hbm, ⟨57, _⟩ => ⟨S_, .f32⟩
  | .hbm, ⟨58, _⟩ => ⟨S1x4x4096, .f32⟩
  | .hbm, ⟨59, _⟩ => ⟨S1x4x4096x1, .f32⟩
  | .hbm, ⟨60, _⟩ => ⟨S1x4x4096x1, .f32⟩
  | .hbm, ⟨61, _⟩ => ⟨S1x4x4096x4352, .f32⟩
  | .hbm, ⟨62, _⟩ => ⟨S1x4x4096x4352, .f32⟩
  | .hbm, ⟨63, _⟩ => ⟨S_, .f32⟩
  | .hbm, ⟨64, _⟩ => ⟨S4x4096, .f32⟩
  | .hbm, ⟨65, _⟩ => ⟨S1x4x4096, .f32⟩
  | .hbm, ⟨66, _⟩ => ⟨S1x4x4096x4352, .f32⟩
  | .hbm, ⟨67, _⟩ => ⟨S1x4x4096x4352, .f32⟩
  | .hbm, ⟨68, _⟩ => ⟨S1x4x4096x4352, .f32⟩
  | .hbm, ⟨69, _⟩ => ⟨S_, .f32⟩
  | .hbm, ⟨70, _⟩ => ⟨S1x4x4096x4352, .f32⟩
  | .hbm, ⟨71, _⟩ => ⟨S1x4x4096x4352, .f32⟩
  | .hbm, ⟨72, _⟩ => ⟨S1x4x4352x192, .f32⟩
  | .hbm, ⟨73, _⟩ => ⟨S1x4x4096x192, .f32⟩
  | _, _ => ⟨S1x4x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proj.lean ====
abbrev S1x4096x1024 : Shape := ⟨3, ![1, 4096, 1024]⟩
abbrev S1x256x1024 : Shape := ⟨3, ![1, 256, 1024]⟩
abbrev S3072 : Shape := ⟨1, ![3072]⟩
abbrev S1024 : Shape := ⟨1, ![1024]⟩
abbrev S1024x1984 : Shape := ⟨2, ![1024, 1984]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S256x1024 : Shape := ⟨2, ![256, 1024]⟩
abbrev S_ : Shape := ⟨0, ![]⟩
abbrev S256x1 : Shape := ⟨2, ![256, 1]⟩
abbrev S1x1024 : Shape := ⟨2, ![1, 1024]⟩
abbrev S256x1984 : Shape := ⟨2, ![256, 1984]⟩
abbrev S4096x1024 : Shape := ⟨2, ![4096, 1024]⟩
abbrev S4096 : Shape := ⟨1, ![4096]⟩
abbrev S4096x1 : Shape := ⟨2, ![4096, 1]⟩
abbrev S4096x1984 : Shape := ⟨2, ![4096, 1984]⟩
abbrev S4352x1984 : Shape := ⟨2, ![4352, 1984]⟩
abbrev S4352x448 : Shape := ⟨2, ![4352, 448]⟩
abbrev S4352x512 : Shape := ⟨2, ![4352, 512]⟩
abbrev S768x256 : Shape := ⟨2, ![768, 256]⟩
abbrev S4x192x256 : Shape := ⟨3, ![4, 192, 256]⟩
abbrev S4x256x256 : Shape := ⟨3, ![4, 256, 256]⟩
abbrev S3x1024 : Shape := ⟨2, ![3, 1024]⟩
abbrev S2x1024 : Shape := ⟨2, ![2, 1024]⟩
abbrev S8x1024 : Shape := ⟨2, ![8, 1024]⟩
abbrev S1984x1024 : Shape := ⟨2, ![1984, 1024]⟩
abbrev S1x256 : Shape := ⟨2, ![1, 256]⟩
abbrev S1024x256 : Shape := ⟨2, ![1024, 256]⟩
abbrev S1x128 : Shape := ⟨2, ![1, 128]⟩
abbrev S1x192 : Shape := ⟨2, ![1, 192]⟩
abbrev S64 : Shape := ⟨1, ![64]⟩
abbrev S64x64 : Shape := ⟨2, ![64, 64]⟩
abbrev S1x64 : Shape := ⟨2, ![1, 64]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S4352x128 : Shape := ⟨2, ![4352, 128]⟩
abbrev S4x4096x192 : Shape := ⟨3, ![4, 4096, 192]⟩
abbrev S4x4096x256 : Shape := ⟨3, ![4, 4096, 256]⟩
abbrev S4x4352x192 : Shape := ⟨3, ![4, 4352, 192]⟩
abbrev S4x4352x256 : Shape := ⟨3, ![4, 4352, 256]⟩
abbrev S4x256x4352 : Shape := ⟨3, ![4, 256, 4352]⟩
abbrev S4x4352x128 : Shape := ⟨3, ![4, 4352, 128]⟩
abbrev S4x128x4352 : Shape := ⟨3, ![4, 128, 4352]⟩
abbrev S4096x512 : Shape := ⟨2, ![4096, 512]⟩
abbrev S1024x128 : Shape := ⟨2, ![1024, 128]⟩
abbrev S256x128 : Shape := ⟨2, ![256, 128]⟩
abbrev S256x256 : Shape := ⟨2, ![256, 256]⟩
abbrev S4x128x256 : Shape := ⟨3, ![4, 128, 256]⟩
abbrev S256x512 : Shape := ⟨2, ![256, 512]⟩
abbrev S16x512 : Shape := ⟨2, ![16, 512]⟩
abbrev S256x2048 : Shape := ⟨2, ![256, 2048]⟩
abbrev S256x1536 : Shape := ⟨2, ![256, 1536]⟩
abbrev S1536x1024 : Shape := ⟨2, ![1536, 1024]⟩
abbrev S512x1024 : Shape := ⟨2, ![512, 1024]⟩
abbrev S448x1024 : Shape := ⟨2, ![448, 1024]⟩
abbrev S1x256x256 : Shape := ⟨3, ![1, 256, 256]⟩
abbrev S1x128x256 : Shape := ⟨3, ![1, 128, 256]⟩
abbrev S128x256 : Shape := ⟨2, ![128, 256]⟩
abbrev S288x512 : Shape := ⟨2, ![288, 512]⟩
abbrev S288x1 : Shape := ⟨2, ![288, 1]⟩
abbrev S288x128 : Shape := ⟨2, ![288, 128]⟩

abbrev nBuf : Space → Nat
  | .hbm => 230
  | .vmem => 60
  | .smem => 0
  | _ => 0

abbrev hbmTy0_0 (i : Nat) : BufTy := match i % 128 with
  | 0 => ⟨S1x4096x1024, .f32⟩
  | 1 => ⟨S1x256x1024, .f32⟩
  | 2 => ⟨S3072, .f32⟩
  | 3 => ⟨S3072, .f32⟩
  | 4 => ⟨S3072, .f32⟩
  | 5 => ⟨S1024, .f32⟩
  | 6 => ⟨S1024x1984, .f32⟩
  | 7 => ⟨S256, .f32⟩
  | 8 => ⟨S256x768, .f32⟩
  | 9 => ⟨S128, .f32⟩
  | 10 => ⟨S128x1024, .f32⟩
  | 11 => ⟨S192, .f32⟩
  | 12 => ⟨S192, .f32⟩
  | 13 => ⟨S1x4x4096x192, .f32⟩
  | 14 => ⟨S1x4x4352x192, .f32⟩
  | 15 => ⟨S1x4x4352x128, .f32⟩
  | 16 => ⟨S1x4096x512, .f32⟩
  | 17 => ⟨S1x4096x512, .f32⟩
  | 18 => ⟨S1x4096x512, .f32⟩
  | 19 => ⟨S1x4096x1024, .f32⟩
  | 20 => ⟨S256x1024, .f32⟩
  | 21 => ⟨S3072, .f32⟩
  | 22 => ⟨S1024, .f32⟩
  | 23 => ⟨S1024, .f32⟩
  | 24 => ⟨S1024, .f32⟩
  | 25 => ⟨S256x1024, .f32⟩
  | 26 => ⟨S_, .f32⟩
  | 27 => ⟨S256, .f32⟩
  | 28 => ⟨S256x1, .f32⟩
  | 29 => ⟨S_, .f32⟩
  | 30 => ⟨S256x1, .f32⟩
  | 31 => ⟨S256x1, .f32⟩
  | 32 => ⟨S_, .f32⟩
  | 33 => ⟨S256x1, .f32⟩
  | 34 => ⟨S256x1, .f32⟩
  | 35 => ⟨S256x1, .f32⟩
  | 36 => ⟨S256x1024, .f32⟩
  | 37 => ⟨S256x1024, .f32⟩
  | 38 => ⟨S1x1024, .f32⟩
  | 39 => ⟨S256x1024, .f32⟩
  | 40 => ⟨S256x1024, .f32⟩
  | 41 => ⟨S_, .f32⟩
  | 42 => ⟨S1024, .f32⟩
  | 43 => ⟨S1024, .f32⟩
  | 44 => ⟨S1x1024, .f32⟩
  | 45 => ⟨S256x1024, .f32⟩
  | 46 => ⟨S256x1024, .f32⟩
  | 47 => ⟨S1x1024, .f32⟩
  | 48 => ⟨S256x1024, .f32⟩
  | 49 => ⟨S256x1024, .f32⟩
  | 50 => ⟨S256x1984, .f32⟩
  | 51 => ⟨S4096x1024, .f32⟩
  | 52 => ⟨S3072, .f32⟩
  | 53 => ⟨S1024, .f32⟩
  | 54 => ⟨S1024, .f32⟩
  | 55 => ⟨S1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1024, .f32⟩
  | 68 => ⟨S4096x1024, .f32⟩
  | 69 => ⟨S1x1024, .f32⟩
  | 70 => ⟨S4096x1024, .f32⟩
  | 71 => ⟨S4096x1024, .f32⟩
  | 72 => ⟨S_, .f32⟩
  | 73 => ⟨S1024, .f32⟩
  | 74 => ⟨S1024, .f32⟩
  | 75 => ⟨S1x1024, .f32⟩
  | 76 => ⟨S4096x1024, .f32⟩
  | 77 => ⟨S4096x1024, .f32⟩
  | 78 => ⟨S1x1024, .f32⟩
  | 79 => ⟨S4096x1024, .f32⟩
  | 80 => ⟨S4096x1024, .f32⟩
  | 81 => ⟨S4096x1984, .f32⟩
  | 82 => ⟨S4352x1984, .f32⟩
  | 83 => ⟨S4352x448, .f32⟩
  | 84 => ⟨S_, .i32⟩
  | 85 => ⟨S_, .f32⟩
  | 86 => ⟨S4352x512, .f32⟩
  | 87 => ⟨S768x256, .f32⟩
  | 88 => ⟨S4x192x256, .f32⟩
  | 89 => ⟨S_, .i32⟩
  | 90 => ⟨S_, .f32⟩
  | 91 => ⟨S4x256x256, .f32⟩
  | 92 => ⟨S4096x1024, .f32⟩
  | 93 => ⟨S256x1024, .f32⟩
  | 94 => ⟨S3x1024, .f32⟩
  | 95 => ⟨S3x1024, .f32⟩
  | 96 => ⟨S2x1024, .f32⟩
  | 97 => ⟨S_, .f32⟩
  | 98 => ⟨S3x1024, .f32⟩
  | 99 => ⟨S8x1024, .f32⟩
  | 100 => ⟨S3x1024, .f32⟩
  | 101 => ⟨S3x1024, .f32⟩
  | 102 => ⟨S2x1024, .f32⟩
  | 103 => ⟨S_, .f32⟩
  | 104 => ⟨S3x1024, .f32⟩
  | 105 => ⟨S8x1024, .f32⟩
  | 106 => ⟨S1x1024, .f32⟩
  | 107 => ⟨S1984x1024, .f32⟩
  | 108 => ⟨S1984x1024, .bf16⟩
  | 109 => ⟨S1x256, .f32⟩
  | 110 => ⟨S1024x256, .f32⟩
  | 111 => ⟨S1024x256, .bf16⟩
  | 112 => ⟨S1x128, .f32⟩
  | 113 => ⟨S128x1024, .bf16⟩
  | 114 => ⟨S1x192, .f32⟩
  | 115 => ⟨S_, .i32⟩
  | 116 => ⟨S_, .f32⟩
  | 117 => ⟨S1x256, .f32⟩
  | 118 => ⟨S1x192, .f32⟩
  | 119 => ⟨S_, .i32⟩
  | 120 => ⟨S_, .f32⟩
  | 121 => ⟨S1x256, .f32⟩
  | 122 => ⟨S64, .f32⟩
  | 123 => ⟨S64x64, .f32⟩
  | 124 => ⟨S4096, .f32⟩
  | 125 => ⟨S64, .f32⟩
  | 126 => ⟨S1x64, .f32⟩
  | 127 => ⟨S64x64, .f32⟩
  | _ => ⟨S1x4096x1024, .f32⟩

abbrev hbmTy0_1 (i : Nat) : BufTy := match i % 128 with
  | 0 => ⟨S4096, .f32⟩
  | 1 => ⟨S16, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S4096x1, .f32⟩
  | 10 => ⟨S1x16, .f32⟩
  | 11 => ⟨S4096x16, .f32⟩
  | 12 => ⟨S4096x16, .f32⟩
  | 13 => ⟨S4096x16, .f32⟩
  | 14 => ⟨S4096x1, .f32⟩
  | 15 => ⟨S1x16, .f32⟩
  | 16 => ⟨S4096x16, .f32⟩
  | 17 => ⟨S4096x16, .f32⟩
  | 18 => ⟨S4096x16, .f32⟩
  | 19 => ⟨S4096x64, .f32⟩
  | 20 => ⟨S4096x64, .f32⟩
  | 21 => ⟨S4096x64, .f32⟩
  | 22 => ⟨S64, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i1⟩
  | 34 => ⟨S_, .i32⟩
  | 35 => ⟨S64, .i32⟩
  | 36 => ⟨S64, .i1⟩
  | 37 => ⟨S_, .i32⟩
  | 38 => ⟨S_, .i1⟩
  | 39 => ⟨S64, .i1⟩
  | 40 => ⟨S64, .i1⟩
  | 41 => ⟨S64, .i1⟩
  | 42 => ⟨S64, .i32⟩
  | 43 => ⟨S64, .i32⟩
  | 44 => ⟨S64, .i32⟩
  | 45 => ⟨S_, .i32⟩
  | 46 => ⟨S64, .i32⟩
  | 47 => ⟨S64, .i1⟩
  | 48 => ⟨S_, .f32⟩
  | 49 => ⟨S_, .f32⟩
  | 50 => ⟨S4352x128, .f32⟩
  | 51 => ⟨S4096x64, .f32⟩
  | 52 => ⟨S_, .f32⟩
  | 53 => ⟨S_, .f32⟩
  | 54 => ⟨S4096x64, .i1⟩
  | 55 => ⟨S4096x64, .f32⟩
  | 56 => ⟨S4096x64, .f32⟩
  | 57 => ⟨S_, .f32⟩
  | 58 => ⟨S_, .f32⟩
  | 59 => ⟨S4352x128, .f32⟩
  | 60 => ⟨S_, .f32⟩
  | 61 => ⟨S_, .f32⟩
  | 62 => ⟨S4096x64, .i1⟩
  | 63 => ⟨S4096x64, .f32⟩
  | 64 => ⟨S4096x64, .f32⟩
  | 65 => ⟨S_, .f32⟩
  | 66 => ⟨S_, .f32⟩
  | 67 => ⟨S4352x128, .f32⟩
  | 68 => ⟨S4x4096x192, .f32⟩
  | 69 => ⟨S_, .i32⟩
  | 70 => ⟨S_, .f32⟩
  | 71 => ⟨S4x4096x256, .f32⟩
  | 72 => ⟨S_, .f32⟩
  | 73 => ⟨S4x4096x256, .f32⟩
  | 74 => ⟨S4x4096x256, .f32⟩
  | 75 => ⟨S4x4352x192, .f32⟩
  | 76 => ⟨S_, .i32⟩
  | 77 => ⟨S_, .f32⟩
  | 78 => ⟨S4x4352x256, .f32⟩
  | 79 => ⟨S4x256x4352, .f32⟩
  | 80 => ⟨S_, .f32⟩
  | 81 => ⟨S4x256x4352, .f32⟩
  | 82 => ⟨S4x256x4352, .f32⟩
  | 83 => ⟨S4x4352x128, .f32⟩
  | 84 => ⟨S4x128x4352, .f32⟩
  | 85 => ⟨S4096x512, .f32⟩
  | 86 => ⟨S4096x512, .bf16⟩
  | 87 => ⟨S4096x512, .f32⟩
  | 88 => ⟨S4096x512, .bf16⟩
  | 89 => ⟨S4096x512, .f32⟩
  | 90 => ⟨S4096x512, .bf16⟩
  | 91 => ⟨S4096x1024, .f32⟩
  | 92 => ⟨S4096x1024, .f32⟩
  | 93 => ⟨S1984x1024, .f32⟩
  | 94 => ⟨S1024x256, .f32⟩
  | 95 => ⟨S1024x128, .f32⟩
  | 96 => ⟨S1x256, .f32⟩
  | 97 => ⟨S1x128, .f32⟩
  | 98 => ⟨S1x256, .f32⟩
  | 99 => ⟨S1x256, .f32⟩
  | 100 => ⟨S1x1024, .f32⟩
  | 101 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S8x1024, .f32⟩
  | .local _ .vmem, ⟨6, _⟩ => ⟨S8x1024, .f32⟩
  | .local _ .vmem, ⟨7, _⟩ => ⟨S1x1024, .f32⟩
  | .local _ .vmem, ⟨8, _⟩ => ⟨S1984x1024, .bf16⟩
  | .local _ .vmem, ⟨9, _⟩ => ⟨S1x256, .f32⟩
  | .local _ .vmem, ⟨10, _⟩ => ⟨S1024x256, .bf16⟩
  | .local _ .vmem, ⟨11, _⟩ => ⟨S1x128, .f32⟩
  | .local _ .vmem, ⟨12, _⟩ => ⟨S128x1024, .bf16⟩
  | .local _ .vmem, ⟨13, _⟩ => ⟨S1x256, .f32⟩
  | .local _ .vmem, ⟨14, _⟩ => ⟨S1x256, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x256, .f32⟩
  | .local _ .vmem, ⟨22, _⟩ => ⟨S256x256, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S4x256x256, .f32⟩
  | .local _ .vmem, ⟨28, _⟩ => ⟨S4x256x256, .f32⟩
  | .local _ .vmem, ⟨29, _⟩ => ⟨S4x256x256, .f32⟩
  | .local _ .vmem, ⟨30, _⟩ => ⟨S4x256x256, .f32⟩
  | .local _ .vmem, ⟨31, _⟩ => ⟨S4x128x256, .f32⟩
  | .local _ .vmem, ⟨32, _⟩ => ⟨S4x128x256, .f32⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S16x512, .bf16⟩
  | .local _ .vmem, ⟨40, _⟩ => ⟨S16x512, .bf16⟩
  | .local _ .vmem, ⟨41, _⟩ => ⟨S16x512, .bf16⟩
  | .local _ .vmem, ⟨42, _⟩ => ⟨S16x512, .bf16⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S1984x1024, .f32⟩
  | .local _ .vmem, ⟨48, _⟩ => ⟨S1024x256, .f32⟩
  | .local _ .vmem, ⟨49, _⟩ => ⟨S1024x128, .f32⟩
  | .local _ .vmem, ⟨50, _⟩ => ⟨S1x256, .f32⟩
  | .local _ .vmem, ⟨51, _⟩ => ⟨S1x128, .f32⟩
  | .local _ .vmem, ⟨52, _⟩ => ⟨S1x256, .f32⟩
  | .local _ .vmem, ⟨53, _⟩ => ⟨S1x256, .f32⟩
  | .local _ .vmem, ⟨54, _⟩ => ⟨S1x1024, .f32⟩
  | .local _ .vmem, ⟨55, _⟩ => ⟨S8x1024, .f32⟩
  | .local _ .vmem, ⟨56, _⟩ => ⟨S256x2048, .bf16⟩
  | .local _ .vmem, ⟨57, _⟩ => ⟨S256x2048, .bf16⟩
  | .local _ .vmem, ⟨58, _⟩ => ⟨S256x1024, .f32⟩
  | .local _ .vmem, ⟨59, _⟩ => ⟨S256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c : Ref sig .tc := ⟨.hbm, 84, rfl⟩
abbrev main_call0_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_7 : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_9 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_10 : Ref sig .tc := ⟨.hbm, 115, rfl⟩
abbrev main_call2_v0 : Ref sig .tc := ⟨.hbm, 116, rfl⟩
abbrev main_v81 : Ref sig .tc := ⟨.hbm, 117, rfl⟩
abbrev main_v82 : Ref sig .tc := ⟨.hbm, 118, rfl⟩
abbrev main_c_11 : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_12 : Ref sig .tc := ⟨.hbm, 131, rfl⟩
abbrev main_v93 : Ref sig .tc := ⟨.hbm, 132, rfl⟩
abbrev main_v94 : Ref sig .tc := ⟨.hbm, 133, rfl⟩
abbrev main_cst_13 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_14 : Ref sig .tc := ⟨.hbm, 151, rfl⟩
abbrev main_call4_v0 : Ref sig .tc := ⟨.hbm, 152, rfl⟩
abbrev main_call4_c : Ref sig .tc := ⟨.hbm, 153, rfl⟩
abbrev main_call4_v1 : Ref sig .tc := ⟨.hbm, 154, rfl⟩
abbrev main_call4_c_0 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_c_1 : Ref sig .tc := ⟨.hbm, 159, rfl⟩
abbrev main_call4_v5 : Ref sig .tc := ⟨.hbm, 160, rfl⟩
abbrev main_call4_v6 : Ref sig .tc := ⟨.hbm, 161, rfl⟩
abbrev main_call4_c_2 : Ref sig .tc := ⟨.hbm, 162, rfl⟩
abbrev main_call4_v7 : Ref sig .tc := ⟨.hbm, 163, rfl⟩
abbrev main_call4_v8 : Ref sig .tc := ⟨.hbm, 164, rfl⟩
abbrev main_call4_c_3 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_v12 : Ref sig .tc := ⟨.hbm, 169, rfl⟩
abbrev main_call4_v13 : Ref sig .tc := ⟨.hbm, 170, rfl⟩
abbrev main_call4_v14 : Ref sig .tc := ⟨.hbm, 171, rfl⟩
abbrev main_v111 : Ref sig .tc := ⟨.hbm, 172, rfl⟩
abbrev main_c_15 : Ref sig .tc := ⟨.hbm, 173, rfl⟩
abbrev main_v112 : Ref sig .tc := ⟨.hbm, 174, rfl⟩
abbrev main_v113 : Ref sig .tc := ⟨.hbm, 175, rfl⟩
abbrev main_cst_16 : Ref sig .tc := ⟨.hbm, 176, rfl⟩
abbrev main_call5_v0 : Ref sig .tc := ⟨.hbm, 177, rfl⟩
abbrev main_v114 : Ref sig .tc := ⟨.hbm, 178, rfl⟩
abbrev main_v115 : Ref sig .tc := ⟨.hbm, 179, rfl⟩
abbrev main_cst_17 : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_v116 : Ref sig .tc := ⟨.hbm, 184, rfl⟩
abbrev main_cst_18 : Ref sig .tc := ⟨.hbm, 185, rfl⟩
abbrev main_call7_v0 : Ref sig .tc := ⟨.hbm, 186, rfl⟩
abbrev main_v117 : Ref sig .tc := ⟨.hbm, 187, rfl⟩
abbrev main_cst_19 : Ref sig .tc := ⟨.hbm, 188, rfl⟩
abbrev main_call8_v0 : Ref sig .tc := ⟨.hbm, 189, rfl⟩
abbrev main_call8_v1 : Ref sig .tc := ⟨.hbm, 190, rfl⟩
abbrev main_call8_v2 : Ref sig .tc := ⟨.hbm, 191, rfl⟩
abbrev main_v118 : Ref sig .tc := ⟨.hbm, 192, rfl⟩
abbrev main_cst_20 : Ref sig .tc := ⟨.hbm, 193, rfl⟩
abbrev main_call9_v0 : Ref sig .tc := ⟨.hbm, 194, rfl⟩
abbrev main_v119 : Ref sig .tc := ⟨.hbm, 195, rfl⟩
abbrev main_v120 : Ref sig .tc := ⟨.hbm, 196, rfl⟩
abbrev main_c_21 : Ref sig .tc := ⟨.hbm, 197, rfl⟩
abbrev main_call10_v0 : Ref sig .tc := ⟨.hbm, 198, rfl⟩
abbrev main_v121 : Ref sig .tc := ⟨.hbm, 199, rfl⟩
abbrev main_cst_22 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_c_23 : Ref sig .tc := ⟨.hbm, 204, rfl⟩
abbrev main_call11_v0 : Ref sig .tc := ⟨.hbm, 205, rfl⟩
abbrev main_v125 : Ref sig .tc := ⟨.hbm, 206, rfl⟩
abbrev main_v126 : Ref sig .tc := ⟨.hbm, 207, rfl⟩
abbrev main_cst_24 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138_0 : Ref sig .tc := ⟨.hbm, 220, rfl⟩
abbrev main_v138_1 : Ref sig .tc := ⟨.hbm, 221, rfl⟩
abbrev main_v138_2 : Ref sig .tc := ⟨.hbm, 222, rfl⟩
abbrev main_v138_3 : Ref sig .tc := ⟨.hbm, 223, rfl⟩
abbrev main_v138_4 : Ref sig .tc := ⟨.hbm, 224, rfl⟩
abbrev main_v138_5 : Ref sig .tc := ⟨.hbm, 225, rfl⟩
abbrev main_v138_6 : Ref sig .tc := ⟨.hbm, 226, rfl⟩
abbrev main_v138_7 : Ref sig .tc := ⟨.hbm, 227, rfl⟩
abbrev main_v138_8 : Ref sig .tc := ⟨.hbm, 228, rfl⟩
abbrev main_v138_9 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg28_1 : Ref sig .tc := ⟨.vmem, 46, rfl⟩
abbrev cc0_stg29_0 : Ref sig .tc := ⟨.vmem, 47, rfl⟩
abbrev cc0_stg30_0 : Ref sig .tc := ⟨.vmem, 48, rfl⟩
abbrev cc0_stg31_0 : Ref sig .tc := ⟨.vmem, 49, rfl⟩
abbrev cc0_stg32_0 : Ref sig .tc := ⟨.vmem, 50, rfl⟩
abbrev cc0_stg33_0 : Ref sig .tc := ⟨.vmem, 51, rfl⟩
abbrev cc0_stg34_0 : Ref sig .tc := ⟨.vmem, 52, rfl⟩
abbrev cc0_stg35_0 : Ref sig .tc := ⟨.vmem, 53, rfl⟩
abbrev cc0_stg36_0 : Ref sig .tc := ⟨.vmem, 54, rfl⟩
abbrev cc0_stg37_0 : Ref sig .tc := ⟨.vmem, 55, rfl⟩
abbrev cc0_scratch0 : Ref sig .tc := ⟨.vmem, 56, rfl⟩
abbrev cc0_scratch1 : Ref sig .tc := ⟨.vmem, 57, rfl⟩
abbrev cc0_scratch2 : Ref sig .tc := ⟨.vmem, 58, rfl⟩
abbrev cc0_scratch3 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42
abbrev cc0_sem27_0 : DmaSem sig := 43
abbrev cc0_sem27_1 : DmaSem sig := 44
abbrev cc0_sem28_0 : DmaSem sig := 45
abbrev cc0_sem28_1 : DmaSem sig := 46
abbrev cc0_sem29_0 : DmaSem sig := 47
abbrev cc0_sem30_0 : DmaSem sig := 48
abbrev cc0_sem31_0 : DmaSem sig := 49
abbrev cc0_sem32_0 : DmaSem sig := 50
abbrev cc0_sem33_0 : DmaSem sig := 51
abbrev cc0_sem34_0 : DmaSem sig := 52
abbrev cc0_sem35_0 : DmaSem sig := 53
abbrev cc0_sem36_0 : DmaSem sig := 54
abbrev cc0_sem37_0 : DmaSem sig := 55

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c17_i32 : BitVec 32 := 17#32
  let v5 : BitVec 1 := Scalar.cmpi .slt arg0 c17_i32
  let c2_i32 : BitVec 32 := 2#32
  let v0 : BitVec 32 := Scalar.remsi arg0 c2_i32
  let c0_i32 : BitVec 32 := 0#32
  let v1 : BitVec 1 := Scalar.cmpi .eq v0 c0_i32
  let v6 : BitVec 1 := Scalar.andi v5 v1
  let v7 : BitVec 32 := Scalar.extui v6
  let c0_i32_2 : BitVec 32 := 0#32
  let v8 : BitVec 1 := Scalar.cmpi .ne v7 c0_i32_2
  v8

def k0_cond3 (i : grid0.Coords) : BitVec 1 :=
  let arg0 : BitVec 32 := BitVec.ofNat 32 (i 0).val
  let c17_i32_3 : BitVec 32 := 17#32
  let v9 : BitVec 1 := Scalar.cmpi .slt arg0 c17_i32_3
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v10 : BitVec 1 := Scalar.xori v1 v_true
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg0 : BitVec 32 := BitVec.ofNat 32 (i 0).val
  let c17_i32_5 : BitVec 32 := 17#32
  let v14 : BitVec 1 := Scalar.cmpi .eq arg0 c17_i32_5
  let v15 : BitVec 32 := Scalar.extui v14
  let c0_i32_6 : BitVec 32 := 0#32
  let v16 : BitVec 1 := Scalar.cmpi .ne v15 c0_i32_6
  v16

def k0_cond5 (i : grid0.Coords) : BitVec 1 :=
  let arg0 : BitVec 32 := BitVec.ofNat 32 (i 0).val
  let c18_i32 : BitVec 32 := 18#32
  let v17 : BitVec 1 := Scalar.cmpi .eq arg0 c18_i32
  let v18 : BitVec 32 := Scalar.extui v17
  let c0_i32_7 : BitVec 32 := 0#32
  let v19 : BitVec 1 := Scalar.cmpi .ne v18 c0_i32_7
  v19

def k0_cond1 (i : grid0.Coords) : BitVec 1 :=
  let arg0 : BitVec 32 := BitVec.ofNat 32 (i 0).val
  let c0_i32_0 : BitVec 32 := 0#32
  let v2 : BitVec 1 := Scalar.cmpi .eq arg0 c0_i32_0
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c16_i32 : BitVec 32 := 16#32
  let v1 : BitVec 32 := Scalar.maxsi c0_i32 v0
  let v2 : BitVec 32 := Scalar.minsi c16_i32 v1
  let c1_i32_0 : BitVec 32 := 1#32
  let v3 : BitVec 32 := Scalar.subi v2 c1_i32_0
  let c0_i32_1 : BitVec 32 := 0#32
  let v4 : BitVec 32 := Scalar.maxsi v3 c0_i32_1
  let c0_i32_2 : BitVec 32 := 0#32
  let c0_i32_3 : BitVec 32 := 0#32
  ![v4.toNat, c0_i32_2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c16_i32 : BitVec 32 := 16#32
  let v1 : BitVec 32 := Scalar.maxsi c0_i32 v0
  let v2 : BitVec 32 := Scalar.minsi c16_i32 v1
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c16_i32 : BitVec 32 := 16#32
  let v0 : BitVec 32 := Scalar.minsi arg0 c16_i32
  let c2_i32 : BitVec 32 := 2#32
  let c0_i32 : BitVec 32 := 0#32
  ![v0.toNat, c2_i32.toNat]

def cc0_transform_18 (i : grid0.Coords) : Fin 2 → Nat :=
  let arg0 : BitVec 32 := BitVec.ofNat 32 (i 0).val
  let c16_i32 : BitVec 32 := 16#32
  let v0 : BitVec 32 := Scalar.minsi arg0 c16_i32
  let c3_i32 : BitVec 32 := 3#32
  let c0_i32 : BitVec 32 := 0#32
  ![v0.toNat, c3_i32.toNat]

def cc0_transform_19 (i : grid0.Coords) : Fin 3 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_20 (i : grid0.Coords) : Fin 3 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  let c0_i32_1 : BitVec 32 := 0#32
  ![c0_i32.toNat, c0_i32_0.toNat, v0.toNat]

def cc0_transform_21 (i : grid0.Coords) : Fin 3 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  let c0_i32_1 : BitVec 32 := 0#32
  ![c0_i32.toNat, c0_i32_0.toNat, v0.toNat]

def cc0_transform_22 (i : grid0.Coords) : Fin 2 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_23 (i : grid0.Coords) : Fin 2 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_24 (i : grid0.Coords) : Fin 2 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_25 (i : grid0.Coords) : Fin 2 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.subi v0 c1_i32
  let c16_i32_0 : BitVec 32 := 16#32
  let v2 : BitVec 32 := Scalar.muli v1 c16_i32_0
  let c1_i32_1 : BitVec 32 := 1#32
  let v3 : BitVec 32 := Scalar.subi v2 c1_i32_1
  let c0_i32 : BitVec 32 := 0#32
  let v4 : BitVec 32 := Scalar.maxsi v3 c0_i32
  let c0_i32_2 : BitVec 32 := 0#32
  let c0_i32_3 : BitVec 32 := 0#32
  ![v4.toNat, c0_i32_2.toNat]

def cc0_transform_26 (i : grid0.Coords) : Fin 2 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.maxsi v0 c1_i32
  let c16_i32_0 : BitVec 32 := 16#32
  let v2 : BitVec 32 := Scalar.muli v1 c16_i32_0
  let c255_i32 : BitVec 32 := 255#32
  let v3 : BitVec 32 := Scalar.minsi v2 c255_i32
  let c0_i32 : BitVec 32 := 0#32
  let c0_i32_1 : BitVec 32 := 0#32
  ![v3.toNat, c0_i32.toNat]

def cc0_transform_27 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c16_i32 : BitVec 32 := 16#32
  let v1 : BitVec 32 := Scalar.maxsi c0_i32 v0
  let v2 : BitVec 32 := Scalar.minsi c16_i32 v1
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

def cc0_transform_28 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c16_i32 : BitVec 32 := 16#32
  let v1 : BitVec 32 := Scalar.maxsi c0_i32 v0
  let v2 : BitVec 32 := Scalar.minsi c16_i32 v1
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1984x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S16x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S16x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 1 → Memref sig .tc .vmem S1984x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1024x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1024x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S8x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]
-- ==== ProjIdeal.lean ====
variable {F : FTy → Type} [FloatOps F] [Named F]
def κ : String → Option EReal := fun
  | "inv192" => some ((192⁻¹ : ℝ) : EReal)
  | _ => none
-- ==== ProjReferenceIdeal.lean ====
abbrev S1x4096x1024 : Shape := ⟨3, ![1, 4096, 1024]⟩
abbrev S1x256x1024 : Shape := ⟨3, ![1, 256, 1024]⟩
abbrev S3072 : Shape := ⟨1, ![3072]⟩
abbrev S1024 : Shape := ⟨1, ![1024]⟩
abbrev S1024x1984 : Shape := ⟨2, ![1024, 1984]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x1024 : Shape := ⟨2, ![4096, 1024]⟩
abbrev S1x1024 : Shape := ⟨2, ![1, 1024]⟩
abbrev S4096x1984 : Shape := ⟨2, ![4096, 1984]⟩
abbrev S256x1024 : Shape := ⟨2, ![256, 1024]⟩
abbrev S256x1 : Shape := ⟨2, ![256, 1]⟩
abbrev S256x1984 : Shape := ⟨2, ![256, 1984]⟩
abbrev S4096x256 : Shape := ⟨2, ![4096, 256]⟩
abbrev S1x256 : Shape := ⟨2, ![1, 256]⟩
abbrev S4096x768 : Shape := ⟨2, ![4096, 768]⟩
abbrev S4096x4x192 : Shape := ⟨3, ![4096, 4, 192]⟩
abbrev S4096x4 : Shape := ⟨2, ![4096, 4]⟩
abbrev S4096x4x1 : Shape := ⟨3, ![4096, 4, 1]⟩
abbrev S1x1x192 : Shape := ⟨3, ![1, 1, 192]⟩
abbrev S4096x4x128 : Shape := ⟨3, ![4096, 4, 128]⟩
abbrev S4096x4x64 : Shape := ⟨3, ![4096, 4, 64]⟩
abbrev S4096x4x32 : Shape := ⟨3, ![4096, 4, 32]⟩
abbrev S4096x4x16 : Shape := ⟨3, ![4096, 4, 16]⟩
abbrev S4096x1x64 : Shape := ⟨3, ![4096, 1, 64]⟩
abbrev S4096x128 : Shape := ⟨2, ![4096, 128]⟩
abbrev S1x128 : Shape := ⟨2, ![1, 128]⟩
abbrev S4096x4x256 : Shape := ⟨3, ![4096, 4, 256]⟩
abbrev S256x128 : Shape := ⟨2, ![256, 128]⟩
abbrev S256x4x256 : Shape := ⟨3, ![256, 4, 256]⟩
abbrev S256x64 : Shape := ⟨2, ![256, 64]⟩
abbrev S256x1x64 : Shape := ⟨3, ![256, 1, 64]⟩
abbrev S256x4x64 : Shape := ⟨3, ![256, 4, 64]⟩
abbrev S256x4x128 : Shape := ⟨3, ![256, 4, 128]⟩
abbrev S256x4x192 : Shape := ⟨3, ![256, 4, 192]⟩
abbrev S256x4 : Shape := ⟨2, ![256, 4]⟩
abbrev S256x4x1 : Shape := ⟨3, ![256, 4, 1]⟩
abbrev S4x4096x192 : Shape := ⟨3, ![4, 4096, 192]⟩
abbrev S4352x4x192 : Shape := ⟨3, ![4352, 4, 192]⟩
abbrev S4x4352x192 : Shape := ⟨3, ![4, 4352, 192]⟩
abbrev S1x192 : Shape := ⟨2, ![1, 192]⟩

abbrev nBuf : Space → Nat
  | .hbm => 351
  | .vmem => 0
  | .smem => 0
  | _ => 0

abbrev hbmTy0_0 (i : Nat) : BufTy := match i % 128 with
  | 0 => ⟨S1x4096x1024, .f32⟩
  | 1 => ⟨S1x256x1024, .f32⟩
  | 2 => ⟨S3072, .f32⟩
  | 3 => ⟨S3072, .f32⟩
  | 4 => ⟨S3072, .f32⟩
  | 5 => ⟨S1024, .f32⟩
  | 6 => ⟨S1024x1984, .f32⟩
  | 7 => ⟨S256, .f32⟩
  | 8 => ⟨S256x768, .f32⟩
  | 9 => ⟨S128, .f32⟩
  | 10 => ⟨S128x1024, .f32⟩
  | 11 => ⟨S192, .f32⟩
  | 12 => ⟨S192, .f32⟩
  | 13 => ⟨S1x4x4096x192, .f32⟩
  | 14 => ⟨S1x4x4352x192, .f32⟩
  | 15 => ⟨S1x4x4352x128, .f32⟩
  | 16 => ⟨S1x4096x512, .f32⟩
  | 17 => ⟨S1x4096x512, .f32⟩
  | 18 => ⟨S1x4096x512, .f32⟩
  | 19 => ⟨S1x4096x1024, .f32⟩
  | 20 => ⟨S64, .f32⟩
  | 21 => ⟨S64x64, .f32⟩
  | 22 => ⟨S4096, .f32⟩
  | 23 => ⟨S64, .f32⟩
  | 24 => ⟨S1x64, .f32⟩
  | 25 => ⟨S64x64, .f32⟩
  | 26 => ⟨S4096, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x1, .f32⟩
  | 41 => ⟨S1x16, .f32⟩
  | 42 => ⟨S4096x16, .f32⟩
  | 43 => ⟨S4096x16, .f32⟩
  | 44 => ⟨S4096x16, .f32⟩
  | 45 => ⟨S4096x64, .f32⟩
  | 46 => ⟨S4096x64, .f32⟩
  | 47 => ⟨S4096x64, .f32⟩
  | 48 => ⟨S4096x1024, .f32⟩
  | 49 => ⟨S3072, .f32⟩
  | 50 => ⟨S1024, .f32⟩
  | 51 => ⟨S1024, .f32⟩
  | 52 => ⟨S1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1024, .f32⟩
  | 65 => ⟨S4096x1024, .f32⟩
  | 66 => ⟨S1x1024, .f32⟩
  | 67 => ⟨S4096x1024, .f32⟩
  | 68 => ⟨S4096x1024, .f32⟩
  | 69 => ⟨S_, .f32⟩
  | 70 => ⟨S1024, .f32⟩
  | 71 => ⟨S1024, .f32⟩
  | 72 => ⟨S1x1024, .f32⟩
  | 73 => ⟨S4096x1024, .f32⟩
  | 74 => ⟨S4096x1024, .f32⟩
  | 75 => ⟨S1x1024, .f32⟩
  | 76 => ⟨S4096x1024, .f32⟩
  | 77 => ⟨S4096x1024, .f32⟩
  | 78 => ⟨S4096x1984, .f32⟩
  | 79 => ⟨S256x1024, .f32⟩
  | 80 => ⟨S3072, .f32⟩
  | 81 => ⟨S1024, .f32⟩
  | 82 => ⟨S1024, .f32⟩
  | 83 => ⟨S1024, .f32⟩
  | 84 => ⟨S256x1024, .f32⟩
  | 85 => ⟨S_, .f32⟩
  | 86 => ⟨S256, .f32⟩
  | 87 => ⟨S256x1, .f32⟩
  | 88 => ⟨S_, .f32⟩
  | 89 => ⟨S256x1, .f32⟩
  | 90 => ⟨S256x1, .f32⟩
  | 91 => ⟨S_, .f32⟩
  | 92 => ⟨S256x1, .f32⟩
  | 93 => ⟨S256x1, .f32⟩
  | 94 => ⟨S256x1, .f32⟩
  | 95 => ⟨S256x1024, .f32⟩
  | 96 => ⟨S256x1024, .f32⟩
  | 97 => ⟨S1x1024, .f32⟩
  | 98 => ⟨S256x1024, .f32⟩
  | 99 => ⟨S256x1024, .f32⟩
  | 100 => ⟨S_, .f32⟩
  | 101 => ⟨S1024, .f32⟩
  | 102 => ⟨S1024, .f32⟩
  | 103 => ⟨S1x1024, .f32⟩
  | 104 => ⟨S256x1024, .f32⟩
  | 105 => ⟨S256x1024, .f32⟩
  | 106 => ⟨S1x1024, .f32⟩
  | 107 => ⟨S256x1024, .f32⟩
  | 108 => ⟨S256x1024, .f32⟩
  | 109 => ⟨S256x1984, .f32⟩
  | 110 => ⟨S4096x256, .f32⟩
  | 111 => ⟨S4096x256, .f32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096x1, .f32⟩
  | 120 => ⟨S4096x1, .f32⟩
  | 121 => ⟨S4096x1, .f32⟩
  | 122 => ⟨S4096x256, .f32⟩
  | 123 => ⟨S4096x256, .f32⟩
  | 124 => ⟨S1x256, .f32⟩
  | 125 => ⟨S4096x256, .f32⟩
  | 126 => ⟨S4096x256, .f32⟩
  | 127 => ⟨S4096x768, .f32⟩
  | _ => ⟨S1x4096x1024, .f32⟩

abbrev hbmTy0_1 (i : Nat) : BufTy := match i % 128 with
  | 0 => ⟨S4096x4x192, .f32⟩
  | 1 => ⟨S4096x4x192, .f32⟩
  | 2 => ⟨S_, .f32⟩
  | 3 => ⟨S4096x4, .f32⟩
  | 4 => ⟨S4096x4x1, .f32⟩
  | 5 => ⟨S_, .f32⟩
  | 6 => ⟨S4096x4x1, .f32⟩
  | 7 => ⟨S4096x4x1, .f32⟩
  | 8 => ⟨S_, .f32⟩
  | 9 => ⟨S4096x4x1, .f32⟩
  | 10 => ⟨S4096x4x1, .f32⟩
  | 11 => ⟨S4096x4x1, .f32⟩
  | 12 => ⟨S4096x4x192, .f32⟩
  | 13 => ⟨S4096x4x192, .f32⟩
  | 14 => ⟨S1x1x192, .f32⟩
  | 15 => ⟨S4096x4x192, .f32⟩
  | 16 => ⟨S4096x4x192, .f32⟩
  | 17 => ⟨S4096x4x128, .f32⟩
  | 18 => ⟨S4096x4x64, .f32⟩
  | 19 => ⟨S4096x4x32, .f32⟩
  | 20 => ⟨S4096x4x32, .f32⟩
  | 21 => ⟨S4096x4x16, .f32⟩
  | 22 => ⟨S4096x4x16, .f32⟩
  | 23 => ⟨S4096x4x16, .f32⟩
  | 24 => ⟨S4096x4x32, .f32⟩
  | 25 => ⟨S4096x4x16, .f32⟩
  | 26 => ⟨S4096x4x16, .f32⟩
  | 27 => ⟨S4096x4x16, .f32⟩
  | 28 => ⟨S4096x4x32, .f32⟩
  | 29 => ⟨S4096x4x64, .f32⟩
  | 30 => ⟨S4096x1x64, .f32⟩
  | 31 => ⟨S4096x4x64, .f32⟩
  | 32 => ⟨S4096x4x64, .f32⟩
  | 33 => ⟨S4096x1x64, .f32⟩
  | 34 => ⟨S4096x4x64, .f32⟩
  | 35 => ⟨S4096x4x64, .f32⟩
  | 36 => ⟨S4096x4x64, .f32⟩
  | 37 => ⟨S4096x4x192, .f32⟩
  | 38 => ⟨S4096x128, .f32⟩
  | 39 => ⟨S4096x128, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x128, .f32⟩
  | 51 => ⟨S4096x128, .f32⟩
  | 52 => ⟨S1x128, .f32⟩
  | 53 => ⟨S4096x128, .f32⟩
  | 54 => ⟨S4096x128, .f32⟩
  | 55 => ⟨S4096x1024, .f32⟩
  | 56 => ⟨S4096x4x256, .f32⟩
  | 57 => ⟨S4096x64, .f32⟩
  | 58 => ⟨S4096x1x64, .f32⟩
  | 59 => ⟨S4096x4x64, .f32⟩
  | 60 => ⟨S4096x4x128, .f32⟩
  | 61 => ⟨S4096x4x192, .f32⟩
  | 62 => ⟨S4096x4x192, .f32⟩
  | 63 => ⟨S_, .f32⟩
  | 64 => ⟨S4096x4, .f32⟩
  | 65 => ⟨S4096x4x1, .f32⟩
  | 66 => ⟨S_, .f32⟩
  | 67 => ⟨S4096x4x1, .f32⟩
  | 68 => ⟨S4096x4x1, .f32⟩
  | 69 => ⟨S_, .f32⟩
  | 70 => ⟨S4096x4x1, .f32⟩
  | 71 => ⟨S4096x4x1, .f32⟩
  | 72 => ⟨S4096x4x1, .f32⟩
  | 73 => ⟨S4096x4x192, .f32⟩
  | 74 => ⟨S4096x4x192, .f32⟩
  | 75 => ⟨S1x1x192, .f32⟩
  | 76 => ⟨S4096x4x192, .f32⟩
  | 77 => ⟨S4096x4x192, .f32⟩
  | 78 => ⟨S4096x4x128, .f32⟩
  | 79 => ⟨S4096x4x64, .f32⟩
  | 80 => ⟨S4096x4x32, .f32⟩
  | 81 => ⟨S4096x4x32, .f32⟩
  | 82 => ⟨S4096x4x16, .f32⟩
  | 83 => ⟨S4096x4x16, .f32⟩
  | 84 => ⟨S4096x4x16, .f32⟩
  | 85 => ⟨S4096x4x32, .f32⟩
  | 86 => ⟨S4096x4x16, .f32⟩
  | 87 => ⟨S4096x4x16, .f32⟩
  | 88 => ⟨S4096x4x16, .f32⟩
  | 89 => ⟨S4096x4x32, .f32⟩
  | 90 => ⟨S4096x4x64, .f32⟩
  | 91 => ⟨S4096x1x64, .f32⟩
  | 92 => ⟨S4096x4x64, .f32⟩
  | 93 => ⟨S4096x4x64, .f32⟩
  | 94 => ⟨S4096x1x64, .f32⟩
  | 95 => ⟨S4096x4x64, .f32⟩
  | 96 => ⟨S4096x4x64, .f32⟩
  | 97 => ⟨S4096x4x64, .f32⟩
  | 98 => ⟨S4096x4x192, .f32⟩
  | 99 => ⟨S4096x4x128, .f32⟩
  | 100 => ⟨S256x128, .f32⟩
  | 101 => ⟨S256x128, .f32⟩
  | 102 => ⟨S_, .f32⟩
  | 103 => ⟨S256, .f32⟩
  | 104 => ⟨S256x1, .f32⟩
  | 105 => ⟨S_, .f32⟩
  | 106 => ⟨S256x1, .f32⟩
  | 107 => ⟨S256x1, .f32⟩
  | 108 => ⟨S_, .f32⟩
  | 109 => ⟨S256x1, .f32⟩
  | 110 => ⟨S256x1, .f32⟩
  | 111 => ⟨S256x1, .f32⟩
  | 112 => ⟨S256x128, .f32⟩
  | 113 => ⟨S256x128, .f32⟩
  | 114 => ⟨S1x128, .f32⟩
  | 115 => ⟨S256x128, .f32⟩
  | 116 => ⟨S256x128, .f32⟩
  | 117 => ⟨S256x1024, .f32⟩
  | 118 => ⟨S256x4x256, .f32⟩
  | 119 => ⟨S256x64, .f32⟩
  | 120 => ⟨S256x1x64, .f32⟩
  | 121 => ⟨S256x4x64, .f32⟩
  | 122 => ⟨S256x4x128, .f32⟩
  | 123 => ⟨S256x4x192, .f32⟩
  | 124 => ⟨S256x4x192, .f32⟩
  | 125 => ⟨S_, .f32⟩
  | 126 => ⟨S256x4, .f32⟩
  | 127 => ⟨S256x4x1, .f32⟩
  | _ => ⟨S1x4096x1024, .f32⟩

abbrev hbmTy0_2 (i : Nat) : BufTy := match i % 128 with
  | 0 => ⟨S_, .f32⟩
  | 1 => ⟨S256x4x1, .f32⟩
  | 2 => ⟨S256x4x1, .f32⟩
  | 3 => ⟨S_, .f32⟩
  | 4 => ⟨S256x4x1, .f32⟩
  | 5 => ⟨S256x4x1, .f32⟩
  | 6 => ⟨S256x4x1, .f32⟩
  | 7 => ⟨S256x4x192, .f32⟩
  | 8 => ⟨S256x4x192, .f32⟩
  | 9 => ⟨S1x1x192, .f32⟩
  | 10 => ⟨S256x4x192, .f32⟩
  | 11 => ⟨S256x4x192, .f32⟩
  | 12 => ⟨S256x4x128, .f32⟩
  | 13 => ⟨S4x4096x192, .f32⟩
  | 14 => ⟨S4352x4x192, .f32⟩
  | 15 => ⟨S4x4352x192, .f32⟩
  | 16 => ⟨S4x4096x192, .f32⟩
  | 17 => ⟨S4x4352x192, .f32⟩
  | 18 => ⟨S4352x4x192, .f32⟩
  | 19 => ⟨S256x4x192, .f32⟩
  | 20 => ⟨S4096x4x192, .f32⟩
  | 21 => ⟨S4096x4x192, .f32⟩
  | 22 => ⟨S256x4x192, .f32⟩
  | 23 => ⟨S_, .f32⟩
  | 24 => ⟨S192, .f32⟩
  | 25 => ⟨S1x1x192, .f32⟩
  | 26 => ⟨S_, .f32⟩
  | 27 => ⟨S192, .f32⟩
  | 28 => ⟨S4096x4x128, .f32⟩
  | 29 => ⟨S4096x4x64, .f32⟩
  | 30 => ⟨S4096x4x64, .f32⟩
  | 31 => ⟨S4096x4x64, .f32⟩
  | 32 => ⟨S4096x4x64, .f32⟩
  | 33 => ⟨S4096x4x64, .f32⟩
  | 34 => ⟨S4096x4x32, .f32⟩
  | 35 => ⟨S4096x4x32, .f32⟩
  | 36 => ⟨S4096x4x16, .f32⟩
  | 37 => ⟨S4096x4x16, .f32⟩
  | 38 => ⟨S4096x4x16, .f32⟩
  | 39 => ⟨S4096x4x32, .f32⟩
  | 40 => ⟨S4096x4x16, .f32⟩
  | 41 => ⟨S4096x4x16, .f32⟩
  | 42 => ⟨S4096x4x16, .f32⟩
  | 43 => ⟨S4096x4x32, .f32⟩
  | 44 => ⟨S4096x4x64, .f32⟩
  | 45 => ⟨S4096x4x64, .f32⟩
  | 46 => ⟨S_, .f32⟩
  | 47 => ⟨S4096x4x192, .f32⟩
  | 48 => ⟨S_, .f32⟩
  | 49 => ⟨S4096x4x192, .f32⟩
  | 50 => ⟨S4096x4x192, .f32⟩
  | 51 => ⟨S4096x4x192, .f32⟩
  | 52 => ⟨S_, .f32⟩
  | 53 => ⟨S192, .f32⟩
  | 54 => ⟨S1x1x192, .f32⟩
  | 55 => ⟨S_, .f32⟩
  | 56 => ⟨S192, .f32⟩
  | 57 => ⟨S192, .f32⟩
  | 58 => ⟨S4096x4x128, .f32⟩
  | 59 => ⟨S4096x4x64, .f32⟩
  | 60 => ⟨S4096x4x64, .f32⟩
  | 61 => ⟨S4096x4x64, .f32⟩
  | 62 => ⟨S4096x4x64, .f32⟩
  | 63 => ⟨S4096x4x64, .f32⟩
  | 64 => ⟨S4096x4x32, .f32⟩
  | 65 => ⟨S4096x4x32, .f32⟩
  | 66 => ⟨S4096x4x16, .f32⟩
  | 67 => ⟨S4096x4x16, .f32⟩
  | 68 => ⟨S4096x4x16, .f32⟩
  | 69 => ⟨S4096x4x32, .f32⟩
  | 70 => ⟨S4096x4x16, .f32⟩
  | 71 => ⟨S4096x4x16, .f32⟩
  | 72 => ⟨S4096x4x16, .f32⟩
  | 73 => ⟨S4096x4x32, .f32⟩
  | 74 => ⟨S4096x4x64, .f32⟩
  | 75 => ⟨S4096x4x64, .f32⟩
  | 76 => ⟨S_, .f32⟩
  | 77 => ⟨S4096x4x192, .f32⟩
  | 78 => ⟨S_, .f32⟩
  | 79 => ⟨S4096x4x192, .f32⟩
  | 80 => ⟨S4096x4x192, .f32⟩
  | 81 => ⟨S4096x4x192, .f32⟩
  | 82 => ⟨S_, .f32⟩
  | 83 => ⟨S192, .f32⟩
  | 84 => ⟨S1x1x192, .f32⟩
  | 85 => ⟨S_, .f32⟩
  | 86 => ⟨S192, .f32⟩
  | 87 => ⟨S1x192, .f32⟩
  | 88 => ⟨S_, .i32⟩
  | 89 => ⟨S_, .f32⟩
  | 90 => ⟨S1x256, .f32⟩
  | 91 => ⟨S1x192, .f32⟩
  | 92 => ⟨S_, .i32⟩
  | 93 => ⟨S_, .f32⟩
  | 94 => ⟨S1x256, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_8 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_9 : Ref sig .tc := ⟨.hbm, 112, rfl⟩
abbrev main_v82 : Ref sig .tc := ⟨.hbm, 113, rfl⟩
abbrev main_v83 : Ref sig .tc := ⟨.hbm, 114, rfl⟩
abbrev main_cst_10 : Ref sig .tc := ⟨.hbm, 115, rfl⟩
abbrev main_v84 : Ref sig .tc := ⟨.hbm, 116, rfl⟩
abbrev main_v85 : Ref sig .tc := ⟨.hbm, 117, rfl⟩
abbrev main_cst_11 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_12 : Ref sig .tc := ⟨.hbm, 130, rfl⟩
abbrev main_v97 : Ref sig .tc := ⟨.hbm, 131, rfl⟩
abbrev main_v98 : Ref sig .tc := ⟨.hbm, 132, rfl⟩
abbrev main_cst_13 : Ref sig .tc := ⟨.hbm, 133, rfl⟩
abbrev main_v99 : Ref sig .tc := ⟨.hbm, 134, rfl⟩
abbrev main_v100 : Ref sig .tc := ⟨.hbm, 135, rfl⟩
abbrev main_cst_14 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_15 : Ref sig .tc := ⟨.hbm, 168, rfl⟩
abbrev main_v132 : Ref sig .tc := ⟨.hbm, 169, rfl⟩
abbrev main_v133 : Ref sig .tc := ⟨.hbm, 170, rfl⟩
abbrev main_cst_16 : Ref sig .tc := ⟨.hbm, 171, rfl⟩
abbrev main_v134 : Ref sig .tc := ⟨.hbm, 172, rfl⟩
abbrev main_v135 : Ref sig .tc := ⟨.hbm, 173, rfl⟩
abbrev main_cst_17 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_18 : Ref sig .tc := ⟨.hbm, 191, rfl⟩
abbrev main_v152 : Ref sig .tc := ⟨.hbm, 192, rfl⟩
abbrev main_v153 : Ref sig .tc := ⟨.hbm, 193, rfl⟩
abbrev main_cst_19 : Ref sig .tc := ⟨.hbm, 194, rfl⟩
abbrev main_v154 : Ref sig .tc := ⟨.hbm, 195, rfl⟩
abbrev main_v155 : Ref sig .tc := ⟨.hbm, 196, rfl⟩
abbrev main_cst_20 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_cst_21 : Ref sig .tc := ⟨.hbm, 230, rfl⟩
abbrev main_v188 : Ref sig .tc := ⟨.hbm, 231, rfl⟩
abbrev main_v189 : Ref sig .tc := ⟨.hbm, 232, rfl⟩
abbrev main_cst_22 : Ref sig .tc := ⟨.hbm, 233, rfl⟩
abbrev main_v190 : Ref sig .tc := ⟨.hbm, 234, rfl⟩
abbrev main_v191 : Ref sig .tc := ⟨.hbm, 235, rfl⟩
abbrev main_cst_23 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_cst_24 : Ref sig .tc := ⟨.hbm, 253, rfl⟩
abbrev main_v208 : Ref sig .tc := ⟨.hbm, 254, rfl⟩
abbrev main_v209 : Ref sig .tc := ⟨.hbm, 255, rfl⟩
abbrev main_cst_25 : Ref sig .tc := ⟨.hbm, 256, rfl⟩
abbrev main_v210 : Ref sig .tc := ⟨.hbm, 257, rfl⟩
abbrev main_v211 : Ref sig .tc := ⟨.hbm, 258, rfl⟩
abbrev main_cst_26 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_cst_27 : Ref sig .tc := ⟨.hbm, 279, rfl⟩
abbrev main_v231 : Ref sig .tc := ⟨.hbm, 280, rfl⟩
abbrev main_v232 : Ref sig .tc := ⟨.hbm, 281, rfl⟩
abbrev main_cst_28 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_cst_29 : Ref sig .tc := ⟨.hbm, 302, rfl⟩
abbrev main_v252 : Ref sig .tc := ⟨.hbm, 303, rfl⟩
abbrev main_cst_30 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_cst_31 : Ref sig .tc := ⟨.hbm, 308, rfl⟩
abbrev main_v256 : Ref sig .tc := ⟨.hbm, 309, rfl⟩
abbrev main_v257 : Ref sig .tc := ⟨.hbm, 310, rfl⟩
abbrev main_cst_32 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_cst_33 : Ref sig .tc := ⟨.hbm, 332, rfl⟩
abbrev main_v278 : Ref sig .tc := ⟨.hbm, 333, rfl⟩
abbrev main_cst_34 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_cst_35 : Ref sig .tc := ⟨.hbm, 338, rfl⟩
abbrev main_v282 : Ref sig .tc := ⟨.hbm, 339, rfl⟩
abbrev main_v283 : Ref sig .tc := ⟨.hbm, 340, rfl⟩
abbrev main_cst_36 : Ref sig .tc := ⟨.hbm, 341, rfl⟩
abbrev main_v284 : Ref sig .tc := ⟨.hbm, 342, rfl⟩
abbrev main_v285 : Ref sig .tc := ⟨.hbm, 343, rfl⟩
abbrev main_c : Ref sig .tc := ⟨.hbm, 344, rfl⟩
abbrev main_call0_v0 : Ref sig .tc := ⟨.hbm, 345, rfl⟩
abbrev main_v286 : Ref sig .tc := ⟨.hbm, 346, rfl⟩
abbrev main_v287 : Ref sig .tc := ⟨.hbm, 347, rfl⟩
abbrev main_c_37 : Ref sig .tc := ⟨.hbm, 348, rfl⟩
abbrev main_call1_v0 : Ref sig .tc := ⟨.hbm, 349, rfl⟩
abbrev main_v288 : Ref sig .tc := ⟨.hbm, 350, rfl⟩

abbrev nD : Nat := 1
abbrev τ : Topo := Topo.v7x

variable {F : FTy → Type} [FloatOps F]
-- ==== Proof.Run.lean ====
/- The launch of the whole program with its final memory: every array ends at the contents the chain of stretches and calls
   gives it, and every counter is zero. -/
module

public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Run from any memory, the program ends with every array that outlives the calls at its contents in `W9`. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

end Cert.Attn
-- ==== Proof.Pre.lean ====
/- The precondition says that every entry of the arguments is a real. -/
module

public import proofs.«01_k».proof.Proof.Gen.Pre_finite
public import Idealize.ShloMosaic.PureOps.Ideal.Laws

@[expose] public section

noncomputable section

namespace Cert.Attn

open Idealize.ShloMosaic

/-- An entry whose magnitude is below infinity is a real. -/
theorem real_of_olt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- The same of an array. -/
theorem reals_of_olt {s : Shape} (x : s.Idx → EReal) (h : ∀ y, Ideal.cmp .olt (max (x y) (-x y)) (Ideal.ofBits .f32 0x7F800000#32) = 1#1) :
    ∃ r : s.Idx → ℝ, ∀ y, x y = (r y : EReal) :=
  ⟨fun y => (real_of_olt (x y) (h y)).choose, fun y => (real_of_olt (x y) (h y)).choose_spec⟩

end Cert.Attn
-- ==== Proof.Kit.lean ====
/- Reading the operations of the attention's two calls at an index, at the extended reals: a product with one contracted axis in
   the three orders the calls use, a row's sum, a row's maximum and a column spread over a row. -/
module

public import Idealize.ShloMosaic.PureOps.Ideal.Laws
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost

@[expose] public section

set_option maxRecDepth 16384

noncomputable section

namespace Cert.Attn

open Idealize.ShloMosaic Idealize.ShloMosaic.ValueIdx
open scoped BigOperators

/-- A contraction over one axis, at result index `j`, as a sum over that axis's coordinate: `L` and `R` name the operands' indices. -/
theorem contr1 {sl sr so : Shape} (D : DotDims sl sr so) (n : Nat) (hr : D.contr.rank = 1) (hs : D.contr.size ⟨0, by omega⟩ = n)
    (l : sl.Idx → EReal) (r : sr.Idx → EReal) (j : so.Idx) (L : Fin n → sl.Idx) (R : Fin n → sr.Idx)
    (hL : ∀ (x : D.contr.Idx) (k : Fin n), (x ⟨0, by omega⟩ : ℕ) = k.val → D.lhsIdx j x = L k)
    (hR : ∀ (x : D.contr.Idx) (k : Fin n), (x ⟨0, by omega⟩ : ℕ) = k.val → D.rhsIdx j x = R k) :
    ∑ x : D.contr.Idx, l (D.lhsIdx j x) * r (D.rhsIdx j x) = ∑ k : Fin n, l (L k) * r (R k) := by
  rw [← Equiv.sum_comp (contrEquiv1 D n hr hs).symm]
  refine Finset.sum_congr rfl fun k _ => ?_
  have hk := contrEquiv1_symm_val D n hr hs k
  rw [hL _ k hk, hR _ k hk]

/-- `[M, K] · [K, N]` from a zero accumulator, at `(r, c)`. -/
theorem mm_nn {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  rw [constant_apply, Ideal.ofBits_zero_f32, zero_add]

/-- `[M, K] · [N, K]ᵀ` from a zero accumulator, at `(r, c)`. -/
theorem mm_nt {M K N : ℕ} {φ₁ φ₂ : FTy} (lhs : FVec Ideal ⟨2, ![M, K]⟩ φ₁) (rhs : FVec Ideal ⟨2, ![N, K]⟩ φ₂) (r : Fin M) (c : Fin N) :
    matmul (DotDims.transposedRhs M K N) none lhs rhs (constant ⟨2, ![M, N]⟩ .f32 0x00000000#32) (ix2 r c)
      = ∑ k : Fin K, lhs (ix2 r k) * rhs (ix2 c k) := by
  refine (Ideal.matmul_transposedRhs_apply none lhs rhs _ r c).trans ?_
  rw [constant_apply, Ideal.ofBits_zero_f32, zero_add]

/-- A row's sum: the reduction of a matrix over its second axis. -/
theorem rowSum {M N : ℕ} (x : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (r : Fin M) :
    multiReduction .add [1] ⟨1, ![M]⟩ x 0x00000000#32 h hφ hacc (ix1 r) = ∑ k : Fin N, x (ix2 r k) := by
  rw [Ideal.multiReduction_add_single]
  refine Finset.sum_congr rfl fun k _ => congrArg x ?_
  funext a; match a with
  | ⟨0, _⟩ => rfl
  | ⟨1, _⟩ => rfl

theorem ofBits_negInf : Ideal.ofBits .f32 0xFF800000#32 = ⊥ := by
  simp [Ideal.ofBits, Ideal.ieee]

/-- A row's maximum: the reduction of a matrix over its second axis, from minus infinity. -/
theorem rowMax {M N : ℕ} (x : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ) (r : Fin M) :
    multiReduction .maximumf [1] ⟨1, ![M]⟩ x 0xFF800000#32 h hφ hacc (ix1 r) = Finset.univ.sup fun k : Fin N => x (ix2 r k) := by
  rw [Ideal.multiReduction_maximumf_single]
  have e : (FloatOps.ofBits FTy.f32 0xFF800000#32 : Ideal .f32) = ⊥ := ofBits_negInf
  rw [e]
  refine (congrArg (fun f => Finset.fold max ⊥ f _) (?_ : _ = fun k : Fin N => x (ix2 r k))).trans rfl
  funext k
  refine congrArg x ?_
  funext a; match a with
  | ⟨0, _⟩ => rfl
  | ⟨1, _⟩ => rfl

/-- A column spread over a row's width. -/
theorem spread {M N : ℕ} {α : Type} (x : (⟨2, ![M, 1]⟩ : Shape).Idx → α) (h : (⟨2, ![M, 1]⟩ : Shape).Broadcasts ⟨2, ![M, N]⟩)
    (r : Fin M) (c : Fin N) : broadcastTo ⟨2, ![M, N]⟩ x h (ix2 r c) = x (ix2 r 0) := by
  rw [broadcastTo_apply _ _ (h := h) (k := ix2 r 0)]
  intro a; match a with
  | ⟨0, _⟩ =>
    show r.val = if M = 1 then 0 else r.val
    split
    · have := r.isLt; omega
    · rfl
  | ⟨1, _⟩ => rfl

end Cert.Attn
-- ==== Proof.Tile.lean ====
/- What one tile of 256 query rows computes, row by row, at the extended reals: the forward call's output and log-sum, the
   backward call's probabilities, score gradients and its part of the query gradient. -/
module

public import proofs.«01_k».proof.Proof.Kit
public import proofs.«01_k».proof.Proof.Gen.KernelIdeal.Skeleton

@[expose] public section

set_option maxRecDepth 16384

noncomputable section

namespace Cert.Attn

open Idealize.ShloMosaic Idealize.ShloMosaic.ValueIdx Cert.KernelIdeal Cert.KernelIdeal.Gen
open scoped BigOperators

/-! ## One row -/

/-- The scores of a query row against every key. -/
def scoreRow {n m : ℕ} (q : Fin m → EReal) (K : Fin n → Fin m → EReal) (j : Fin n) : EReal := ∑ d, q d * K j d

/-- The largest score of a row. -/
def topOf {n : ℕ} (s : Fin n → EReal) : EReal := Finset.univ.sup s

/-- The unnormalised weight: two to the score less the largest one. -/
def weight {n : ℕ} (s : Fin n → EReal) (j : Fin n) : EReal := Ideal.exp2 (s j - topOf s)

/-- The sum of a row's weights. -/
def massOf {n : ℕ} (s : Fin n → EReal) : EReal := ∑ j, weight s j

/-- The forward call's output row. -/
def outRow {n m : ℕ} (s : Fin n → EReal) (V : Fin n → Fin m → EReal) (c : Fin m) : EReal :=
  (∑ j, weight s j * V j c) * Ideal.div 1 (massOf s)

/-- The forward call's log-sum of a row, in base two. -/
def lseOf {n : ℕ} (s : Fin n → EReal) : EReal := topOf s + Ideal.log (massOf s) * (((Real.log 2)⁻¹ : ℝ) : EReal)

/-- The backward call's probability from the saved log-sum. -/
def probRow {n : ℕ} (s : Fin n → EReal) (l : EReal) (j : Fin n) : EReal := Ideal.exp2 (s j - l)

/-- The backward call's gradient of the scaled score: `p · (do · v − Σ do · o)`. -/
def rawRow {n m : ℕ} (s : Fin n → EReal) (l : EReal) (V : Fin n → Fin m → EReal) (o g : Fin m → EReal) (j : Fin n) : EReal :=
  probRow s l j * (scoreRow g V j - ∑ c, g c * o c)

/-! ## Blocks by rows -/

/-- A block with a leading unit axis, by rows. -/
def rows3 {M N : ℕ} (x : (⟨3, ![1, M, N]⟩ : Shape).Idx → EReal) (i : Fin M) (d : Fin N) : EReal := x (ix3 0 i d)

/-- A matrix, by rows. -/
def rows2 {M N : ℕ} (x : (⟨2, ![M, N]⟩ : Shape).Idx → EReal) (i : Fin M) (d : Fin N) : EReal := x (ix2 i d)

/-! ## The forward tile -/

theorem pay8_apply (k : Vec Ideal S1x4352x256 .bf16) (q : Vec Ideal S1x256x256 .bf16) (i : Fin 256) (j : Fin 4352) :
    k0_pay8 (F := Ideal) k q (ix2 i j) = scoreRow (rows3 q i) (rows3 k) j := by
  refine (mm_nt (M := 256) (K := 256) (N := 4352) _ _ i j).trans (Finset.sum_congr rfl fun d _ => ?_)
  rw [shapeCast_1ab_ab_apply, k0_pay6, shapeCast_1ab_ab_apply]; rfl

theorem pay9_apply (k : Vec Ideal S1x4352x256 .bf16) (q : Vec Ideal S1x256x256 .bf16) (i : Fin 256) :
    k0_pay9 (F := Ideal) k q (ix2 i 0) = topOf (scoreRow (rows3 q i) (rows3 k)) := by
  rw [k0_pay9, shapeCast_a_a1_apply]
  refine (rowMax _ _ _ _ i).trans ?_
  exact congrArg _ (funext fun j => pay8_apply k q i j)

theorem pay10_apply (k : Vec Ideal S1x4352x256 .bf16) (q : Vec Ideal S1x256x256 .bf16) (i : Fin 256) (j : Fin 4352) :
    k0_pay10 (F := Ideal) k q (ix2 i j) = weight (scoreRow (rows3 q i) (rows3 k)) j := by
  show Ideal.exp2 (k0_pay8 k q (ix2 i j) - broadcastTo S256x4352 (k0_pay9 k q) _ (ix2 i j)) = _
  rw [spread, pay9_apply, pay8_apply]; rfl

theorem pay11_apply (k : Vec Ideal S1x4352x256 .bf16) (q : Vec Ideal S1x256x256 .bf16) (i : Fin 256) :
    k0_pay11 (F := Ideal) k q (ix2 i 0) = massOf (scoreRow (rows3 q i) (rows3 k)) := by
  rw [k0_pay11, shapeCast_a_a1_apply]
  refine (rowSum _ _ _ _ i).trans ?_
  exact Finset.sum_congr rfl fun j _ => pay10_apply k q i j

theorem pay12_apply (k : Vec Ideal S1x4352x256 .bf16) (v : Vec Ideal S1x4352x128 .bf16) (q : Vec Ideal S1x256x256 .bf16)
    (i : Fin 256) (c : Fin 128) :
    k0_pay12 (F := Ideal) k v q (ix2 i c) = outRow (scoreRow (rows3 q i) (rows3 k)) (rows3 v) c := by
  rw [k0_pay12, mulf_apply, spread, divf_apply, pay11_apply]
  refine congrArg₂ (· * ·) ?_ (congrArg (Ideal.div · _) ?_)
  · refine (mm_nn (M := 256) (K := 4352) (N := 128) _ _ i c).trans (Finset.sum_congr rfl fun j _ => ?_)
    rw [truncf_apply, pay10_apply, k0_pay7, shapeCast_1ab_ab_apply]; rfl
  · exact Ideal.ofBits_one_f32

theorem pay13_apply (k : Vec Ideal S1x4352x256 .bf16) (q : Vec Ideal S1x256x256 .bf16) (i : Fin 256) :
    k0_pay13 (F := Ideal) k q (ix3 0 i 0) = lseOf (scoreRow (rows3 q i) (rows3 k)) := by
  rw [k0_pay13, shapeCast_ab_1ab_apply, addf_apply, pay9_apply, mulf_apply, lseOf]
  refine congrArg (_ + ·) (congrArg₂ (· * ·) ?_ ?_)
  · exact congrArg Ideal.log (pay11_apply k q i)
  · rfl

/-! ## The backward tile -/

/-- The probabilities of a tile. -/
theorem prob_apply (k : Vec Ideal S1x4352x256 .bf16) (q : Vec Ideal S1x256x256 .bf16) (l : Vec Ideal S1x256x1 .f32)
    (i : Fin 256) (j : Fin 4352) :
    k1_pay9 (F := Ideal) k q l (ix2 i j) = probRow (scoreRow (rows3 q i) (rows3 k)) (l (ix3 0 i 0)) j := by
  rw [k1_pay9]
  show Ideal.exp2 (matmul (F := Ideal) _ none _ _ _ (ix2 i j) - broadcastTo S256x4352 _ _ (ix2 i j)) = _
  rw [spread, shapeCast_1ab_ab_apply, probRow]
  refine congrArg (fun x => Ideal.exp2 (x - _)) ?_
  refine (mm_nt (M := 256) (K := 256) (N := 4352) _ _ i j).trans (Finset.sum_congr rfl fun d _ => ?_)
  rw [shapeCast_1ab_ab_apply, k1_pay7, shapeCast_1ab_ab_apply]; rfl

/-- The gradients of the scaled scores of a tile. -/
theorem raw_apply (k : Vec Ideal S1x4352x256 .bf16) (v : Vec Ideal S1x4352x128 .bf16) (g : Vec Ideal S256x128 .f32)
    (q : Vec Ideal S1x256x256 .bf16) (l : Vec Ideal S1x256x1 .f32) (o : Vec Ideal S256x128 .f32) (i : Fin 256) (j : Fin 4352) :
    k1_pay10 (F := Ideal) k v g q l o (ix2 i j)
      = rawRow (scoreRow (rows3 q i) (rows3 k)) (l (ix3 0 i 0)) (rows3 v) (rows2 o i) (rows2 g i) j := by
  rw [k1_pay10, truncf_apply, mulf_apply, prob_apply, subf_apply, spread, shapeCast_a_a1_apply, rawRow]
  refine congrArg (_ * ·) (congrArg₂ (· - ·) ?_ ((rowSum _ _ _ _ i).trans (Finset.sum_congr rfl fun c _ => ?_)))
  · refine (mm_nt (M := 256) (K := 128) (N := 4352) _ _ i j).trans (Finset.sum_congr rfl fun c _ => ?_)
    rw [truncf_apply, shapeCast_self, k1_pay8, shapeCast_1ab_ab_apply]; rfl
  · rw [mulf_apply, shapeCast_self, shapeCast_self]; rfl

/-- A tile's query gradient. -/
theorem dq_apply (k : Vec Ideal S1x4352x256 .bf16) (v : Vec Ideal S1x4352x128 .bf16) (g : Vec Ideal S256x128 .f32)
    (q : Vec Ideal S1x256x256 .bf16) (l : Vec Ideal S1x256x1 .f32) (o : Vec Ideal S256x128 .f32) (i d : Fin 256) :
    k1_pay11 (F := Ideal) k v g q l o (ix3 0 i d)
      = ∑ j, rawRow (scoreRow (rows3 q i) (rows3 k)) (l (ix3 0 i 0)) (rows3 v) (rows2 o i) (rows2 g i) j * rows3 k j d := by
  rw [k1_pay11, shapeCast_ab_1ab_apply]
  refine (mm_nn (M := 256) (K := 4352) (N := 256) _ _ i d).trans (Finset.sum_congr rfl fun j _ => ?_)
  rw [raw_apply, k1_pay7, shapeCast_1ab_ab_apply]; rfl

end Cert.Attn
-- ==== Proof.FwdBlock.lean ====
/- What the forward call leaves in its two output blocks at one grid point: row `i` of either is the row function of query row `i`
   of the block, whichever of the eight tiles of 256 rows it lies in. -/
module

public import proofs.«01_k».proof.Proof.Tile
public import proofs.«01_k».proof.Proof.Gen.KernelIdeal.Frame
public import Idealize.ShloMosaic.Lib.Pipeline.ValueKit.Tiles

@[expose] public section

set_option maxRecDepth 16384

noncomputable section

namespace Cert.Attn

open Idealize.ShloMosaic Idealize.ShloMosaic.ValueIdx Cert.KernelIdeal Cert.KernelIdeal.Gen
open scoped BigOperators

/-- The whole of a block with a leading unit axis, loaded, by rows. -/
theorem rows3_whole {M N : ℕ} (X : (⟨3, ![1, M, N]⟩ : Shape).Idx → EReal)
    (h : ∀ a, (![0, 0, 0] : Fin 3 → ℕ) a + (![1, M, N] : Fin 3 → ℕ) a ≤ (⟨3, ![1, M, N]⟩ : Shape).size a) :
    rows3 (M := M) (N := N) (fun x => X ((Rect.unit (s := ⟨3, ![1, M, N]⟩) ![0, 0, 0] ![1, M, N] h).idx x)) = rows3 X := by
  funext i d
  refine congrArg X (funext fun a => Fin.ext ((Rect.idx_unit_val _ _ h _ a).trans ?_))
  match a with
  | ⟨0, _⟩ => rfl
  | ⟨1, _⟩ => exact Nat.zero_add _
  | ⟨2, _⟩ => exact Nat.zero_add _

/-- A run of rows of such a block, loaded: its row `i` is the block's row `o + i`. -/
theorem rows3_slab {L M N : ℕ} (o : ℕ) (X : (⟨3, ![1, L, N]⟩ : Shape).Idx → EReal)
    (h : ∀ a, (![0, o, 0] : Fin 3 → ℕ) a + (![1, M, N] : Fin 3 → ℕ) a ≤ (⟨3, ![1, L, N]⟩ : Shape).size a) (i : Fin M) (k : Fin L)
    (hk : k.val = o + i.val) :
    rows3 (M := M) (N := N) (fun x => X ((Rect.unit (s := ⟨3, ![1, L, N]⟩) ![0, o, 0] ![1, M, N] h).idx x)) i
      = rows3 X k := by
  funext d
  refine congrArg X (funext fun a => Fin.ext ((Rect.idx_unit_val _ _ h _ a).trans ?_))
  match a with
  | ⟨0, _⟩ => rfl
  | ⟨1, _⟩ => exact hk.symm
  | ⟨2, _⟩ => exact Nat.zero_add _

/-- The forward call's output block from its operand blocks. -/
def fwdO (x0 : Vec Ideal S1x2048x256 .bf16) (x1 : Vec Ideal S1x4352x256 .bf16) (x2 : Vec Ideal S1x4352x128 .bf16) : Vec Ideal S2048x128 .f32 :=
  fun y => outRow (scoreRow (rows3 x0 (y 0)) (rows3 x1)) (rows3 x2) (y 1)

/-- The forward call's block of log-sums from its operand blocks. -/
def fwdL (x0 : Vec Ideal S1x2048x256 .bf16) (x1 : Vec Ideal S1x4352x256 .bf16) : Vec Ideal S1x2048x1 .f32 :=
  fun y => lseOf (scoreRow (rows3 x0 (y 1)) (rows3 x1))

theorem piece_o (o : ℕ) (x0 : Vec Ideal S1x2048x256 .bf16) (x1 : Vec Ideal S1x4352x256 .bf16) (x2 : Vec Ideal S1x4352x128 .bf16)
    (hq : ∀ a, (![0, o, 0] : Fin 3 → ℕ) a + S1x256x256.size a ≤ S1x2048x256.size a)
    (ho : ∀ a, (![o, 0] : Fin 2 → ℕ) a + S256x128.size a ≤ S2048x128.size a) (x : S256x128.Idx) :
    k0_pay12 (F := Ideal) (View.ld x1 r0_0) (View.ld x2 r0_1) (View.ld x0 (Rect.unit (s := S1x2048x256) ![0, o, 0] S1x256x256.size hq)) x
      = fwdO x0 x1 x2 ((Rect.unit (s := S2048x128) ![o, 0] S256x128.size ho).emb x) := by
  obtain ⟨i, c, rfl⟩ : ∃ i c, x = ix2 i c := ⟨x 0, x 1, eq_ix2 x⟩
  rw [pay12_apply]
  refine congr (congrArg₂ outRow (congrArg₂ scoreRow ?_ (rows3_whole _ _)) (rows3_whole _ _)) ?_
  · exact rows3_slab o x0 hq i _ (Rect.idx_unit_val (s := S2048x128) ![o, 0] S256x128.size ho (ix2 i c) 0)
  · refine Fin.ext ((Rect.idx_unit_val (s := S2048x128) ![o, 0] S256x128.size ho (ix2 i c) 1).trans ?_).symm
    exact Nat.zero_add _

theorem piece_l (o : ℕ) (x0 : Vec Ideal S1x2048x256 .bf16) (x1 : Vec Ideal S1x4352x256 .bf16)
    (hq : ∀ a, (![0, o, 0] : Fin 3 → ℕ) a + S1x256x256.size a ≤ S1x2048x256.size a)
    (ho : ∀ a, (![0, o, 0] : Fin 3 → ℕ) a + S1x256x1.size a ≤ S1x2048x1.size a) (x : S1x256x1.Idx) :
    k0_pay13 (F := Ideal) (View.ld x1 r0_0) (View.ld x0 (Rect.unit (s := S1x2048x256) ![0, o, 0] S1x256x256.size hq)) x
      = fwdL x0 x1 ((Rect.unit (s := S1x2048x1) ![0, o, 0] S1x256x1.size ho).emb x) := by
  obtain ⟨i, rfl⟩ : ∃ i, x = ix3 (0 : Fin 1) i (0 : Fin 1) :=
    ⟨x 1, (eq_ix3 x).trans (congrArg₂ (fun a b => ix3 a (x 1) b) (Subsingleton.elim (α := Fin 1) _ _) (Subsingleton.elim (α := Fin 1) _ _))⟩
  rw [pay13_apply]
  refine congrArg lseOf (congrArg₂ scoreRow ?_ (rows3_whole _ _))
  exact rows3_slab o x0 hq i _ (Rect.idx_unit_val (s := S1x2048x1) ![0, o, 0] S1x256x1.size ho (ix3 0 i 0) 1)

theorem out0_3_eq (x0 : Vec Ideal S1x2048x256 .bf16) (x1 : Vec Ideal S1x4352x256 .bf16) (x2 : Vec Ideal S1x4352x128 .bf16) :
    out0_3 x0 x1 x2 = fwdO x0 x1 x2 := by
  funext y
  refine View.canon_apply_of_pieces (fwdO x0 x1 x2) _ ?_ y (cover0_3 _ _ _ _ _ _ _ _ y)
  simp only [List.forall_mem_cons]
  refine ⟨?_, ?_, ?_, ?_, ?_, ?_, ?_, ?_, fun p hp => absurd hp List.not_mem_nil⟩
  · exact fun x => piece_o 1792 x0 x1 x2 _ _ x
  · exact fun x => piece_o 1536 x0 x1 x2 _ _ x
  · exact fun x => piece_o 1280 x0 x1 x2 _ _ x
  · exact fun x => piece_o 1024 x0 x1 x2 _ _ x
  · exact fun x => piece_o 768 x0 x1 x2 _ _ x
  · exact fun x => piece_o 512 x0 x1 x2 _ _ x
  · exact fun x => piece_o 256 x0 x1 x2 _ _ x
  · exact fun x => piece_o 0 x0 x1 x2 _ _ x

theorem out0_4_eq (x0 : Vec Ideal S1x2048x256 .bf16) (x1 : Vec Ideal S1x4352x256 .bf16) (x2 : Vec Ideal S1x4352x128 .bf16) :
    out0_4 x0 x1 x2 = fwdL x0 x1 := by
  funext y
  refine View.canon_apply_of_pieces (fwdL x0 x1) _ ?_ y (cover0_4 _ _ _ _ _ _ _ _ y)
  simp only [List.forall_mem_cons]
  refine ⟨?_, ?_, ?_, ?_, ?_, ?_, ?_, ?_, fun p hp => absurd hp List.not_mem_nil⟩
  · exact fun x => piece_l 1792 x0 x1 _ _ x
  · exact fun x => piece_l 1536 x0 x1 _ _ x
  · exact fun x => piece_l 1280 x0 x1 _ _ x
  · exact fun x => piece_l 1024 x0 x1 _ _ x
  · exact fun x => piece_l 768 x0 x1 _ _ x
  · exact fun x => piece_l 512 x0 x1 _ _ x
  · exact fun x => piece_l 256 x0 x1 _ _ x
  · exact fun x => piece_l 0 x0 x1 _ _ x

end Cert.Attn
-- ==== Proof.FwdArrays.lean ====
/- What the forward call leaves in its two result arrays, at an index, as a function of the three operand arrays: the blocks of
   FwdBlock put together over the grid of heads and query blocks. -/
module

public import proofs.«01_k».proof.Proof.FwdBlock
public import Idealize.ShloMosaic.Lib.Pipeline.ValueKit.Geometry

@[expose] public section

set_option maxRecDepth 16384

noncomputable section

namespace Cert.Attn

open Idealize.ShloMosaic Idealize.ShloMosaic.TcCoe Idealize.ShloMosaic.ValueIdx Idealize.SL.Sem Cert.KernelIdeal Cert.KernelIdeal.Gen
open scoped BigOperators

/-- One head of an array of heads, by rows. -/
def head {H M N : ℕ} (X : (⟨3, ![H, M, N]⟩ : Shape).Idx → EReal) (h : Fin H) (i : Fin M) (d : Fin N) : EReal := X (ix3 h i d)

/-- The head a column of the concatenated output belongs to. -/
def headOf (c : Fin 512) : Fin 4 := ⟨c.val / 128, by omega⟩

/-- A column's place in its head. -/
def colOf (c : Fin 512) : Fin 128 := ⟨c.val % 128, by omega⟩

/-- A head's place in the concatenated output. -/
def colAt (h : Fin 4) (d : Fin 128) : Fin 512 := ⟨128 * h.val + d.val, by omega⟩

section
variable (Q : S4x4096x256.Idx → EReal) (K : S4x4352x256.Idx → EReal) (U : S4x4352x128.Idx → EReal)

/-- A query's scores. -/
def scores (h : Fin 4) (r : Fin 4096) : Fin 4352 → EReal := scoreRow (head Q h r) (head K h)

/-- The attention output's array. -/
def arrO : S4096x512.Idx → EReal := fun y => outRow (scores Q K (headOf (y 1)) (y 0)) (head U (headOf (y 1))) (colOf (y 1))

/-- The log-sums' array. -/
def arrL : S4x4096x1.Idx → EReal := fun y => lseOf (scores Q K (y 0) (y 1))
end

/-! ## The blocks' places -/

theorem idx0_0 : ∀ t : Fin cfg0.N, win0_0.index t = ![t.val / 2, t.val % 2, 0] := (by decide +kernel : ∀ t : Fin grid0.N, _)
theorem idx0_1 : ∀ t : Fin cfg0.N, win0_1.index t = ![t.val / 2, 0, 0] := (by decide +kernel : ∀ t : Fin grid0.N, _)
theorem idx0_2 : ∀ t : Fin cfg0.N, win0_2.index t = ![t.val / 2, 0, 0] := (by decide +kernel : ∀ t : Fin grid0.N, _)
theorem idx0_3 : ∀ t : Fin cfg0.N, win0_3.index t = ![t.val % 2, t.val / 2] := (by decide +kernel : ∀ t : Fin grid0.N, _)
theorem idx0_4 : ∀ t : Fin cfg0.N, win0_4.index t = ![t.val / 2, t.val % 2, 0] := (by decide +kernel : ∀ t : Fin grid0.N, _)

section
variable (V : (c : Dev nD) → (b : Ref sig .tc) → Buf (Elt Ideal) ((c : Thread nD τ).loc b)) (c : Dev nD)

/-- The query block's row `i` is the head's row `2048 · (t % 2) + i`. -/
theorem blkQ0 (t : Fin cfg0.N) (h : Fin 4) (hh : h.val = t.val / 2) (i : Fin 2048) (r : Fin 4096) (hr : r.val = 2048 * (t.val % 2) + i.val) :
    rows3 (M := 2048) (N := 256) (iblk0 V c 0 t) i = head (V c main_v6) h r := by
  funext d
  show iblk0 V c 0 t (ix3 0 i d) = V c main_v6 (ix3 h r d)
  blk_simp [iblk0, idx0_0]
  refine congrArg (V c main_v6) (funext fun a => Fin.ext ?_)
  match a with
  | ⟨0, _⟩ => blk_simp [idx0_0]; exact hh.symm
  | ⟨1, _⟩ => blk_simp [idx0_0]; show t.val % 2 * 2048 + i.val = r.val; omega
  | ⟨2, _⟩ => blk_simp [idx0_0]

theorem blkK0 (t : Fin cfg0.N) (h : Fin 4) (hh : h.val = t.val / 2) :
    rows3 (M := 4352) (N := 256) (iblk0 V c 1 t) = head (V c main_v9) h := by
  funext j d
  show iblk0 V c 1 t (ix3 0 j d) = V c main_v9 (ix3 h j d)
  blk_simp [iblk0, idx0_1]
  refine congrArg (V c main_v9) (funext fun a => Fin.ext ?_)
  match a with
  | ⟨0, _⟩ => blk_simp [idx0_1]; exact hh.symm
  | ⟨1, _⟩ => blk_simp [idx0_1]
  | ⟨2, _⟩ => blk_simp [idx0_1]

theorem blkV0 (t : Fin cfg0.N) (h : Fin 4) (hh : h.val = t.val / 2) :
    rows3 (M := 4352) (N := 128) (iblk0 V c 2 t) = head (V c main_v11) h := by
  funext j d
  show iblk0 V c 2 t (ix3 0 j d) = V c main_v11 (ix3 h j d)
  blk_simp [iblk0, idx0_2]
  refine congrArg (V c main_v11) (funext fun a => Fin.ext ?_)
  match a with
  | ⟨0, _⟩ => blk_simp [idx0_2]; exact hh.symm
  | ⟨1, _⟩ => blk_simp [idx0_2]
  | ⟨2, _⟩ => blk_simp [idx0_2]

/-- A block of the forward call's output is that block of the output's array. -/
theorem block_o (t : Fin cfg0.N) (y : S2048x128.Idx) (z : S4096x512.Idx) (h0 : (z 0).val = t.val % 2 * 2048 + (y 0).val)
    (h1 : (z 1).val = t.val / 2 * 128 + (y 1).val) :
    fwdO (iblk0 V c 0 t) (iblk0 V c 1 t) (iblk0 V c 2 t) y = arrO (V c main_v6) (V c main_v9) (V c main_v11) z := by
  have hy1 : (y 1).val < 128 := (y 1).isLt
  have hh : (headOf (z 1)).val = t.val / 2 := by show (z 1).val / 128 = _; omega
  have hc : colOf (z 1) = y 1 := Fin.ext (by show (z 1).val % 128 = _; omega)
  unfold fwdO arrO scores
  rw [hc, blkV0 V c t _ hh, blkK0 V c t _ hh, blkQ0 V c t _ hh (y 0) (z 0) (by omega)]

/-- A block of the forward call's log-sums is that block of their array. -/
theorem block_l (t : Fin cfg0.N) (y : S1x2048x1.Idx) (z : S4x4096x1.Idx) (h0 : (z 0).val = t.val / 2)
    (h1 : (z 1).val = t.val % 2 * 2048 + (y 1).val) :
    fwdL (iblk0 V c 0 t) (iblk0 V c 1 t) y = arrL (V c main_v6) (V c main_v9) z := by
  unfold fwdL arrL scores
  rw [blkK0 V c t _ h0, blkQ0 V c t _ h0 (y 1) (z 1) (by omega)]

/-- The output's array after the forward call. -/
theorem final_o : (dat0 V c).arrAt 3 cfg0.N = arrO (V c main_v6) (V c main_v9) (V c main_v11) := by
  refine (dat0 V c).arrAt_eq_of_covers 3 _ (by decide +kernel) fun t hf y => ?_
  blk_simp
  rw [after0_3, out0_3_eq]
  exact block_o V c t y _ (by blk_simp [idx0_3]) (by blk_simp [idx0_3])

/-- The log-sums' array after the forward call. -/
theorem final_l : (dat0 V c).arrAt 4 cfg0.N = arrL (V c main_v6) (V c main_v9) := by
  refine (dat0 V c).arrAt_eq_of_covers 4 _ (by decide +kernel) fun t hf y => ?_
  blk_simp
  rw [after0_4, out0_4_eq]
  exact block_l V c t y _ (by blk_simp [idx0_4]) (by blk_simp [idx0_4])

end

end Cert.Attn
-- ==== Proof.BwdTile.lean ====
/- What the backward call computes at one grid point from the blocks it holds there, at the extended reals: its block of the query
   gradient row by row, and what it adds to the key and value gradients' accumulators, which is a sum over the point's 1024 rows. -/
module

public import proofs.«01_k».proof.Proof.FwdBlock

@[expose] public section

set_option maxRecDepth 16384

noncomputable section

namespace Cert.Attn

open Idealize.ShloMosaic Idealize.ShloMosaic.ValueIdx Cert.KernelIdeal Cert.KernelIdeal.Gen
open scoped BigOperators

/-! ## Rows of a point's blocks -/

theorem rows2_slab {L M N : ℕ} (o : ℕ) (X : (⟨2, ![L, N]⟩ : Shape).Idx → EReal)
    (h : ∀ a, (![o, 0] : Fin 2 → ℕ) a + (![M, N] : Fin 2 → ℕ) a ≤ (⟨2, ![L, N]⟩ : Shape).size a) (i : Fin M) (k : Fin L)
    (hk : k.val = o + i.val) :
    rows2 (M := M) (N := N) (fun x => X ((Rect.unit (s := ⟨2, ![L, N]⟩) ![o, 0] ![M, N] h).idx x)) i = rows2 X k := by
  funext d
  refine congrArg X (funext fun a => Fin.ext ((Rect.idx_unit_val _ _ h _ a).trans ?_))
  match a with
  | ⟨0, _⟩ => exact hk.symm
  | ⟨1, _⟩ => exact Nat.zero_add _

section
variable (x0 : Vec Ideal S1x1024x256 .bf16) (x1 : Vec Ideal S1x4352x256 .bf16) (x2 : Vec Ideal S1x4352x128 .bf16)
  (x3 : Vec Ideal S1024x128 .f32) (x4 : Vec Ideal S1x1024x1 .f32) (x5 : Vec Ideal S1024x128 .f32)

/-- The probability of key `j` for the point's query row `i`. -/
def probAt (i : Fin 1024) (j : Fin 4352) : EReal := probRow (scoreRow (rows3 x0 i) (rows3 x1)) (x4 (ix3 0 i 0)) j

/-- The gradient of the scaled score of key `j` for the point's query row `i`. -/
def rawAt (i : Fin 1024) (j : Fin 4352) : EReal :=
  rawRow (scoreRow (rows3 x0 i) (rows3 x1)) (x4 (ix3 0 i 0)) (rows3 x2) (rows2 x3 i) (rows2 x5 i) j

/-- The point's block of the query gradient. -/
def bwdQ : Vec Ideal S1x1024x256 .f32 := fun y => ∑ j, rawAt x0 x1 x2 x3 x4 x5 (y 1) j * rows3 x1 j (y 2)

/-- What the point leaves in the key gradient's accumulator over `old`. -/
def bwdK (old : Vec Ideal S1x256x4352 .f32) : Vec Ideal S1x256x4352 .f32 :=
  fun y => old y + ∑ i : Fin 1024, rows3 x0 i (y 1) * rawAt x0 x1 x2 x3 x4 x5 i (y 2)

/-- What the point leaves in the value gradient's accumulator over `old`. -/
def bwdV (old : Vec Ideal S1x128x4352 .f32) : Vec Ideal S1x128x4352 .f32 :=
  fun y => old y + ∑ i : Fin 1024, rows2 x5 i (y 1) * probAt x0 x1 x4 i (y 2)

/-! ## One tile of the point -/

section
variable (o : ℕ) (hq : ∀ a, (![0, o, 0] : Fin 3 → ℕ) a + S1x256x256.size a ≤ S1x1024x256.size a)
  (hl : ∀ a, (![0, o, 0] : Fin 3 → ℕ) a + S1x256x1.size a ≤ S1x1024x1.size a)
  (hg : ∀ a, (![o, 0] : Fin 2 → ℕ) a + S256x128.size a ≤ S1024x128.size a)

/-- The tile's gradients of the scaled scores, as the payload that computes them of the loaded blocks. -/
abbrev rawTile : FVec Ideal S256x4352 .bf16 :=
  k1_pay10 (View.ld x1 r0_0) (View.ld x2 r0_1) (View.ld x5 (Rect.unit (s := S1024x128) ![o, 0] S256x128.size hg))
    (View.ld x0 (Rect.unit (s := S1x1024x256) ![0, o, 0] S1x256x256.size hq))
    (View.ld x4 (Rect.unit (s := S1x1024x1) ![0, o, 0] S1x256x1.size hl))
    (View.ld x3 (Rect.unit (s := S1024x128) ![o, 0] S256x128.size hg))

/-- The tile's probabilities, likewise. -/
abbrev probTile : FVec Ideal S256x4352 .f32 :=
  k1_pay9 (View.ld x1 r0_0) (View.ld x0 (Rect.unit (s := S1x1024x256) ![0, o, 0] S1x256x256.size hq))
    (View.ld x4 (Rect.unit (s := S1x1024x1) ![0, o, 0] S1x256x1.size hl))

/-- The tile's block of the query gradient, likewise. -/
abbrev dqTile : FVec Ideal S1x256x256 .f32 :=
  k1_pay11 (View.ld x1 r0_0) (View.ld x2 r0_1) (View.ld x5 (Rect.unit (s := S1024x128) ![o, 0] S256x128.size hg))
    (View.ld x0 (Rect.unit (s := S1x1024x256) ![0, o, 0] S1x256x256.size hq))
    (View.ld x4 (Rect.unit (s := S1x1024x1) ![0, o, 0] S1x256x1.size hl))
    (View.ld x3 (Rect.unit (s := S1024x128) ![o, 0] S256x128.size hg))

theorem lse_slab (i : Fin 256) (k : Fin 1024) (hk : k.val = o + i.val) :
    View.ld x4 (Rect.unit (s := S1x1024x1) ![0, o, 0] S1x256x1.size hl) (ix3 0 i 0) = x4 (ix3 0 k 0) :=
  congrFun (rows3_slab (N := 1) o x4 hl i k hk) 0

theorem rawTile_apply (i : Fin 256) (k : Fin 1024) (hk : k.val = o + i.val) (j : Fin 4352) :
    rawTile x0 x1 x2 x3 x4 x5 o hq hl hg (ix2 i j) = rawAt x0 x1 x2 x3 x4 x5 k j := by
  rw [rawTile, raw_apply, rawAt, lse_slab x4 o hl i k hk]
  refine congrFun (congr (congr (congr (congrFun (congrArg rawRow (congrArg₂ scoreRow ?_ (rows3_whole _ _))) _) (rows3_whole _ _)) ?_) ?_) j
  · exact rows3_slab o x0 hq i k hk
  · exact rows2_slab o x3 hg i k hk
  · exact rows2_slab o x5 hg i k hk

theorem probTile_apply (i : Fin 256) (k : Fin 1024) (hk : k.val = o + i.val) (j : Fin 4352) :
    probTile x0 x1 x4 o hq hl (ix2 i j) = probAt x0 x1 x4 k j := by
  rw [probTile, prob_apply, probAt, lse_slab x4 o hl i k hk]
  exact congrFun (congrFun (congrArg probRow (congrArg₂ scoreRow (rows3_slab o x0 hq i k hk) (rows3_whole _ _))) _) j

theorem dqTile_apply (x : S1x256x256.Idx) :
    dqTile x0 x1 x2 x3 x4 x5 o hq hl hg x
      = bwdQ x0 x1 x2 x3 x4 x5 ((Rect.unit (s := S1x1024x256) ![0, o, 0] S1x256x256.size hq).emb x) := by
  obtain ⟨i, d, rfl⟩ : ∃ i d, x = ix3 (0 : Fin 1) i d :=
    ⟨x 1, x 2, (eq_ix3 x).trans (congrArg (fun a => ix3 a (x 1) (x 2)) (Subsingleton.elim (α := Fin 1) _ _))⟩
  have hk := Rect.idx_unit_val (s := S1x1024x256) ![0, o, 0] S1x256x256.size hq (ix3 0 i d) 1
  have hd := Rect.idx_unit_val (s := S1x1024x256) ![0, o, 0] S1x256x256.size hq (ix3 0 i d) 2
  rw [dqTile, dq_apply, bwdQ]
  refine Finset.sum_congr rfl fun j _ => congrArg₂ (· * ·) ?_ ?_
  · exact (raw_apply _ _ _ _ _ _ i j).symm.trans (rawTile_apply x0 x1 x2 x3 x4 x5 o hq hl hg i _ hk j)
  · exact (congrFun (congrFun (rows3_whole _ _) j) d).trans
      (congrArg (rows3 x1 j) (Fin.ext (hd.trans (Nat.zero_add _)).symm))

end

/-! ## The four tiles side by side, and the products over the point's rows -/

theorem concat4 {φ : FTy} (f : Fin 4 → FVec Ideal S256x4352 φ) (G : Fin 1024 → Fin 4352 → EReal)
    (h : Shape.Concatenates [S256x4352, S256x4352, S256x4352, S256x4352] S1024x4352 0)
    (hf : ∀ (n : Fin 4) (i : Fin 256) (k : Fin 1024), k.val = 256 * n.val + i.val → ∀ j, f n (ix2 i j) = G k j) (k : Fin 1024) (j : Fin 4352) :
    concatenate S1024x4352 0 [⟨S256x4352, f 0⟩, ⟨S256x4352, f 1⟩, ⟨S256x4352, f 2⟩, ⟨S256x4352, f 3⟩] h (ix2 k j) = G k j := by
  have hk := k.isLt
  have h4 : k.val / 256 < 4 := by omega
  have hm : k.val % 256 < 256 := by omega
  refine (concatenate_ofFn_apply (t := S1024x4352) (s₁ := S256x4352) (0 : Fin 2) f h rfl 256 rfl (ix2 k j) ⟨k.val / 256, h4⟩ rfl (ix2 ⟨k.val % 256, hm⟩ j) rfl ?_).trans
    (hf _ _ k (by simp only; omega) j)
  intro b hb
  match b with
  | ⟨0, _⟩ => exact absurd rfl hb
  | ⟨1, _⟩ => rfl

/-- The product over the rows of two matrices of 1024 rows, `[1024, M]ᵀ · [1024, 4352]`, from a zero accumulator. -/
theorem mm_tn {M : ℕ} {φ₁ φ₂ : FTy} (D : DotDims ⟨2, ![1024, M]⟩ S1024x4352 ⟨2, ![M, 4352]⟩)
    (hr : D.contr.rank = 1) (hs : D.contr.size ⟨0, by omega⟩ = 1024)
    (hL : ∀ (x : D.contr.Idx) (k : Fin 1024) (r : Fin M) (c : Fin 4352), (x ⟨0, by omega⟩ : ℕ) = k.val → D.lhsIdx (ix2 r c) x = ix2 k r)
    (hR : ∀ (x : D.contr.Idx) (k : Fin 1024) (r : Fin M) (c : Fin 4352), (x ⟨0, by omega⟩ : ℕ) = k.val → D.rhsIdx (ix2 r c) x = ix2 k c)
    (lhs : FVec Ideal ⟨2, ![1024, M]⟩ φ₁) (rhs : FVec Ideal S1024x4352 φ₂) (r : Fin M) (c : Fin 4352) :
    matmul D none lhs rhs (constant ⟨2, ![M, 4352]⟩ .f32 0x00000000#32) (ix2 r c)
      = ∑ k : Fin 1024, lhs (ix2 k r) * rhs (ix2 k c) := by
  refine (Ideal.matmul_apply D none lhs rhs _ (ix2 r c)).trans ?_
  rw [constant_apply, Ideal.ofBits_zero_f32, zero_add]
  exact contr1 D 1024 hr hs lhs rhs _ (fun k => ix2 k r) (fun k => ix2 k c) (fun x k h => hL x k r c h) (fun x k h => hR x k r c h)

theorem mm_tn_q (lhs : FVec Ideal S1024x256 .bf16) (rhs : FVec Ideal S1024x4352 .bf16) (r : Fin 256) (c : Fin 4352) :
    matmul dot_S1024x256_S1024x4352_S256x4352_0_0_1_1_n_n none lhs rhs (constant S256x4352 .f32 0x00000000#32) (ix2 r c)
      = ∑ k : Fin 1024, lhs (ix2 k r) * rhs (ix2 k c) :=
  mm_tn (M := 256) dot_S1024x256_S1024x4352_S256x4352_0_0_1_1_n_n rfl rfl
    (fun x k r c h => funext fun a => Fin.ext (match a with | ⟨0, _⟩ => h | ⟨1, _⟩ => rfl))
    (fun x k r c h => funext fun a => Fin.ext (match a with | ⟨0, _⟩ => h | ⟨1, _⟩ => rfl)) lhs rhs r c

theorem mm_tn_v (lhs : FVec Ideal S1024x128 .bf16) (rhs : FVec Ideal S1024x4352 .bf16) (r : Fin 128) (c : Fin 4352) :
    matmul dot_S1024x128_S1024x4352_S128x4352_0_0_1_1_n_n none lhs rhs (constant S128x4352 .f32 0x00000000#32) (ix2 r c)
      = ∑ k : Fin 1024, lhs (ix2 k r) * rhs (ix2 k c) :=
  mm_tn (M := 128) dot_S1024x128_S1024x4352_S128x4352_0_0_1_1_n_n rfl rfl
    (fun x k r c h => funext fun a => Fin.ext (match a with | ⟨0, _⟩ => h | ⟨1, _⟩ => rfl))
    (fun x k r c h => funext fun a => Fin.ext (match a with | ⟨0, _⟩ => h | ⟨1, _⟩ => rfl)) lhs rhs r c

end

end Cert.Attn
-- ==== Proof.BwdPoint.lean ====
/- What the generated run of the backward call's body leaves in the three output blocks, case by case (a head's first point, whose
   accumulators are zeroed first, and the others, which add to what the point before left), as the block functions of BwdTile. -/
module

public import proofs.«01_k».proof.Proof.BwdTile
public import Idealize.ShloMosaic.Lib.WholeRead
public import Idealize.ShloMosaic.Lib.VecWindow

@[expose] public section

set_option maxRecDepth 16384

noncomputable section

namespace Cert.Attn

open Idealize.ShloMosaic Idealize.ShloMosaic.ValueIdx Idealize.SL.Sem Cert.KernelIdeal Cert.KernelIdeal.Gen
open scoped BigOperators

/-- A load through a rectangle of a whole buffer holding `X` is the load of `X`. -/
theorem readAt_eq_ld {sp : Space} {s : Shape} {e : EltTy} {m : Memref sig .tc sp s e} (h : m.IsWhole) (X : s.Idx → Elt Ideal e) (R : Rect s) :
    View.readAt (Elt Ideal) m.view R.toLoadRect (h.unread X) = View.ld X R :=
  funext fun x => h.readAt_unread X R.toLoadRect x

theorem zeros3 : (![0, 0, 0] : Fin 3 → ℕ) = fun _ => 0 := by
  funext a; match a with | ⟨0, _⟩ => rfl | ⟨1, _⟩ => rfl | ⟨2, _⟩ => rfl

theorem zeros2 : (![0, 0] : Fin 2 → ℕ) = fun _ => 0 := by
  funext a; match a with | ⟨0, _⟩ => rfl | ⟨1, _⟩ => rfl

section
variable (x0 : Vec Ideal S1x1024x256 .bf16) (x1 : Vec Ideal S1x4352x256 .bf16) (x2 : Vec Ideal S1x4352x128 .bf16)
  (x3 : Vec Ideal S1024x128 .f32) (x4 : Vec Ideal S1x1024x1 .f32) (x5 : Vec Ideal S1024x128 .f32)

/-- The tiles' score gradients by tile number. -/
def rawTiles (n : Fin 4) : FVec Ideal S256x4352 .bf16 :=
  match n with
  | 0 => rawTile x0 x1 x2 x3 x4 x5 0 inb_S1x1024x256_S1x256x256_0_0_0 inb_S1x1024x1_S1x256x1_0_0_0 inb_S1024x128_S256x128_0_0
  | 1 => rawTile x0 x1 x2 x3 x4 x5 256 inb_S1x1024x256_S1x256x256_0_256_0 inb_S1x1024x1_S1x256x1_0_256_0 inb_S1024x128_S256x128_256_0
  | 2 => rawTile x0 x1 x2 x3 x4 x5 512 inb_S1x1024x256_S1x256x256_0_512_0 inb_S1x1024x1_S1x256x1_0_512_0 inb_S1024x128_S256x128_512_0
  | 3 => rawTile x0 x1 x2 x3 x4 x5 768 inb_S1x1024x256_S1x256x256_0_768_0 inb_S1x1024x1_S1x256x1_0_768_0 inb_S1024x128_S256x128_768_0

/-- The tiles' probabilities by tile number, in the format the product takes. -/
def probTiles (n : Fin 4) : FVec Ideal S256x4352 .bf16 :=
  match n with
  | 0 => truncf .bf16 (probTile x0 x1 x4 0 inb_S1x1024x256_S1x256x256_0_0_0 inb_S1x1024x1_S1x256x1_0_0_0) bitsLt_bf16_f32
  | 1 => truncf .bf16 (probTile x0 x1 x4 256 inb_S1x1024x256_S1x256x256_0_256_0 inb_S1x1024x1_S1x256x1_0_256_0) bitsLt_bf16_f32
  | 2 => truncf .bf16 (probTile x0 x1 x4 512 inb_S1x1024x256_S1x256x256_0_512_0 inb_S1x1024x1_S1x256x1_0_512_0) bitsLt_bf16_f32
  | 3 => truncf .bf16 (probTile x0 x1 x4 768 inb_S1x1024x256_S1x256x256_0_768_0 inb_S1x1024x1_S1x256x1_0_768_0) bitsLt_bf16_f32

theorem rawTiles_apply (n : Fin 4) (i : Fin 256) (k : Fin 1024) (hk : k.val = 256 * n.val + i.val) (j : Fin 4352) :
    rawTiles x0 x1 x2 x3 x4 x5 n (ix2 i j) = rawAt x0 x1 x2 x3 x4 x5 k j := by
  match n with
  | 0 => exact rawTile_apply x0 x1 x2 x3 x4 x5 0 _ _ _ i k hk j
  | 1 => exact rawTile_apply x0 x1 x2 x3 x4 x5 256 _ _ _ i k hk j
  | 2 => exact rawTile_apply x0 x1 x2 x3 x4 x5 512 _ _ _ i k hk j
  | 3 => exact rawTile_apply x0 x1 x2 x3 x4 x5 768 _ _ _ i k hk j

theorem probTiles_apply (n : Fin 4) (i : Fin 256) (k : Fin 1024) (hk : k.val = 256 * n.val + i.val) (j : Fin 4352) :
    probTiles x0 x1 x4 n (ix2 i j) = probAt x0 x1 x4 k j := by
  match n with
  | 0 => exact probTile_apply x0 x1 x4 0 _ _ i k hk j
  | 1 => exact probTile_apply x0 x1 x4 256 _ _ i k hk j
  | 2 => exact probTile_apply x0 x1 x4 512 _ _ i k hk j
  | 3 => exact probTile_apply x0 x1 x4 768 _ _ i k hk j

/-- The key gradient's accumulator after the point, as the store's payload. -/
abbrev payK (old : Vec Ideal S1x256x4352 .f32) : FVec Ideal S1x256x4352 .f32 :=
  k1_pay3 (rawTiles x0 x1 x2 x3 x4 x5 0) (rawTiles x0 x1 x2 x3 x4 x5 1) (rawTiles x0 x1 x2 x3 x4 x5 2)
    (probTile x0 x1 x4 768 inb_S1x1024x256_S1x256x256_0_768_0 inb_S1x1024x1_S1x256x1_0_768_0)
    (k1_pay25 (k1_pay8 (View.ld x2 r0_1)) (View.ld x5 (Rect.unit (s := S1024x128) ![768, 0] S256x128.size inb_S1024x128_S256x128_768_0)))
    (k1_pay26 (View.ld x5 (Rect.unit (s := S1024x128) ![768, 0] S256x128.size inb_S1024x128_S256x128_768_0))
      (View.ld x3 (Rect.unit (s := S1024x128) ![768, 0] S256x128.size inb_S1024x128_S256x128_768_0)))
    old (View.ld x0 (Rect.unit (s := S1x1024x256) ![0, 0, 0] S1x1024x256.size inb_S1x1024x256_S1x1024x256_0_0_0))

/-- The value gradient's accumulator after the point, as the store's payload. -/
abbrev payV (old : Vec Ideal S1x128x4352 .f32) : FVec Ideal S1x128x4352 .f32 :=
  k1_pay4 (probTiles x0 x1 x4 0) (probTiles x0 x1 x4 1) (probTiles x0 x1 x4 2)
    (probTile x0 x1 x4 768 inb_S1x1024x256_S1x256x256_0_768_0 inb_S1x1024x1_S1x256x1_0_768_0)
    old (View.ld x5 (Rect.unit (s := S1024x128) ![0, 0] S1024x128.size inb_S1024x128_S1024x128_0_0))

theorem payK_eq (old : Vec Ideal S1x256x4352 .f32) : payK x0 x1 x2 x3 x4 x5 old = bwdK x0 x1 x2 x3 x4 x5 old := by
  funext y
  obtain ⟨d, j, rfl⟩ : ∃ d j, y = ix3 (0 : Fin 1) d j :=
    ⟨y 1, y 2, (eq_ix3 y).trans (congrArg (fun a => ix3 a (y 1) (y 2)) (Subsingleton.elim (α := Fin 1) _ _))⟩
  rw [payK, k1_pay3, shapeCast_ab_1ab_apply, addf_apply, shapeCast_1ab_ab_apply, bwdK]
  refine congrArg (_ + ·) ?_
  rw [mm_tn_q]
  refine Finset.sum_congr rfl fun k _ => congrArg₂ (· * ·) ?_ ?_
  · rw [shapeCast_1ab_ab_apply]
    exact congrFun (congrFun (rows3_whole (M := 1024) (N := 256) x0 _) k) d
  · exact concat4 (rawTiles x0 x1 x2 x3 x4 x5) (rawAt x0 x1 x2 x3 x4 x5) _ (rawTiles_apply x0 x1 x2 x3 x4 x5) k j

theorem payV_eq (old : Vec Ideal S1x128x4352 .f32) : payV x0 x1 x4 x5 old = bwdV x0 x1 x4 x5 old := by
  funext y
  obtain ⟨d, j, rfl⟩ : ∃ d j, y = ix3 (0 : Fin 1) d j :=
    ⟨y 1, y 2, (eq_ix3 y).trans (congrArg (fun a => ix3 a (y 1) (y 2)) (Subsingleton.elim (α := Fin 1) _ _))⟩
  rw [payV, k1_pay4, shapeCast_ab_1ab_apply, addf_apply, shapeCast_1ab_ab_apply, bwdV]
  refine congrArg (_ + ·) ?_
  rw [mm_tn_v]
  refine Finset.sum_congr rfl fun k _ => congrArg₂ (· * ·) ?_ ?_
  · rw [truncf_apply, shapeCast_self, View.ld_unit_zero zeros2]; rfl
  · exact concat4 (probTiles x0 x1 x4) (probAt x0 x1 x4) _ (probTiles_apply x0 x1 x4) k j

theorem zeroK : (k1_pay5 (F := Ideal)) = fun _ => 0 := funext fun _ => Ideal.ofBits_zero_f32
theorem zeroV : (k1_pay6 (F := Ideal)) = fun _ => 0 := funext fun _ => Ideal.ofBits_zero_f32
end

/-! ## The body's two cases -/

section
variable (c : Dev nD) (i : grid1.Coords) (arg2 : Memref sig .tc .vmem S1x1024x256 .bf16) (harg2 : arg2.IsWhole) (arg3 : Memref sig .tc .vmem
  S1x4352x256 .bf16) (harg3 : arg3.IsWhole) (arg4 : Memref sig .tc .vmem S1x4352x128 .bf16) (harg4 : arg4.IsWhole) (arg5 : Memref sig .tc
  .vmem S1024x128 .f32) (harg5 : arg5.IsWhole) (arg6 : Memref sig .tc .vmem S1x1024x1 .f32) (harg6 : arg6.IsWhole) (arg7 : Memref sig .tc
  .vmem S1024x128 .f32) (harg7 : arg7.IsWhole) (arg8 : Memref sig .tc .vmem S1x1024x256 .f32) (harg8 : arg8.IsWhole) (arg9 : Memref sig .tc
  .vmem S1x256x4352 .f32) (harg9 : arg9.IsWhole) (arg10 : Memref sig .tc .vmem S1x128x4352 .f32) (harg10 : arg10.IsWhole)
  (x0 : Vec Ideal S1x1024x256 .bf16) (x1 : Vec Ideal S1x4352x256 .bf16) (x2 : Vec Ideal S1x4352x128 .bf16)
  (x3 : Vec Ideal S1024x128 .f32) (x4 : Vec Ideal S1x1024x1 .f32) (x5 : Vec Ideal S1024x128 .f32)

theorem out_A_7 (hc0 : cond1_0 i) : out1_A_7 (F := Ideal) c i arg2 harg2 arg3 harg3 arg4 harg4 arg5 harg5 arg6 harg6 arg7 harg7 arg8 harg8 arg9 harg9 arg10 harg10 hc0 x0 x1 x2 x3 x4 x5 = bwdK x0 x1 x2 x3 x4 x5 fun _ => 0 := by
  rw [← payK_eq, ← zeroK, out1_A_7, View.read_writes_junk_eq_canon]
  unfold kernelRun1_A
  dsimp only
  refine (View.canon_cons_unit_zero (S := S1x256x4352) zeros3 _ _ _).trans ?_
  unfold kernelRun1_A.sl.r_3 kernelRun1_A.sl.r_6 kernelRun1_A.sl.r_10 kernelRun1_A.sl.r_12 kernelRun1_A.sl.r_13 kernelRun1_A.sl.r_14 kernelRun1_A.sl.r_8 kernelRun1_A.sl.r_9 kernelRun1_A.sl.r_1 kernelRun1_A.sl.r
  refine (congrArg (fun o => k1_pay3 (F := Ideal) _ _ _ _ _ _ o _) (show kernelRun1_A.sl.v111 c arg9 = k1_pay5 (F := Ideal) from
    View.readCov_full (Val := Elt Ideal) (s := S1x256x4352) (e := .f32) arg9.view inb_S1x256x4352_S1x256x4352_0_0_0 inb_S1x256x4352_S1x256x4352_0_0_0 (k1_pay5 (F := Ideal)) [])).trans ?_
  simp only [readAt_eq_ld]
  rfl

theorem out_A_8 (hc0 : cond1_0 i) : out1_A_8 (F := Ideal) c i arg2 harg2 arg3 harg3 arg4 harg4 arg5 harg5 arg6 harg6 arg7 harg7 arg8 harg8 arg9 harg9 arg10 harg10 hc0 x0 x1 x2 x3 x4 x5 = bwdV x0 x1 x4 x5 fun _ => 0 := by
  rw [← payV_eq, ← zeroV, out1_A_8, View.read_writes_junk_eq_canon]
  unfold kernelRun1_A
  dsimp only
  refine (View.canon_cons_unit_zero (S := S1x128x4352) zeros3 _ _ _).trans ?_
  unfold kernelRun1_A.sl.r_5 kernelRun1_A.sl.r_7 kernelRun1_A.sl.r_11 kernelRun1_A.sl.r_12 kernelRun1_A.sl.r_9 kernelRun1_A.sl.r_2 kernelRun1_A.sl.r
  refine (congrArg (fun o => k1_pay4 (F := Ideal) _ _ _ _ o _) (show kernelRun1_A.sl.v121 c arg10 = k1_pay6 (F := Ideal) from
    View.readCov_full (Val := Elt Ideal) (s := S1x128x4352) (e := .f32) arg10.view inb_S1x128x4352_S1x128x4352_0_0_0 inb_S1x128x4352_S1x128x4352_0_0_0 (k1_pay6 (F := Ideal)) [])).trans ?_
  simp only [readAt_eq_ld]
  rfl

theorem out_A_6 (hc0 : cond1_0 i) : out1_A_6 (F := Ideal) c i arg2 harg2 arg3 harg3 arg4 harg4 arg5 harg5 arg6 harg6 arg7 harg7 arg8 harg8 arg9 harg9 arg10 harg10 hc0 x0 x1 x2 x3 x4 x5 = bwdQ x0 x1 x2 x3 x4 x5 := by
  rw [out1_A_6, View.read_writes_junk_eq_canon]
  funext y
  refine View.canon_apply_of_pieces (bwdQ x0 x1 x2 x3 x4 x5) _ ?_ y (cover1_A_6 c i arg2 harg2 arg3 harg3 arg4 harg4 arg5 harg5 arg6 harg6 arg7 harg7 arg8 harg8 arg9 harg9 arg10 harg10 hc0 x0 x1 x2 x3 x4 x5 y)
  unfold kernelRun1_A
  dsimp only
  unfold kernelRun1_A.sl.r_4 kernelRun1_A.sl.r_12 kernelRun1_A.sl.r_13 kernelRun1_A.sl.r_14 kernelRun1_A.sl.r_8 kernelRun1_A.sl.r_9 kernelRun1_A.sl.r_1 kernelRun1_A.sl.r
  simp only [List.forall_mem_cons, readAt_eq_ld]
  refine ⟨?_, ?_, ?_, ?_, fun p hp => absurd hp List.not_mem_nil⟩
  · exact fun x => dqTile_apply x0 x1 x2 x3 x4 x5 768 _ inb_S1x1024x1_S1x256x1_0_768_0 inb_S1024x128_S256x128_768_0 x
  · exact fun x => dqTile_apply x0 x1 x2 x3 x4 x5 512 _ inb_S1x1024x1_S1x256x1_0_512_0 inb_S1024x128_S256x128_512_0 x
  · exact fun x => dqTile_apply x0 x1 x2 x3 x4 x5 256 _ inb_S1x1024x1_S1x256x1_0_256_0 inb_S1024x128_S256x128_256_0 x
  · exact fun x => dqTile_apply x0 x1 x2 x3 x4 x5 0 _ inb_S1x1024x1_S1x256x1_0_0_0 inb_S1024x128_S256x128_0_0 x

theorem out_B_6 (hc0 : ¬cond1_0 i) (xo7 : Vec Ideal S1x256x4352 .f32) (xo8 : Vec Ideal S1x128x4352 .f32) : out1_B_6 (F := Ideal) c i arg2 harg2 arg3 harg3 arg4 harg4 arg5 harg5 arg6 harg6 arg7 harg7 arg8 harg8 arg9 harg9 arg10 harg10 hc0 x0 x1 x2 x3 x4 x5 xo7 xo8 = bwdQ x0 x1 x2 x3 x4 x5 := by
  rw [out1_B_6, View.read_writes_junk_eq_canon]
  funext y
  refine View.canon_apply_of_pieces (bwdQ x0 x1 x2 x3 x4 x5) _ ?_ y (cover1_B_6 c i arg2 harg2 arg3 harg3 arg4 harg4 arg5 harg5 arg6 harg6 arg7 harg7 arg8 harg8 arg9 harg9 arg10 harg10 hc0 x0 x1 x2 x3 x4 x5 xo7 xo8 y)
  unfold kernelRun1_B
  dsimp only
  unfold kernelRun1_B.sl.r_4 kernelRun1_B.sl.r_12 kernelRun1_B.sl.r_13 kernelRun1_B.sl.r_14 kernelRun1_B.sl.r_8 kernelRun1_B.sl.r_9 kernelRun1_B.sl.r_1 kernelRun1_B.sl.r
  simp only [List.forall_mem_cons, readAt_eq_ld]
  refine ⟨?_, ?_, ?_, ?_, fun p hp => absurd hp List.not_mem_nil⟩
  · exact fun x => dqTile_apply x0 x1 x2 x3 x4 x5 768 _ inb_S1x1024x1_S1x256x1_0_768_0 inb_S1024x128_S256x128_768_0 x
  · exact fun x => dqTile_apply x0 x1 x2 x3 x4 x5 512 _ inb_S1x1024x1_S1x256x1_0_512_0 inb_S1024x128_S256x128_512_0 x
  · exact fun x => dqTile_apply x0 x1 x2 x3 x4 x5 256 _ inb_S1x1024x1_S1x256x1_0_256_0 inb_S1024x128_S256x128_256_0 x
  · exact fun x => dqTile_apply x0 x1 x2 x3 x4 x5 0 _ inb_S1x1024x1_S1x256x1_0_0_0 inb_S1024x128_S256x128_0_0 x

theorem out_B_7 (hc0 : ¬cond1_0 i) (xo7 : Vec Ideal S1x256x4352 .f32) (xo8 : Vec Ideal S1x128x4352 .f32) :
    out1_B_7 (F := Ideal) c i arg2 harg2 arg3 harg3 arg4 harg4 arg5 harg5 arg6 harg6 arg7 harg7 arg8 harg8 arg9 harg9 arg10 harg10 hc0 x0 x1 x2 x3 x4 x5 xo7 xo8 = bwdK x0 x1 x2 x3 x4 x5 xo7 := by
  rw [← payK_eq, out1_B_7, View.read_writes_junk_eq_canon]
  unfold kernelRun1_B
  dsimp only
  refine (View.canon_unit_zero (S := S1x256x4352) zeros3 _ _).trans ?_
  unfold kernelRun1_B.sl.r_3 kernelRun1_B.sl.r_6 kernelRun1_B.sl.r_10 kernelRun1_B.sl.r_12 kernelRun1_B.sl.r_13 kernelRun1_B.sl.r_14 kernelRun1_B.sl.r_8 kernelRun1_B.sl.r_9 kernelRun1_B.sl.r_1 kernelRun1_B.sl.r
  refine (congrArg (fun o => k1_pay3 (F := Ideal) _ _ _ _ _ _ o _) ((readAt_eq_ld harg9 xo7 _).trans
    (View.ld_unit_zero (S := S1x256x4352) zeros3 inb_S1x256x4352_S1x256x4352_0_0_0 xo7))).trans ?_
  simp only [readAt_eq_ld]
  rfl

theorem out_B_8 (hc0 : ¬cond1_0 i) (xo7 : Vec Ideal S1x256x4352 .f32) (xo8 : Vec Ideal S1x128x4352 .f32) :
    out1_B_8 (F := Ideal) c i arg2 harg2 arg3 harg3 arg4 harg4 arg5 harg5 arg6 harg6 arg7 harg7 arg8 harg8 arg9 harg9 arg10 harg10 hc0 x0 x1 x2 x3 x4 x5 xo7 xo8 = bwdV x0 x1 x4 x5 xo8 := by
  rw [← payV_eq, out1_B_8, View.read_writes_junk_eq_canon]
  unfold kernelRun1_B
  dsimp only
  refine (View.canon_unit_zero (S := S1x128x4352) zeros3 _ _).trans ?_
  unfold kernelRun1_B.sl.r_5 kernelRun1_B.sl.r_7 kernelRun1_B.sl.r_11 kernelRun1_B.sl.r_12 kernelRun1_B.sl.r_9 kernelRun1_B.sl.r_2 kernelRun1_B.sl.r
  refine (congrArg (fun o => k1_pay4 (F := Ideal) _ _ _ _ o _) ((readAt_eq_ld harg10 xo8 _).trans
    (View.ld_unit_zero (S := S1x128x4352) zeros3 inb_S1x128x4352_S1x128x4352_0_0_0 xo8))).trans ?_
  simp only [readAt_eq_ld]
  rfl
end

end Cert.Attn
-- ==== Proof.BwdArrays.lean ====
/- What the backward call leaves in its three result arrays, at an index, as a function of the six operand arrays: the query gradient's
   blocks put together over the grid, and the key and value gradients' accumulators, which a head's four points add to in turn. -/
module

public import proofs.«01_k».proof.Proof.FwdArrays
public import proofs.«01_k».proof.Proof.BwdPoint

@[expose] public section

set_option maxRecDepth 16384

noncomputable section

namespace Cert.Attn

open Idealize.ShloMosaic Idealize.ShloMosaic.TcCoe Idealize.ShloMosaic.ValueIdx Idealize.SL.Sem Cert.KernelIdeal Cert.KernelIdeal.Gen
open scoped BigOperators

section
variable (Q : S4x4096x256.Idx → EReal) (K : S4x4352x256.Idx → EReal) (U : S4x4352x128.Idx → EReal)
  (O : S4096x512.Idx → EReal) (L : S4x4096x1.Idx → EReal) (D : S4096x512.Idx → EReal)

/-- The probability of key `j` for query `r` of head `h`, from the saved log-sums. -/
def probA (h : Fin 4) (r : Fin 4096) (j : Fin 4352) : EReal := probRow (scores Q K h r) (L (ix3 h r 0)) j

/-- The gradient of the scaled score. -/
def rawA (h : Fin 4) (r : Fin 4096) (j : Fin 4352) : EReal :=
  rawRow (scores Q K h r) (L (ix3 h r 0)) (head U h) (fun d => O (ix2 r (colAt h d))) (fun d => D (ix2 r (colAt h d))) j

/-- The query gradient's array, before its scale. -/
def arrDq : S4x4096x256.Idx → EReal := fun y => ∑ j, rawA Q K U O L D (y 0) (y 1) j * head K (y 0) j (y 2)

/-- The key gradient's array, transposed and before its scale. -/
def arrDk : S4x256x4352.Idx → EReal := fun y => ∑ r : Fin 4096, head Q (y 0) r (y 1) * rawA Q K U O L D (y 0) r (y 2)

/-- The value gradient's array, transposed. -/
def arrDv : S4x128x4352.Idx → EReal := fun y => ∑ r : Fin 4096, D (ix2 r (colAt (y 0) (y 1))) * probA Q K L (y 0) r (y 2)
end

/-! ## Sums by blocks -/

/-- A sum over `n` blocks of `b` is the sum over all. -/
theorem sum_blocks (F : ℕ → EReal) (b : ℕ) : ∀ n : ℕ,
    ∑ s ∈ Finset.range n, ∑ i ∈ Finset.range b, F (b * s + i) = ∑ r ∈ Finset.range (b * n), F r
  | 0 => by simp
  | n + 1 => by rw [Finset.sum_range_succ, sum_blocks F b n, Nat.mul_succ, Finset.sum_range_add]

/-- A function of the query rows, continued by zero. -/
def ext0 {n : ℕ} (f : Fin n → EReal) (r : ℕ) : EReal := if h : r < n then f ⟨r, h⟩ else 0

theorem ext0_of {n : ℕ} (f : Fin n → EReal) (r : Fin n) (k : ℕ) (hk : k = r.val) : ext0 f k = f r := by
  subst hk; exact dif_pos r.isLt

theorem sum_ext0 {n : ℕ} (f : Fin n → EReal) : ∑ r ∈ Finset.range n, ext0 f r = ∑ r, f r := by
  rw [Finset.sum_range]
  exact Finset.sum_congr rfl fun r _ => ext0_of f r _ rfl

/-! ## The blocks' places -/

theorem idx1_0 : ∀ t : Fin cfg1.N, win1_0.index t = ![t.val / 4, t.val % 4, 0] := (by decide +kernel : ∀ t : Fin grid1.N, _)
theorem idx1_1 : ∀ t : Fin cfg1.N, win1_1.index t = ![t.val / 4, 0, 0] := (by decide +kernel : ∀ t : Fin grid1.N, _)
theorem idx1_2 : ∀ t : Fin cfg1.N, win1_2.index t = ![t.val / 4, 0, 0] := (by decide +kernel : ∀ t : Fin grid1.N, _)
theorem idx1_3 : ∀ t : Fin cfg1.N, win1_3.index t = ![t.val % 4, t.val / 4] := (by decide +kernel : ∀ t : Fin grid1.N, _)
theorem idx1_4 : ∀ t : Fin cfg1.N, win1_4.index t = ![t.val / 4, t.val % 4, 0] := (by decide +kernel : ∀ t : Fin grid1.N, _)
theorem idx1_5 : ∀ t : Fin cfg1.N, win1_5.index t = ![t.val % 4, t.val / 4] := (by decide +kernel : ∀ t : Fin grid1.N, _)
theorem idx1_6 : ∀ t : Fin cfg1.N, win1_6.index t = ![t.val / 4, t.val % 4, 0] := (by decide +kernel : ∀ t : Fin grid1.N, _)
theorem idx1_7 : ∀ t : Fin cfg1.N, win1_7.index t = ![t.val / 4, 0, 0] := (by decide +kernel : ∀ t : Fin grid1.N, _)
theorem idx1_8 : ∀ t : Fin cfg1.N, win1_8.index t = ![t.val / 4, 0, 0] := (by decide +kernel : ∀ t : Fin grid1.N, _)

section
variable (V : (c : Dev nD) → (b : Ref sig .tc) → Buf (Elt Ideal) ((c : Thread nD τ).loc b)) (c : Dev nD)

theorem blkQ1 (t : Fin cfg1.N) (h : Fin 4) (hh : h.val = t.val / 4) (i : Fin 1024) (r : Fin 4096) (hr : r.val = 1024 * (t.val % 4) + i.val) :
    rows3 (M := 1024) (N := 256) (iblk1 V c 0 t) i = head (V c main_v6) h r := by
  funext d
  show iblk1 V c 0 t (ix3 0 i d) = V c main_v6 (ix3 h r d)
  blk_simp [iblk1, idx1_0]
  refine congrArg (V c main_v6) (funext fun a => Fin.ext ?_)
  match a with
  | ⟨0, _⟩ => blk_simp [idx1_0]; exact hh.symm
  | ⟨1, _⟩ => blk_simp [idx1_0]; show t.val % 4 * 1024 + i.val = r.val; omega
  | ⟨2, _⟩ => blk_simp [idx1_0]

theorem blkK1 (t : Fin cfg1.N) (h : Fin 4) (hh : h.val = t.val / 4) :
    rows3 (M := 4352) (N := 256) (iblk1 V c 1 t) = head (V c main_v9) h := by
  funext j d
  show iblk1 V c 1 t (ix3 0 j d) = V c main_v9 (ix3 h j d)
  blk_simp [iblk1, idx1_1]
  refine congrArg (V c main_v9) (funext fun a => Fin.ext ?_)
  match a with
  | ⟨0, _⟩ => blk_simp [idx1_1]; exact hh.symm
  | ⟨1, _⟩ => blk_simp [idx1_1]
  | ⟨2, _⟩ => blk_simp [idx1_1]

theorem blkV1 (t : Fin cfg1.N) (h : Fin 4) (hh : h.val = t.val / 4) :
    rows3 (M := 4352) (N := 128) (iblk1 V c 2 t) = head (V c main_v11) h := by
  funext j d
  show iblk1 V c 2 t (ix3 0 j d) = V c main_v11 (ix3 h j d)
  blk_simp [iblk1, idx1_2]
  refine congrArg (V c main_v11) (funext fun a => Fin.ext ?_)
  match a with
  | ⟨0, _⟩ => blk_simp [idx1_2]; exact hh.symm
  | ⟨1, _⟩ => blk_simp [idx1_2]
  | ⟨2, _⟩ => blk_simp [idx1_2]

theorem blkO1 (t : Fin cfg1.N) (h : Fin 4) (hh : h.val = t.val / 4) (i : Fin 1024) (r : Fin 4096) (hr : r.val = 1024 * (t.val % 4) + i.val) :
    rows2 (M := 1024) (N := 128) (iblk1 V c 3 t) i = fun d => V c main_v12_0 (ix2 r (colAt h d)) := by
  funext d
  show iblk1 V c 3 t (ix2 i d) = _
  blk_simp [iblk1, idx1_3]
  refine congrArg (V c main_v12_0) (funext fun a => Fin.ext ?_)
  match a with
  | ⟨0, _⟩ => blk_simp [idx1_3]; show t.val % 4 * 1024 + i.val = r.val; omega
  | ⟨1, _⟩ => blk_simp [idx1_3]; show t.val / 4 * 128 + d.val = 128 * h.val + d.val; omega

theorem blkL1 (t : Fin cfg1.N) (h : Fin 4) (hh : h.val = t.val / 4) (i : Fin 1024) (r : Fin 4096) (hr : r.val = 1024 * (t.val % 4) + i.val) :
    iblk1 V c 4 t (ix3 0 i 0) = V c main_v12_1 (ix3 h r 0) := by
  blk_simp [iblk1, idx1_4]
  refine congrArg (V c main_v12_1) (funext fun a => Fin.ext ?_)
  match a with
  | ⟨0, _⟩ => blk_simp [idx1_4]; exact hh.symm
  | ⟨1, _⟩ => blk_simp [idx1_4]; show t.val % 4 * 1024 + i.val = r.val; omega
  | ⟨2, _⟩ => blk_simp [idx1_4]

theorem blkD1 (t : Fin cfg1.N) (h : Fin 4) (hh : h.val = t.val / 4) (i : Fin 1024) (r : Fin 4096) (hr : r.val = 1024 * (t.val % 4) + i.val) :
    rows2 (M := 1024) (N := 128) (iblk1 V c 5 t) i = fun d => V c main_v13 (ix2 r (colAt h d)) := by
  funext d
  show iblk1 V c 5 t (ix2 i d) = _
  blk_simp [iblk1, idx1_5]
  refine congrArg (V c main_v13) (funext fun a => Fin.ext ?_)
  match a with
  | ⟨0, _⟩ => blk_simp [idx1_5]; show t.val % 4 * 1024 + i.val = r.val; omega
  | ⟨1, _⟩ => blk_simp [idx1_5]; show t.val / 4 * 128 + d.val = 128 * h.val + d.val; omega

/-- A point's row of probabilities. -/
theorem probAt_eq (t : Fin cfg1.N) (h : Fin 4) (hh : h.val = t.val / 4) (i : Fin 1024) (r : Fin 4096) (hr : r.val = 1024 * (t.val % 4) + i.val) :
    probAt (iblk1 V c 0 t) (iblk1 V c 1 t) (iblk1 V c 4 t) i = probA (V c main_v6) (V c main_v9) (V c main_v12_1) h r := by
  funext j
  unfold probAt probA scores
  rw [blkQ1 V c t h hh i r hr, blkK1 V c t h hh, blkL1 V c t h hh i r hr]

/-- A point's row of score gradients. -/
theorem rawAt_eq (t : Fin cfg1.N) (h : Fin 4) (hh : h.val = t.val / 4) (i : Fin 1024) (r : Fin 4096) (hr : r.val = 1024 * (t.val % 4) + i.val) :
    rawAt (iblk1 V c 0 t) (iblk1 V c 1 t) (iblk1 V c 2 t) (iblk1 V c 3 t) (iblk1 V c 4 t) (iblk1 V c 5 t) i
      = rawA (V c main_v6) (V c main_v9) (V c main_v11) (V c main_v12_0) (V c main_v12_1) (V c main_v13) h r := by
  funext j
  unfold rawAt rawA scores
  rw [blkQ1 V c t h hh i r hr, blkK1 V c t h hh, blkL1 V c t h hh i r hr, blkV1 V c t h hh, blkO1 V c t h hh i r hr, blkD1 V c t h hh i r hr]

/-! ## The query gradient -/

theorem outs6 (t : Fin cfg1.N) : (outsAt1 V c t.val t.isLt).1
    = bwdQ (iblk1 V c 0 t) (iblk1 V c 1 t) (iblk1 V c 2 t) (iblk1 V c 3 t) (iblk1 V c 4 t) (iblk1 V c 5 t) := by
  by_cases h0 : t.val % 4 = 0
  · rw [outsAt1_A V c t h0]; dsimp only; exact out_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0)
  · rw [outsAt1_B V c t h0]; dsimp only; exact out_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2

theorem block_q (t : Fin cfg1.N) (y : S1x1024x256.Idx) (z : S4x4096x256.Idx) (h0 : (z 0).val = t.val / 4)
    (h1 : (z 1).val = t.val % 4 * 1024 + (y 1).val) (h2 : (z 2).val = (y 2).val) :
    bwdQ (iblk1 V c 0 t) (iblk1 V c 1 t) (iblk1 V c 2 t) (iblk1 V c 3 t) (iblk1 V c 4 t) (iblk1 V c 5 t) y
      = arrDq (V c main_v6) (V c main_v9) (V c main_v11) (V c main_v12_0) (V c main_v12_1) (V c main_v13) z := by
  unfold bwdQ arrDq
  rw [rawAt_eq V c t (z 0) h0 (y 1) (z 1) (by omega), blkK1 V c t (z 0) h0, show z 2 = y 2 from Fin.ext h2]

theorem final_dq : (dat1 V c).arrAt 6 cfg1.N
    = arrDq (V c main_v6) (V c main_v9) (V c main_v11) (V c main_v12_0) (V c main_v12_1) (V c main_v13) := by
  refine (dat1 V c).arrAt_eq_of_covers 6 _ (by decide +kernel) fun t hf y => ?_
  blk_simp
  rw [after1_6, outs6]
  exact block_q V c t y _ (by blk_simp [idx1_6]) (by blk_simp [idx1_6]) (by blk_simp [idx1_6])

/-! ## The key and value gradients -/

/-- What point `n` adds to the key gradient's accumulator. -/
def addK (h : Fin 4) (n : ℕ) (y : S1x256x4352.Idx) : EReal :=
  ∑ i ∈ Finset.range 1024, ext0 (fun r : Fin 4096 => head (V c main_v6) h r (y 1)
    * rawA (V c main_v6) (V c main_v9) (V c main_v11) (V c main_v12_0) (V c main_v12_1) (V c main_v13) h r (y 2)) (1024 * (n % 4) + i)

/-- What point `n` adds to the value gradient's accumulator. -/
def addV (h : Fin 4) (n : ℕ) (y : S1x128x4352.Idx) : EReal :=
  ∑ i ∈ Finset.range 1024, ext0 (fun r : Fin 4096 => (show S4096x512.Idx → EReal from V c main_v13) (ix2 r (colAt h (y 1)))
    * probA (V c main_v6) (V c main_v9) (V c main_v12_1) h r (y 2)) (1024 * (n % 4) + i)

theorem bwdK_add (t : Fin cfg1.N) (h : Fin 4) (hh : h.val = t.val / 4) (old : Vec Ideal S1x256x4352 .f32) (y : S1x256x4352.Idx) :
    bwdK (iblk1 V c 0 t) (iblk1 V c 1 t) (iblk1 V c 2 t) (iblk1 V c 3 t) (iblk1 V c 4 t) (iblk1 V c 5 t) old y = old y + addK V c h t.val y := by
  unfold bwdK addK
  rw [Finset.sum_range]
  refine congrArg (_ + ·) (Finset.sum_congr rfl fun i _ => ?_)
  have hr : 1024 * (t.val % 4) + i.val < 4096 := by omega
  rw [ext0_of _ ⟨_, hr⟩ _ rfl, rawAt_eq V c t h hh i ⟨_, hr⟩ rfl, blkQ1 V c t h hh i ⟨_, hr⟩ rfl]

theorem bwdV_add (t : Fin cfg1.N) (h : Fin 4) (hh : h.val = t.val / 4) (old : Vec Ideal S1x128x4352 .f32) (y : S1x128x4352.Idx) :
    bwdV (iblk1 V c 0 t) (iblk1 V c 1 t) (iblk1 V c 4 t) (iblk1 V c 5 t) old y = old y + addV V c h t.val y := by
  unfold bwdV addV
  rw [Finset.sum_range]
  refine congrArg (_ + ·) (Finset.sum_congr rfl fun i _ => ?_)
  have hr : 1024 * (t.val % 4) + i.val < 4096 := by omega
  rw [ext0_of _ ⟨_, hr⟩ _ rfl, probAt_eq V c t h hh i ⟨_, hr⟩ rfl, blkD1 V c t h hh i ⟨_, hr⟩ rfl]

/-- A quantity over the grid's points that is the point's addend at a head's first point, and the point before's plus the addend at
    every other, is at a head's last point the sum of its four addends. -/
theorem run_sum {ι : Type} (f : (n : ℕ) → n < cfg1.N → ι → EReal) (A : Fin 4 → ℕ → ι → EReal)
    (h0 : ∀ t : Fin cfg1.N, t.val % 4 = 0 → ∀ h : Fin 4, h.val = t.val / 4 → f t.val t.isLt = fun y => 0 + A h t.val y)
    (hs : ∀ t : Fin cfg1.N, ¬t.val % 4 = 0 → ∀ h : Fin 4, h.val = t.val / 4 →
      f t.val t.isLt = fun y => f (t.val - 1) (Nat.lt_of_le_of_lt (Nat.sub_le _ _) t.isLt) y + A h t.val y)
    (h : Fin 4) : ∀ (j : ℕ) (hj : j < 4) (hn : 4 * h.val + j < cfg1.N), f (4 * h.val + j) hn = fun y => ∑ s ∈ Finset.range (j + 1), A h (4 * h.val + s) y
  | 0, _, hn => (h0 ⟨_, hn⟩ (by show (4 * h.val + 0) % 4 = 0; omega) h (by show h.val = (4 * h.val + 0) / 4; omega)).trans
      (funext fun y => by rw [Finset.sum_range_one, zero_add])
  | j + 1, hj, hn => (hs ⟨_, hn⟩ (by show ¬(4 * h.val + (j + 1)) % 4 = 0; omega) h (by show h.val = (4 * h.val + (j + 1)) / 4; omega)).trans
      (funext fun y => by
        rw [Finset.sum_range_succ]
        exact congrArg (· + _) (congrFun (run_sum f A h0 hs h j (by omega) (by omega)) y))

theorem outs7 (h : Fin 4) (hn : 4 * h.val + 3 < cfg1.N) :
    (outsAt1 V c (4 * h.val + 3) hn).2.1 = fun y => ∑ s ∈ Finset.range 4, addK V c h (4 * h.val + s) y :=
  run_sum (fun n hn => (outsAt1 V c n hn).2.1) (addK V c)
    (fun t h0 h hh => by
      show (outsAt1 V c t.val t.isLt).2.1 = _
      rw [outsAt1_A V c t h0]; dsimp only; exact (out_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0)).trans (funext fun y => bwdK_add V c t h hh _ y))
    (fun t h0 h hh => by
      show (outsAt1 V c t.val t.isLt).2.1 = _
      rw [outsAt1_B V c t h0]; dsimp only; exact (out_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2).trans (funext fun y => bwdK_add V c t h hh _ y)) h 3 (by omega) hn

theorem outs8 (h : Fin 4) (hn : 4 * h.val + 3 < cfg1.N) :
    (outsAt1 V c (4 * h.val + 3) hn).2.2 = fun y => ∑ s ∈ Finset.range 4, addV V c h (4 * h.val + s) y :=
  run_sum (fun n hn => (outsAt1 V c n hn).2.2) (addV V c)
    (fun t h0 h hh => by
      show (outsAt1 V c t.val t.isLt).2.2 = _
      rw [outsAt1_A V c t h0]; dsimp only; exact (out_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0)).trans (funext fun y => bwdV_add V c t h hh _ y))
    (fun t h0 h hh => by
      show (outsAt1 V c t.val t.isLt).2.2 = _
      rw [outsAt1_B V c t h0]; dsimp only; exact (out_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2).trans (funext fun y => bwdV_add V c t h hh _ y)) h 3 (by omega) hn

/-- Four points' addends are one sum over the query rows. -/
theorem four_points (F : Fin 4096 → EReal) (h : ℕ) :
    ∑ s ∈ Finset.range 4, ∑ i ∈ Finset.range 1024, ext0 F (1024 * ((4 * h + s) % 4) + i) = ∑ r, F r := by
  rw [← sum_ext0, ← sum_blocks (ext0 F) 1024 4]
  refine Finset.sum_congr rfl fun s hs => ?_
  have := Finset.mem_range.mp hs
  rw [show (4 * h + s) % 4 = s by omega]

theorem final_dk : (dat1 V c).arrAt 7 cfg1.N
    = arrDk (V c main_v6) (V c main_v9) (V c main_v11) (V c main_v12_0) (V c main_v12_1) (V c main_v13) := by
  refine (dat1 V c).arrAt_eq_of_covers 7 _ (by decide +kernel) fun t hf y => ?_
  have ht : t.val < 16 := Nat.lt_of_lt_of_eq t.isLt N_1
  have hm : t.val % 4 = 3 := (flush1_7 t).mp hf
  blk_simp
  rw [after1_7]
  have key : ∀ (z : S4x256x4352.Idx), (z 0).val = t.val / 4 → (z 1).val = (y 1).val → (z 2).val = (y 2).val →
      (outsAt1 V c t.val t.isLt).2.1 y
        = arrDk (V c main_v6) (V c main_v9) (V c main_v11) (V c main_v12_0) (V c main_v12_1) (V c main_v13) z := by
    intro z e0 e1 e2
    have et : t.val = 4 * (z 0).val + 3 := by omega
    have same : ∀ (n : ℕ) (hn : n < cfg1.N), t.val = n → outsAt1 V c t.val t.isLt = outsAt1 V c n hn := fun n hn e => by subst e; rfl
    rw [same _ (et ▸ t.isLt) et, outs7 V c (z 0)]
    unfold addK arrDk
    rw [show z 1 = y 1 from Fin.ext e1, show z 2 = y 2 from Fin.ext e2]
    exact four_points _ _
  exact key _ (by blk_simp [idx1_7]) (by blk_simp [idx1_7]) (by blk_simp [idx1_7])

theorem final_dv : (dat1 V c).arrAt 8 cfg1.N = arrDv (V c main_v6) (V c main_v9) (V c main_v12_1) (V c main_v13) := by
  refine (dat1 V c).arrAt_eq_of_covers 8 _ (by decide +kernel) fun t hf y => ?_
  have ht : t.val < 16 := Nat.lt_of_lt_of_eq t.isLt N_1
  have hm : t.val % 4 = 3 := (flush1_8 t).mp hf
  blk_simp
  rw [after1_8]
  have key : ∀ (z : S4x128x4352.Idx), (z 0).val = t.val / 4 → (z 1).val = (y 1).val → (z 2).val = (y 2).val →
      (outsAt1 V c t.val t.isLt).2.2 y = arrDv (V c main_v6) (V c main_v9) (V c main_v12_1) (V c main_v13) z := by
    intro z e0 e1 e2
    have et : t.val = 4 * (z 0).val + 3 := by omega
    have same : ∀ (n : ℕ) (hn : n < cfg1.N), t.val = n → outsAt1 V c t.val t.isLt = outsAt1 V c n hn := fun n hn e => by subst e; rfl
    rw [same _ (et ▸ t.isLt) et, outs8 V c (z 0)]
    unfold addV arrDv
    rw [show z 1 = y 1 from Fin.ext e1, show z 2 = y 2 from Fin.ext e2]
    exact four_points _ _
  exact key _ (by blk_simp [idx1_8]) (by blk_simp [idx1_8]) (by blk_simp [idx1_8])

end

end Cert.Attn
-- ==== Proof.Math.lean ====
/- The row-level mathematics over the reals: the base-two softmax with its saved log-sum and the base-e softmax divided by its sum are
   the same probabilities, and the two ways to write the gradient of a row of scores agree. -/
module

public import proofs.«01_k».proof.Proof.Tile
public import Idealize.ShloMosaic.PureOps.Ideal.Laws

@[expose] public section

noncomputable section

namespace Cert.Attn

open Idealize.ShloMosaic
open scoped BigOperators

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_real {ι : Type} [Fintype ι] (f : ι → EReal) (g : ι → ℝ) (h : ∀ i, f i = (g i : EReal)) :
    ∑ i, f i = ((∑ i, g i : ℝ) : EReal) := by
  rw [Finset.sum_congr rfl fun i _ => h i, coe_sum]

/-- The greatest of finitely many reals is a real. -/
theorem sup_coe {n : ℕ} (hn : 0 < n) (f : Fin n → ℝ) : ∃ μ : ℝ, (Finset.univ.sup fun j => (f j : EReal)) = (μ : EReal) := by
  obtain ⟨i, -, hi⟩ := Finset.exists_mem_eq_sup (Finset.univ : Finset (Fin n)) ⟨⟨0, hn⟩, Finset.mem_univ _⟩ fun j => (f j : EReal)
  exact ⟨f i, hi⟩

/-- The softmax of a row of reals. -/
def soft {n : ℕ} (s : Fin n → ℝ) (j : Fin n) : ℝ := Real.exp (s j) / ∑ i, Real.exp (s i)

theorem sum_exp_pos {n : ℕ} (hn : 0 < n) (s : Fin n → ℝ) : 0 < ∑ i, Real.exp (s i) :=
  Finset.sum_pos (fun i _ => Real.exp_pos _) ⟨⟨0, hn⟩, Finset.mem_univ _⟩

/-- A common factor of a row's weights cancels. -/
theorem soft_of {n : ℕ} (s w : Fin n → ℝ) (a : ℝ) (ha : 0 < a) (hw : ∀ j, w j = Real.exp (s j) * a) (j : Fin n) :
    w j / ∑ i, w i = soft s j := by
  unfold soft
  rw [Finset.sum_congr rfl fun i _ => hw i, ← Finset.sum_mul, hw j, mul_div_mul_right _ _ ha.ne']

theorem two_rpow (x μ : ℝ) : (2 : ℝ) ^ (x / Real.log 2 - μ) = Real.exp x * Real.exp (-(Real.log 2 * μ)) := by
  have h2 : Real.log 2 ≠ 0 := (Real.log_pos (by norm_num)).ne'
  rw [Real.rpow_def_of_pos (by norm_num), ← Real.exp_add]
  congr 1
  field_simp
  ring

section Row

variable {n m : ℕ} (hn : 0 < n) (s : Fin n → ℝ) (S : Fin n → EReal) (hS : ∀ j, S j = ((s j / Real.log 2 : ℝ) : EReal))
include hn hS

/-- What the forward call makes of a row: its greatest score and its weights, as reals. -/
theorem row_weights : ∃ μ : ℝ, topOf S = (μ : EReal)
    ∧ (∀ j, weight S j = ((2 : ℝ) ^ (s j / Real.log 2 - μ) : ℝ))
    ∧ massOf S = ((∑ j, (2 : ℝ) ^ (s j / Real.log 2 - μ) : ℝ) : EReal) := by
  obtain ⟨μ, hμ⟩ := sup_coe hn fun j => s j / Real.log 2
  have ht : topOf S = (μ : EReal) := by
    rw [← hμ]
    exact Finset.sup_congr rfl fun j _ => hS j
  have hw : ∀ j, weight S j = ((2 : ℝ) ^ (s j / Real.log 2 - μ) : ℝ) := fun j => by
    unfold weight
    rw [ht, hS, ← EReal.coe_sub, Ideal.exp2_coe]
    rfl
  exact ⟨μ, ht, hw, sum_real _ _ hw⟩

/-- The output row is the probabilities' average of the values. -/
theorem outRow_eq (V : Fin n → Fin m → EReal) (v : Fin n → Fin m → ℝ) (hV : ∀ j c, V j c = (v j c : EReal)) (c : Fin m) :
    outRow S V c = ((∑ j, soft s j * v j c : ℝ) : EReal) := by
  obtain ⟨μ, -, hw, hm⟩ := row_weights hn s S hS
  have hpos : 0 < ∑ j, (2 : ℝ) ^ (s j / Real.log 2 - μ) :=
    Finset.sum_pos (fun i _ => Real.rpow_pos_of_pos (by norm_num) _) ⟨⟨0, hn⟩, Finset.mem_univ _⟩
  unfold outRow
  rw [hm, Ideal.div_coe hpos.ne', sum_real (fun j => weight S j * V j c) (fun j => (2 : ℝ) ^ (s j / Real.log 2 - μ) * v j c)
    fun j => by rw [hw j, hV j c, EReal.coe_mul], one_mul, ← EReal.coe_mul]
  refine congrArg _ ?_
  rw [Finset.sum_mul]
  refine Finset.sum_congr rfl fun j _ => ?_
  rw [← soft_of s _ _ (Real.exp_pos (-(Real.log 2 * μ))) (fun j => two_rpow (s j) μ) j]
  ring

/-- The probabilities from the saved log-sum. -/
theorem probRow_eq (j : Fin n) : probRow S (lseOf S) j = (soft s j : EReal) := by
  obtain ⟨μ, ht, -, hm⟩ := row_weights hn s S hS
  have hpos : 0 < ∑ j, (2 : ℝ) ^ (s j / Real.log 2 - μ) :=
    Finset.sum_pos (fun i _ => Real.rpow_pos_of_pos (by norm_num) _) ⟨⟨0, hn⟩, Finset.mem_univ _⟩
  have h2 : Real.log 2 ≠ 0 := (Real.log_pos (by norm_num)).ne'
  unfold probRow lseOf
  rw [ht, hm, Ideal.log_coe, if_neg (not_le.2 hpos), ← EReal.coe_mul, ← EReal.coe_add, hS, ← EReal.coe_sub, Ideal.exp2_coe]
  refine congrArg _ ?_
  rw [← soft_of s _ _ (Real.exp_pos (-(Real.log 2 * μ))) (fun j => two_rpow (s j) μ) j]
  rw [show ∀ x : ℝ, Real.rpow 2 x = (2 : ℝ) ^ x from fun _ => rfl, ← sub_sub, Real.rpow_sub (by norm_num)]
  congr 1
  rw [Real.rpow_def_of_pos (by norm_num), mul_comm (Real.log _) (Real.log 2)⁻¹, ← mul_assoc, mul_inv_cancel₀ h2, one_mul, Real.exp_log hpos]

/-- The gradient of a row of scores, before the scale: the probability times the excess of its cotangent over the average one. -/
def gradRow {n m : ℕ} (s : Fin n → ℝ) (v : Fin n → Fin m → ℝ) (g : Fin m → ℝ) (j : Fin n) : ℝ :=
  soft s j * ((∑ c, g c * v j c) - ∑ i, soft s i * ∑ c, g c * v i c)

theorem rawRow_eq (V : Fin n → Fin m → EReal) (v : Fin n → Fin m → ℝ) (hV : ∀ j c, V j c = (v j c : EReal)) (o G : Fin m → EReal)
    (g : Fin m → ℝ) (hG : ∀ c, G c = (g c : EReal)) (ho : ∀ c, o c = ((∑ j, soft s j * v j c : ℝ) : EReal)) (j : Fin n) :
    rawRow S (lseOf S) V o G j = (gradRow s v g j : EReal) := by
  unfold rawRow scoreRow gradRow
  rw [probRow_eq hn s S hS, sum_real (fun c => G c * V j c) (fun c => g c * v j c) fun c => by rw [hG c, hV j c, EReal.coe_mul],
    sum_real (fun c => G c * o c) (fun c => g c * ∑ j, soft s j * v j c) fun c => by rw [hG c, ho c, EReal.coe_mul],
    ← EReal.coe_sub, ← EReal.coe_mul]
  refine congrArg _ (congrArg (fun t => soft s j * (_ - t)) ?_)
  simp only [Finset.mul_sum]
  rw [Finset.sum_comm]
  refine Finset.sum_congr rfl fun i _ => Finset.sum_congr rfl fun c _ => ?_
  ring

end Row

/-! ## The reference's row -/

section RefRow

variable {n m : ℕ} (hn : 0 < n) (s : Fin n → ℝ) (S : Fin n → EReal) (hS : ∀ j, S j = (s j : EReal))
include hn hS

/-- The exponentials and their sum, as reals with a common factor. -/
theorem row_exps : ∃ a : ℝ, 0 < a ∧ (∀ j, Ideal.exp (S j - Finset.univ.sup S) = ((Real.exp (s j) * a : ℝ) : EReal)) := by
  obtain ⟨μ, hμ⟩ := sup_coe hn s
  refine ⟨Real.exp (-μ), Real.exp_pos _, fun j => ?_⟩
  rw [show S = fun j => (s j : EReal) from funext hS, hμ, ← EReal.coe_sub, Ideal.exp_coe, sub_eq_add_neg, Real.exp_add]

/-- The probabilities divided out. -/
theorem div_eq (E : Fin n → EReal) (hE : ∀ j, E j = Ideal.exp (S j - Finset.univ.sup S)) (j : Fin n) :
    Ideal.div (E j) (∑ i, E i) = (soft s j : EReal) := by
  obtain ⟨a, ha, he⟩ := row_exps hn s S hS
  have hpos : 0 < ∑ i, Real.exp (s i) * a := by
    rw [← Finset.sum_mul]; exact mul_pos (sum_exp_pos hn s) ha
  rw [sum_real E _ fun i => (hE i).trans (he i), Ideal.div_coe hpos.ne', hE, he, ← EReal.coe_mul]
  refine congrArg _ ?_
  rw [← soft_of s _ a ha (fun _ => rfl) j, mul_one_div]

/-- The gradient of a row of scores as the derivative of a quotient. -/
theorem quot_eq (E : Fin n → EReal) (hE : ∀ j, E j = Ideal.exp (S j - Finset.univ.sup S)) (D : Fin n → EReal)
    (v : Fin n → Fin m → ℝ) (g : Fin m → ℝ) (hD : ∀ j, D j = ((∑ c, g c * v j c : ℝ) : EReal)) (j : Fin n) :
    (Ideal.div (D j) (∑ i, E i) + -(∑ i, D i * Ideal.div 1 ((∑ i, E i) * ∑ i, E i) * E i)) * E j = (gradRow s v g j : EReal) := by
  obtain ⟨a, ha, he⟩ := row_exps hn s S hS
  have hpos : 0 < ∑ i, Real.exp (s i) * a := by
    rw [← Finset.sum_mul]; exact mul_pos (sum_exp_pos hn s) ha
  have hsum : ∑ i, E i = ((∑ i, Real.exp (s i) * a : ℝ) : EReal) :=
    sum_real E _ fun i => (hE i).trans (he i)
  rw [hsum, ← EReal.coe_mul, Ideal.div_coe hpos.ne', Ideal.div_coe (mul_pos hpos hpos).ne', hD j, ← EReal.coe_mul,
    sum_real (fun i => D i * _ * E i)
      (fun i => (∑ c, g c * v i c) * (1 / ((∑ i, Real.exp (s i) * a) * ∑ i, Real.exp (s i) * a)) * (Real.exp (s i) * a))
      (fun i => by rw [hD i, hE i, he i, one_mul, ← EReal.coe_mul, ← EReal.coe_mul]), ← EReal.coe_neg,
    ← EReal.coe_add, hE j, he j, ← EReal.coe_mul]
  refine congrArg _ ?_
  unfold gradRow
  have hs : ∀ i, soft s i = Real.exp (s i) * a / ∑ i, Real.exp (s i) * a := fun i => (soft_of s _ a ha (fun _ => rfl) i).symm
  simp only [hs]
  generalize hM : (∑ i, Real.exp (s i) * a) = M at hpos
  have hM0 : M ≠ 0 := hpos.ne'
  rw [Finset.sum_congr rfl (fun i _ => show (∑ c, g c * v i c) * (1 / (M * M)) * (Real.exp (s i) * a)
    = (1 / M) * (Real.exp (s i) * a / M * ∑ c, g c * v i c) by field_simp), ← Finset.mul_sum]
  generalize (∑ i, Real.exp (s i) * a / M * ∑ c, g c * v i c) = T
  ring

end RefRow

/-! ## Rows lengthened by zeros -/

/-- Rows of `N` entries lengthened to `M` by zeros. -/
def padRow {N M : ℕ} (x : Fin N → EReal) (d : Fin M) : EReal := if h : d.val < N then x ⟨d.val, h⟩ else 0

theorem sum_pad {N M : ℕ} (x y : Fin N → EReal) : ∑ d : Fin (N + M), padRow x d * padRow y d = ∑ d, x d * y d := by
  rw [Fin.sum_univ_add]
  simp [padRow]

end Cert.Attn
-- ==== Proof.Host.lean ====
/- What the host lines around the two calls leave in the calls' operands and in the program's results, at an index. -/
module

public import proofs.«01_k».proof.Proof.BwdArrays
public import proofs.«01_k».proof.Proof.Math
public import Idealize.ShloMosaic.Lib.KernelVsHost
public import Idealize.ShloMosaic.Lib.IdealHost

@[expose] public section

set_option maxRecDepth 16384

noncomputable section

namespace Cert.Attn

open Idealize.ShloMosaic Idealize.ShloMosaic.TcCoe Idealize.ShloMosaic.ValueIdx Idealize.SL.Sem Cert.KernelIdeal Cert.KernelIdeal.Gen
open scoped BigOperators

/-- The scale of the scores, the real of its float word. -/
def cS : EReal := Ideal.ofBits .f32 0x3D93CD3A#32

/-- The host's logarithm of two. -/
def lnTwo : EReal := Ideal.log (Ideal.ofBits .f32 0x40000000#32)

theorem padded {M : ℕ} (x : (⟨3, ![4, M, 192]⟩ : Shape).Idx → EReal)
    (hp : (⟨3, ![4, M, 192]⟩ : Shape).Pads ![0, 0, 0] ![0, 0, 64] ![0, 0, 0] ⟨3, ![4, M, 256]⟩) (v : S_.Idx → EReal)
    (hv : v = fun _ => 0) (hu : 0 < S_.numel) (h : Fin 4) (r : Fin M) (d : Fin 256) :
    pad ⟨3, ![4, M, 256]⟩ ![0, 0, 0] ![0, 0, 64] ![0, 0, 0] x v hp hu (ix3 h r d) = padRow (fun d' => x (ix3 h r d')) d := by
  unfold padRow
  split
  next hd =>
    refine pad_apply_of_inside ![0, 0, 0] ![0, 0, 64] ![0, 0, 0] x v hp hu _ (ix3 h r ⟨d.val, hd⟩) ?_
    intro a
    match a with
    | ⟨0, _⟩ => exact (by simp [ix3] : h.val = 0 + h.val * (0 + 1))
    | ⟨1, _⟩ => exact (by simp [ix3] : r.val = 0 + r.val * (0 + 1))
    | ⟨2, _⟩ => exact (by simp [ix3] : d.val = 0 + d.val * (0 + 1))
  next hd =>
    rw [pad_apply_of_not_inside ![0, 0, 0] ![0, 0, 64] ![0, 0, 0] x v hp hu _ (2 : Fin 3), hv]
    intro hh
    have h2 : (d.val - 0) / (0 + 1) < 192 := hh.2.2
    omega

variable (m : (ℓ : Loc nD τ sig) → Buf (Elt Ideal) ℓ) (ρ : Dev nD → PrngReg)

theorem zero_word : (sitofp (F := Ideal) .f32 (constantI S_ 32 0#32)) = fun _ => (0 : EReal) := by
  funext i
  simp [sitofp, constantI, FloatOps.sitofp]

/-- The four argument arrays. -/
abbrev argQ (c : Dev nD) : S1x4x4096x192.Idx → EReal := m ((c : Thread nD τ).loc main_arg0)
abbrev argK (c : Dev nD) : S1x4x4352x192.Idx → EReal := m ((c : Thread nD τ).loc main_arg1)
abbrev argV (c : Dev nD) : S1x4x4352x128.Idx → EReal := m ((c : Thread nD τ).loc main_arg2)
abbrev argD (c : Dev nD) : S1x4096x512.Idx → EReal := m ((c : Thread nD τ).loc main_arg3)

/-! ## The operands of the two calls -/

theorem v5_q (c : Dev nD) : V5 m ρ c main_v6 = pad S4x4096x256 ![0, 0, 0] ![0, 0, 64] ![0, 0, 0]
    (mulf (F := Ideal) (φ := .f32) (shapeCast S4x4096x192 (argQ m c) shapeCasts_S1x4x4096x192_S4x4096x192)
      (broadcastInDim S4x4096x192 ![] bcast_S_S4x4096x192 (Host.divf (constant S_ .f32 0x3D93CD3A#32) (Host.log (constant S_ .f32 0x40000000#32)))))
    (sitofp (F := Ideal) .f32 (constantI S_ 32 0#32)) pads_S4x4096x192_S4x4096x256_000_000_0640 h_S_ := by
  show W5 m ρ c (Proc.devRef .tc main_v6) = _
  rw [W5_of m ρ c main_v6 (by decide), W4_of m ρ c main_v6 (by decide)]
  show StableHlo.after hostOps0_2 (W2 m ρ c) (Proc.devRef .tc main_v6) = _
  after_results
  show StableHlo.after hostOps0_1 (W1 m ρ c) (Proc.devRef .tc main_v5) = _
  after_results
  rfl

theorem v5_k (c : Dev nD) : V5 m ρ c main_v9 = pad S4x4352x256 ![0, 0, 0] ![0, 0, 64] ![0, 0, 0]
    (shapeCast S4x4352x192 (argK m c) shapeCasts_S1x4x4352x192_S4x4352x192)
    (sitofp (F := Ideal) .f32 (constantI S_ 32 0#32)) pads_S4x4352x192_S4x4352x256_000_000_0640 h_S_ := by
  show StableHlo.after hostOps0_4 (W4 m ρ c) (Proc.devRef .tc main_v9) = _
  after_results
  show StableHlo.after hostOps0_3 (W3 m ρ c) (Proc.devRef .tc main_v8) = _
  after_results
  rfl

theorem v5_v (c : Dev nD) : V5 m ρ c main_v11 = shapeCast S4x4352x128 (argV m c) shapeCasts_S1x4x4352x128_S4x4352x128 := by
  show StableHlo.after hostOps0_4 (W4 m ρ c) (Proc.devRef .tc main_v11) = _
  after_results
  rfl

/-- Row `r` of head `h` of the queries, scaled. -/
theorem head_q (c : Dev nD) (h : Fin 4) (r : Fin 4096) : head (V5 m ρ c main_v6) h r
    = padRow fun d => argQ m c (ix4 0 h r d) * Ideal.div cS lnTwo := by
  funext d
  refine (congrFun (v5_q m ρ c) (ix3 h r d)).trans ?_
  rw [padded (M := 4096) _ _ _ zero_word]
  exact congrArg (fun f : Fin 192 → EReal => padRow f d) (funext fun d' =>
    congrArg (· * Ideal.div cS lnTwo) (shapeCast_1abc_abc_apply (argQ m c) _ h r d'))

theorem head_k (c : Dev nD) (h : Fin 4) (j : Fin 4352) : head (V5 m ρ c main_v9) h j = padRow fun d => argK m c (ix4 0 h j d) := by
  funext d
  refine (congrFun (v5_k m ρ c) (ix3 h j d)).trans ?_
  rw [padded (M := 4352) _ _ _ zero_word]
  exact congrArg (fun f : Fin 192 → EReal => padRow f d) (funext fun d' => shapeCast_1abc_abc_apply (argK m c) _ h j d')

theorem head_v (c : Dev nD) (h : Fin 4) (j : Fin 4352) : head (V5 m ρ c main_v11) h j = fun d => argV m c (ix4 0 h j d) := by
  funext d
  refine (congrFun (v5_v m ρ c) (ix3 h j d)).trans ?_
  exact shapeCast_1abc_abc_apply _ _ _ _ _

theorem v7_q (c : Dev nD) : V7 m ρ c main_v6 = V5 m ρ c main_v6 :=
  (W7_of m ρ c main_v6 (by decide)).trans (W6_of m ρ c main_v6 (by decide))
theorem v7_k (c : Dev nD) : V7 m ρ c main_v9 = V5 m ρ c main_v9 :=
  (W7_of m ρ c main_v9 (by decide)).trans (W6_of m ρ c main_v9 (by decide))
theorem v7_v (c : Dev nD) : V7 m ρ c main_v11 = V5 m ρ c main_v11 :=
  (W7_of m ρ c main_v11 (by decide)).trans (W6_of m ρ c main_v11 (by decide))
theorem v7_o (c : Dev nD) : V7 m ρ c main_v12_0 = arrO (V5 m ρ c main_v6) (V5 m ρ c main_v9) (V5 m ρ c main_v11) :=
  (W7_of m ρ c main_v12_0 (by decide)).trans ((W6_arr m ρ c 3).trans (final_o (V5 m ρ) c))
theorem v7_l (c : Dev nD) : V7 m ρ c main_v12_1 = arrL (V5 m ρ c main_v6) (V5 m ρ c main_v9) :=
  (W7_of m ρ c main_v12_1 (by decide)).trans ((W6_arr m ρ c 4).trans (final_l (V5 m ρ) c))

/-- The cotangent by rows. -/
theorem v7_d (c : Dev nD) (r : Fin 4096) (e : Fin 512) : (show S4096x512.Idx → EReal from V7 m ρ c main_v13) (ix2 r e) = argD m c (ix3 0 r e) := by
  have h : V7 m ρ c main_v13 = shapeCast S4096x512 (argD m c) shapeCasts_S1x4096x512_S4096x512 := by
    show StableHlo.after hostOps1 (W6 m ρ c) (Proc.devRef .tc main_v13) = _
    after_results
    rw [W6_of m ρ c main_arg3 (by decide), W5_args m ρ c main_arg3 (by decide)]
    rfl
  rw [h]
  exact shapeCast_1ab_ab_apply _ _ _ _

/-! ## The results -/

/-- The operands, as plain arrays. -/
abbrev opQ (c : Dev nD) : S4x4096x256.Idx → EReal := V5 m ρ c main_v6
abbrev opK (c : Dev nD) : S4x4352x256.Idx → EReal := V5 m ρ c main_v9
abbrev opV (c : Dev nD) : S4x4352x128.Idx → EReal := V5 m ρ c main_v11
abbrev opO (c : Dev nD) : S4096x512.Idx → EReal := arrO (opQ m ρ c) (opK m ρ c) (opV m ρ c)
abbrev opL (c : Dev nD) : S4x4096x1.Idx → EReal := arrL (opQ m ρ c) (opK m ρ c)
abbrev opD (c : Dev nD) : S4096x512.Idx → EReal := V7 m ρ c main_v13

theorem w8_dq (c : Dev nD) : W8 m ρ c (Proc.devRef .tc main_v14_0)
    = arrDq (opQ m ρ c) (opK m ρ c) (opV m ρ c) (opO m ρ c) (opL m ρ c) (opD m ρ c) := by
  refine (W8_arr m ρ c 6).trans ((final_dq (V7 m ρ) c).trans ?_)
  rw [v7_q, v7_k, v7_v, v7_o, v7_l]

theorem w8_dk (c : Dev nD) : W8 m ρ c (Proc.devRef .tc main_v14_1)
    = arrDk (opQ m ρ c) (opK m ρ c) (opV m ρ c) (opO m ρ c) (opL m ρ c) (opD m ρ c) := by
  refine (W8_arr m ρ c 7).trans ((final_dk (V7 m ρ) c).trans ?_)
  rw [v7_q, v7_k, v7_v, v7_o, v7_l]

theorem w8_dv (c : Dev nD) : W8 m ρ c (Proc.devRef .tc main_v14_2) = arrDv (opQ m ρ c) (opK m ρ c) (opL m ρ c) (opD m ρ c) := by
  refine (W8_arr m ρ c 8).trans ((final_dv (V7 m ρ) c).trans ?_)
  rw [v7_q, v7_k, v7_l]

theorem w8_o (c : Dev nD) : W8 m ρ c (Proc.devRef .tc main_v12_0) = opO m ρ c :=
  (W8_of m ρ c main_v12_0 (by decide)).trans (v7_o m ρ c)

theorem w8_ln (c : Dev nD) : W8 m ρ c (Proc.devRef .tc main_v0) = (Host.log (F := Ideal) (constant S_ .f32 0x40000000#32)) := by
  rw [W8_of m ρ c main_v0 (by decide), W7_of m ρ c main_v0 (by decide), W6_of m ρ c main_v0 (by decide), W5_of m ρ c main_v0 (by decide),
    W4_of m ρ c main_v0 (by decide), W3_of m ρ c main_v0 (by decide), W2_of m ρ c main_v0 (by decide)]
  show StableHlo.after hostOps0 (W0 m ρ c) (Proc.devRef .tc main_v0) = _
  after_results

/-- The attention's output. -/
theorem res_o (c : Dev nD) (r : Fin 4096) (e : Fin 512) :
    (show S1x4096x512.Idx → EReal from W9 m ρ c (Proc.devRef .tc main_v15)) (ix3 0 r e) = opO m ρ c (ix2 r e) := by
  have h : W9 m ρ c (Proc.devRef .tc main_v15) = broadcastInDim S1x4096x512 ![1, 2] bcast_S4096x512_S1x4096x512_1_2 (opO m ρ c) := by
    show StableHlo.after hostOps2 (W8 m ρ c) (Proc.devRef .tc main_v15) = _
    after_results_simp
    rw [w8_o]
  rw [h]
  exact broadcastInDim_apply _ _ _ _ _ fun a => match a with | ⟨0, _⟩ => rfl | ⟨1, _⟩ => rfl

theorem res_dq (c : Dev nD) (h : Fin 4) (r : Fin 4096) (d : Fin 192) :
    (show S1x4x4096x192.Idx → EReal from W9 m ρ c (Proc.devRef .tc main_v19)) (ix4 0 h r d)
      = arrDq (opQ m ρ c) (opK m ρ c) (opV m ρ c) (opO m ρ c) (opL m ρ c) (opD m ρ c) (ix3 h r ⟨d.val, by omega⟩) * cS := by
  have hw : W9 m ρ c (Proc.devRef .tc main_v19) = broadcastInDim S1x4x4096x192 ![1, 2, 3] bcast_S4x4096x192_S1x4x4096x192_1_2_3
      (extractStridedSlice S4x4096x192 ![0, 0, 0] (mulf (F := Ideal) (φ := .f32)
        (arrDq (opQ m ρ c) (opK m ρ c) (opV m ρ c) (opO m ρ c) (opL m ρ c) (opD m ρ c))
        (broadcastInDim S4x4096x256 ![] bcast_S_S4x4096x256 (constant S_ .f32 0x3D93CD3A#32))) slices_S4x4096x256_S4x4096x192_0_0_0) := by
    show StableHlo.after hostOps2 (W8 m ρ c) (Proc.devRef .tc main_v19) = _
    after_results_simp
    rw [w8_dq]
  rw [hw]
  refine (broadcastInDim_apply _ _ _ _ (ix3 h r d) fun a => match a with | ⟨0, _⟩ => rfl | ⟨1, _⟩ => rfl | ⟨2, _⟩ => rfl).trans ?_
  refine (extractStridedSlice_apply _ _ _ _ (ix3 h r ⟨d.val, by omega⟩) fun a => ?_).trans rfl
  match a with
  | ⟨0, _⟩ => exact (Nat.zero_add _).symm
  | ⟨1, _⟩ => exact (Nat.zero_add _).symm
  | ⟨2, _⟩ => exact (Nat.zero_add _).symm

theorem res_dk (c : Dev nD) (h : Fin 4) (j : Fin 4352) (d : Fin 192) :
    (show S1x4x4352x192.Idx → EReal from W9 m ρ c (Proc.devRef .tc main_v24)) (ix4 0 h j d)
      = arrDk (opQ m ρ c) (opK m ρ c) (opV m ρ c) (opO m ρ c) (opL m ρ c) (opD m ρ c) (ix3 h ⟨d.val, by omega⟩ j) * lnTwo := by
  have hw : W9 m ρ c (Proc.devRef .tc main_v24) = broadcastInDim S1x4x4352x192 ![1, 2, 3] bcast_S4x4352x192_S1x4x4352x192_1_2_3
      (extractStridedSlice S4x4352x192 ![0, 0, 0] (mulf (F := Ideal) (φ := .f32)
        (transpose S4x4352x256 [0, 2, 1] (arrDk (opQ m ρ c) (opK m ρ c) (opV m ρ c) (opO m ρ c) (opL m ρ c) (opD m ρ c)) transposes_S4x256x4352_S4x4352x256_0_2_1)
        (broadcastInDim S4x4352x256 ![] bcast_S_S4x4352x256 (Host.log (constant S_ .f32 0x40000000#32)))) slices_S4x4352x256_S4x4352x192_0_0_0) := by
    show StableHlo.after hostOps2 (W8 m ρ c) (Proc.devRef .tc main_v24) = _
    after_results_simp
    rw [w8_dk, w8_ln]
  rw [hw]
  refine (broadcastInDim_apply _ _ _ _ (ix3 h j d) fun a => match a with | ⟨0, _⟩ => rfl | ⟨1, _⟩ => rfl | ⟨2, _⟩ => rfl).trans ?_
  refine (extractStridedSlice_apply _ _ _ _ (ix3 h j ⟨d.val, by omega⟩) fun a => ?_).trans ?_
  · match a with
    | ⟨0, _⟩ => exact (Nat.zero_add _).symm
    | ⟨1, _⟩ => exact (Nat.zero_add _).symm
    | ⟨2, _⟩ => exact (Nat.zero_add _).symm
  · exact congrArg (· * lnTwo) (transpose_ix3_021_apply _ _ _ _ _)

theorem res_dv (c : Dev nD) (h : Fin 4) (j : Fin 4352) (d : Fin 128) :
    (show S1x4x4352x128.Idx → EReal from W9 m ρ c (Proc.devRef .tc main_v26)) (ix4 0 h j d)
      = arrDv (opQ m ρ c) (opK m ρ c) (opL m ρ c) (opD m ρ c) (ix3 h d j) := by
  have hw : W9 m ρ c (Proc.devRef .tc main_v26) = broadcastInDim S1x4x4352x128 ![1, 2, 3] bcast_S4x4352x128_S1x4x4352x128_1_2_3
      (transpose S4x4352x128 [0, 2, 1] (arrDv (opQ m ρ c) (opK m ρ c) (opL m ρ c) (opD m ρ c)) transposes_S4x128x4352_S4x4352x128_0_2_1) := by
    show StableHlo.after hostOps2 (W8 m ρ c) (Proc.devRef .tc main_v26) = _
    after_results_simp
    rw [w8_dv]
  rw [hw]
  refine (broadcastInDim_apply _ _ _ _ (ix3 h j d) fun a => match a with | ⟨0, _⟩ => rfl | ⟨1, _⟩ => rfl | ⟨2, _⟩ => rfl).trans ?_
  exact transpose_ix3_021_apply _ _ _ _ _

end Cert.Attn
-- ==== Proof.Ref.lean ====
/- The reference's arrays by layers, each read at an index. -/
module

public import proofs.«01_k».proof.Proof.Kit
public import proofs.«01_k».proof.Proof.Gen.ReferenceIdeal.Run
public import Idealize.ShloMosaic.Lib.KernelVsHost
public import Idealize.ShloMosaic.Lib.IdealHost

@[expose] public section

set_option maxRecDepth 16384

noncomputable section

namespace Cert.Attn.Ref

open Idealize.ShloMosaic Idealize.ShloMosaic.TcCoe Idealize.ShloMosaic.ValueIdx Idealize.SL.Sem Cert.ReferenceIdeal Cert.ReferenceIdeal.Gen
open scoped BigOperators

/-! ## Operations at an index -/

theorem max_last_of {n0 n1 n2 n3 : ℕ} (x : FVec Ideal ⟨4, ![n0, n1, n2, n3]⟩ .f32)
    (h' : (⟨4, ![n0, n1, n2, n3]⟩ : Shape).Reduces [3] ⟨3, ![n0, n1, n2]⟩) (hφ : FKind.Formats .f32)
    (hacc : (0xFF800000#32 : BitVec 32) = FKind.maximumf.neutral .f32 hφ) (a : Fin n0) (b : Fin n1) (i : Fin n2) :
    multiReduction .maximumf [3] ⟨3, ![n0, n1, n2]⟩ x 0xFF800000#32 h' hφ hacc (ix3 a b i) = Finset.univ.sup fun k : Fin n3 => x (ix4 a b i k) := by
  rw [Ideal.multiReduction_maximumf_single]
  have e : (FloatOps.ofBits FTy.f32 0xFF800000#32 : Ideal .f32) = ⊥ := ofBits_negInf
  rw [e]
  refine (congrArg (fun f => Finset.fold max ⊥ f _) (?_ : _ = fun k : Fin n3 => x (ix4 a b i k))).trans rfl
  funext k
  refine congrArg x ?_
  funext d; match d with
  | ⟨0, _⟩ => rfl
  | ⟨1, _⟩ => rfl
  | ⟨2, _⟩ => rfl
  | ⟨3, _⟩ => rfl

/-- A maximum over the last axis, from minus infinity. -/
theorem max_last {n0 n1 n2 n3 : ℕ} (x : FVec Ideal ⟨4, ![n0, n1, n2, n3]⟩ .f32)
    (h : (⟨4, ![n0, n1, n2, n3]⟩ : Shape).ReducesTo [3] ⟨3, ![n0, n1, n2]⟩) (h' : (⟨4, ![n0, n1, n2, n3]⟩ : Shape).Reduces [3] ⟨3, ![n0, n1, n2]⟩)
    (hu : 0 < S_.numel) (a : Fin n0) (b : Fin n1) (i : Fin n2) :
    Host.reduce FloatOps.maximumf x (constant S_ .f32 0xFF800000#32) h hu (ix3 a b i) = Finset.univ.sup fun k : Fin n3 => x (ix4 a b i k) :=
  (congrFun (hostReduce_maximumf_eq_multiReduction x 0xFF800000#32 h hu h' (.inl rfl) rfl) _).trans (max_last_of x h' _ _ a b i)

/-- The greater of minus infinity and a value. -/
theorem max_negInf {t : Shape} (h : S_.BroadcastsInDim t ![]) (y : FVec Ideal t .f32) (i : t.Idx) :
    maximumf (broadcastInDim t ![] h (constant S_ .f32 0xFF800000#32)) y i = y i := by
  show max (Ideal.ofBits .f32 0xFF800000#32) (y i : EReal) = y i
  rw [ofBits_negInf, max_eq_right bot_le]

/-- A sum over the last axis, from zero. -/
theorem sum_last {n0 n1 n2 n3 : ℕ} (x : FVec Ideal ⟨4, ![n0, n1, n2, n3]⟩ .f32)
    (h : (⟨4, ![n0, n1, n2, n3]⟩ : Shape).ReducesTo [3] ⟨3, ![n0, n1, n2]⟩) (h' : (⟨4, ![n0, n1, n2, n3]⟩ : Shape).Reduces [3] ⟨3, ![n0, n1, n2]⟩)
    (hu : 0 < S_.numel) (a : Fin n0) (b : Fin n1) (i : Fin n2) :
    Host.reduceAdd x (constant S_ .f32 0x00000000#32) h hu (ix3 a b i) = ∑ k : Fin n3, x (ix4 a b i k) := by
  rw [hostReduceAdd_apply, Ideal.hostReduceAdd_single h h', constant_apply, Ideal.ofBits_zero_f32, zero_add]
  refine Finset.sum_congr rfl fun k _ => congrArg x ?_
  funext d; match d with
  | ⟨0, _⟩ => rfl
  | ⟨1, _⟩ => rfl
  | ⟨2, _⟩ => rfl
  | ⟨3, _⟩ => rfl

/-- A sum over the two unit axes of a stack of columns, from zero. -/
theorem sum_units (x : FVec Ideal S1x4x4096x1 .f32) (hu : 0 < S_.numel) (b : Fin 4) (i : Fin 4096) :
    Host.reduceAdd x (constant S_ .f32 0x00000000#32) reducesTo_S1x4x4096x1_S4x4096_d0_3 hu (ix2 b i) = x (ix4 0 b i 0) := by
  rw [hostReduceAdd_apply, constant_apply, Ideal.ofBits_zero_f32]
  unfold Ideal.hostReduceAdd
  rw [zero_add]
  have hd : ∀ y : S1x4x4096x1.Idx, (reducesTo_S1x4x4096x1_S4x4096_d0_3.drop y = ix2 b i) ↔ y = ix4 0 b i 0 := by
    intro y
    constructor
    · intro hy
      have h0 := congrArg (fun z => (z 0).val) hy
      have h1 := congrArg (fun z => (z 1).val) hy
      funext d; match d with
      | ⟨0, _⟩ => exact Fin.ext (by have := (y 0).isLt; change (y 0).val < 1 at this; show (y 0).val = 0; omega)
      | ⟨1, _⟩ => exact Fin.ext h0
      | ⟨2, _⟩ => exact Fin.ext h1
      | ⟨3, _⟩ => exact Fin.ext (by have := (y 3).isLt; change (y 3).val < 1 at this; show (y 3).val = 0; omega)
    · rintro rfl
      funext d; match d with
      | ⟨0, _⟩ => rfl
      | ⟨1, _⟩ => rfl
  rw [Finset.sum_congr (Finset.ext fun y => by simp only [Finset.mem_filter, Finset.mem_univ, true_and, Finset.mem_singleton]; exact hd y :
    Finset.univ.filter (fun y => reducesTo_S1x4x4096x1_S4x4096_d0_3.drop y = ix2 b i) = {ix4 0 b i 0}) (fun _ _ => rfl), Finset.sum_singleton]

/-- A column per row, spread along the last axis. -/
theorem spread4 (x : S1x4x4096x1.Idx → EReal) (b : Fin 4) (i : Fin 4096) (j : Fin 4352) :
    broadcastInDim S1x4x4096x4352 ![0, 1, 2, 3] bcast_S1x4x4096x1_S1x4x4096x4352_0_1_2_3 x (ix4 0 b i j) = x (ix4 0 b i 0) :=
  broadcastInDim_apply _ _ _ _ _ fun a => match a with | ⟨0, _⟩ => rfl | ⟨1, _⟩ => rfl | ⟨2, _⟩ => rfl | ⟨3, _⟩ => rfl

/-- One value per row, as a column. -/
theorem column (x : S1x4x4096.Idx → EReal) (b : Fin 4) (i : Fin 4096) :
    broadcastInDim S1x4x4096x1 ![0, 1, 2] bcast_S1x4x4096_S1x4x4096x1_0_1_2 x (ix4 0 b i 0) = x (ix3 0 b i) :=
  broadcastInDim_apply _ _ _ _ _ fun a => match a with | ⟨0, _⟩ => rfl | ⟨1, _⟩ => rfl | ⟨2, _⟩ => rfl

/-! ## The layers -/

variable (q : S1x4x4096x192.Idx → EReal) (k : S1x4x4352x192.Idx → EReal) (v : S1x4x4352x128.Idx → EReal) (g : S1x4096x512.Idx → EReal)

/-- The scale, as the reference writes it. -/
abbrev cR : EReal := Ideal.ofBits .f32 0x3D93CD3A#32

/-- The scores. -/
def score : FVec Ideal S1x4x4096x4352 .f32 :=
  mulf (Host.dotGeneral (φ₁ := .f32) (φ₂ := .f32) dot_S1x4x4096x192_S1x4x4352x192_S1x4x4096x4352_3_3_2_2_01_01 none q k)
    (broadcastInDim S1x4x4096x4352 ![] bcast_S_S1x4x4096x4352 (constant S_ .f32 0x3D93CD3A#32))

theorem score_at (b : Fin 4) (i : Fin 4096) (j : Fin 4352) : score q k (ix4 0 b i j) = (∑ d, q (ix4 0 b i d) * k (ix4 0 b j d)) * cR := by
  refine congrArg (· * cR) ?_
  simp only [Host.dotGeneral]
  rw [Ideal.dotGeneral_apply]
  refine contr1 dot_S1x4x4096x192_S1x4x4352x192_S1x4x4096x4352_3_3_2_2_01_01 192 rfl rfl q k _ _ _ ?_ ?_
  · exact fun x k h => funext fun a => Fin.ext (match a with | ⟨0, _⟩ => rfl | ⟨1, _⟩ => rfl | ⟨2, _⟩ => rfl | ⟨3, _⟩ => h)
  · exact fun x k h => funext fun a => Fin.ext (match a with | ⟨0, _⟩ => rfl | ⟨1, _⟩ => rfl | ⟨2, _⟩ => rfl | ⟨3, _⟩ => h)

/-- A row's greatest score. -/
def top : FVec Ideal S1x4x4096 .f32 :=
  maximumf (broadcastInDim S1x4x4096 ![] bcast_S_S1x4x4096 (constant S_ .f32 0xFF800000#32))
    (Host.reduce FloatOps.maximumf (score q k) (constant S_ .f32 0xFF800000#32) reducesTo_S1x4x4096x4352_S1x4x4096_d3 h_S_)

theorem top_at (b : Fin 4) (i : Fin 4096) : top q k (ix3 0 b i) = Finset.univ.sup fun j => score q k (ix4 0 b i j) := by
  exact (max_negInf _ _ _).trans (max_last (score q k) _ (by decide) _ 0 b i)

/-- The exponentials of the scores below their row's greatest. -/
def expo : FVec Ideal S1x4x4096x4352 .f32 :=
  Host.exp (subf (score q k) (broadcastInDim S1x4x4096x4352 ![0, 1, 2, 3] bcast_S1x4x4096x1_S1x4x4096x4352_0_1_2_3
    (broadcastInDim S1x4x4096x1 ![0, 1, 2] bcast_S1x4x4096_S1x4x4096x1_0_1_2 (top q k))))

theorem expo_at (b : Fin 4) (i : Fin 4096) (j : Fin 4352) :
    expo q k (ix4 0 b i j) = Ideal.exp (score q k (ix4 0 b i j) - top q k (ix3 0 b i)) :=
  congrArg (fun t => Ideal.exp (score q k (ix4 0 b i j) - t)) ((spread4 _ b i j).trans (column _ b i))

/-- Their sum over a row. -/
def mass : FVec Ideal S1x4x4096 .f32 :=
  Host.reduceAdd (expo q k) (constant S_ .f32 0x00000000#32) reducesTo_S1x4x4096x4352_S1x4x4096_d3 h_S_

theorem mass_at (b : Fin 4) (i : Fin 4096) : mass q k (ix3 0 b i) = ∑ j, expo q k (ix4 0 b i j) :=
  sum_last (expo q k) _ (by decide) _ 0 b i

/-- The same, as a column. -/
def massCol : FVec Ideal S1x4x4096x1 .f32 := broadcastInDim S1x4x4096x1 ![0, 1, 2] bcast_S1x4x4096_S1x4x4096x1_0_1_2 (mass q k)

/-- The probabilities. -/
def prob : FVec Ideal S1x4x4096x4352 .f32 :=
  Host.divf (expo q k) (broadcastInDim S1x4x4096x4352 ![0, 1, 2, 3] bcast_S1x4x4096x1_S1x4x4096x4352_0_1_2_3 (massCol q k))

theorem prob_at (b : Fin 4) (i : Fin 4096) (j : Fin 4352) :
    prob q k (ix4 0 b i j) = Ideal.div (expo q k (ix4 0 b i j)) (mass q k (ix3 0 b i)) :=
  congrArg (fun t => Ideal.div (expo q k (ix4 0 b i j)) t) ((spread4 _ b i j).trans (column _ b i))

/-- The attention's output, its heads side by side. -/
def out : FVec Ideal S1x4096x512 .f32 :=
  shapeCast S1x4096x512 (transpose S1x4096x4x128 [0, 2, 1, 3] (Host.dotGeneral (φ₁ := .f32) (φ₂ := .f32)
    dot_S1x4x4096x4352_S1x4x4352x128_S1x4x4096x128_3_2_2_3_01_01 none (prob q k) v)
    transposes_S1x4x4096x128_S1x4096x4x128_0_2_1_3) shapeCasts_S1x4096x4x128_S1x4096x512

theorem out_at (i : Fin 4096) (b : Fin 4) (d : Fin 128) (e : Fin 512) (he : e.val = 128 * b.val + d.val) :
    out q k v (ix3 0 i e) = ∑ j, prob q k (ix4 0 b i j) * v (ix4 0 b j d) := by
  refine (shapeCast_apply _ _ _ (ix4 0 i b d) ?_).trans ?_
  · rw [Shape.rowMajor_val_four, Shape.rowMajor_val_three]
    simp [ix4, ix3]
    omega
  refine (transpose_apply _ _ _ _ (ix4 0 b i d) fun a => match a with | ⟨0, _⟩ => rfl | ⟨1, _⟩ => rfl | ⟨2, _⟩ => rfl | ⟨3, _⟩ => rfl).trans ?_
  simp only [Host.dotGeneral]
  rw [Ideal.dotGeneral_apply]
  refine contr1 dot_S1x4x4096x4352_S1x4x4352x128_S1x4x4096x128_3_2_2_3_01_01 4352 rfl rfl (prob q k) v _ _ _ ?_ ?_
  · exact fun x k h => funext fun a => Fin.ext (match a with | ⟨0, _⟩ => rfl | ⟨1, _⟩ => rfl | ⟨2, _⟩ => rfl | ⟨3, _⟩ => h)
  · exact fun x k h => funext fun a => Fin.ext (match a with | ⟨0, _⟩ => rfl | ⟨1, _⟩ => rfl | ⟨2, _⟩ => h | ⟨3, _⟩ => rfl)

/-- The cotangent by heads. -/
def cot : FVec Ideal S1x4x4096x128 .f32 :=
  transpose S1x4x4096x128 [0, 2, 1, 3] (shapeCast S1x4096x4x128 g shapeCasts_S1x4096x512_S1x4096x4x128) transposes_S1x4096x4x128_S1x4x4096x128_0_2_1_3

theorem cot_at (b : Fin 4) (i : Fin 4096) (d : Fin 128) (e : Fin 512) (he : e.val = 128 * b.val + d.val) : cot g (ix4 0 b i d) = g (ix3 0 i e) := by
  refine (transpose_apply _ _ _ _ (ix4 0 i b d) fun a => match a with | ⟨0, _⟩ => rfl | ⟨1, _⟩ => rfl | ⟨2, _⟩ => rfl | ⟨3, _⟩ => rfl).trans ?_
  refine shapeCast_apply _ _ _ (ix3 0 i e) ?_
  rw [Shape.rowMajor_val_four, Shape.rowMajor_val_three]
  simp [ix4, ix3]
  omega

/-- The gradient of the values. -/
def dv : FVec Ideal S1x4x4352x128 .f32 :=
  transpose S1x4x4352x128 [0, 1, 3, 2] (Host.dotGeneral (φ₁ := .f32) (φ₂ := .f32)
    dot_S1x4x4096x128_S1x4x4096x4352_S1x4x128x4352_2_2_3_3_01_01 none (cot g) (prob q k))
    transposes_S1x4x128x4352_S1x4x4352x128_0_1_3_2

theorem dv_at (b : Fin 4) (j : Fin 4352) (d : Fin 128) : dv q k g (ix4 0 b j d) = ∑ i, cot g (ix4 0 b i d) * prob q k (ix4 0 b i j) := by
  refine (transpose_apply _ _ _ _ (ix4 0 b d j) fun a => match a with | ⟨0, _⟩ => rfl | ⟨1, _⟩ => rfl | ⟨2, _⟩ => rfl | ⟨3, _⟩ => rfl).trans ?_
  simp only [Host.dotGeneral]
  rw [Ideal.dotGeneral_apply]
  refine contr1 dot_S1x4x4096x128_S1x4x4096x4352_S1x4x128x4352_2_2_3_3_01_01 4096 rfl rfl (cot g) (prob q k) _ _ _ ?_ ?_
  · exact fun x k h => funext fun a => Fin.ext (match a with | ⟨0, _⟩ => rfl | ⟨1, _⟩ => rfl | ⟨2, _⟩ => h | ⟨3, _⟩ => rfl)
  · exact fun x k h => funext fun a => Fin.ext (match a with | ⟨0, _⟩ => rfl | ⟨1, _⟩ => rfl | ⟨2, _⟩ => h | ⟨3, _⟩ => rfl)

/-- The cotangent of the probabilities. -/
def dp : FVec Ideal S1x4x4096x4352 .f32 := Host.dotGeneral (φ₁ := .f32) (φ₂ := .f32) dot_S1x4x4096x128_S1x4x4352x128_S1x4x4096x4352_3_3_2_2_01_01 none (cot g) v

theorem dp_at (b : Fin 4) (i : Fin 4096) (j : Fin 4352) : dp v g (ix4 0 b i j) = ∑ d, cot g (ix4 0 b i d) * v (ix4 0 b j d) := by
  unfold dp
  simp only [Host.dotGeneral]
  rw [Ideal.dotGeneral_apply]
  refine contr1 dot_S1x4x4096x128_S1x4x4352x128_S1x4x4096x4352_3_3_2_2_01_01 128 rfl rfl (cot g) v _ _ _ ?_ ?_
  · exact fun x k h => funext fun a => Fin.ext (match a with | ⟨0, _⟩ => rfl | ⟨1, _⟩ => rfl | ⟨2, _⟩ => rfl | ⟨3, _⟩ => h)
  · exact fun x k h => funext fun a => Fin.ext (match a with | ⟨0, _⟩ => rfl | ⟨1, _⟩ => rfl | ⟨2, _⟩ => rfl | ⟨3, _⟩ => h)

/-- The reciprocal of the square of a row's mass. -/
def recip : FVec Ideal S1x4x4096x1 .f32 :=
  Host.divf (broadcastInDim S1x4x4096x1 ![] bcast_S_S1x4x4096x1 (constant S_ .f32 0x3F800000#32)) (mulf (massCol q k) (massCol q k))

theorem recip_at (b : Fin 4) (i : Fin 4096) : recip q k (ix4 0 b i 0) = Ideal.div 1 (mass q k (ix3 0 b i) * mass q k (ix3 0 b i)) := by
  show Ideal.div (Ideal.ofBits .f32 0x3F800000#32) (massCol q k (ix4 0 b i 0) * massCol q k (ix4 0 b i 0)) = _
  rw [Ideal.ofBits_one_f32, show massCol q k (ix4 0 b i 0) = _ from column _ b i]

/-- The gradient through a row's mass, with its sign. -/
def throughMass : FVec Ideal S4x4096 .f32 :=
  Host.reduceAdd (Host.negf (shapeCast S1x4x4096x1 (Host.reduceAdd
    (mulf (mulf (dp v g) (broadcastInDim S1x4x4096x4352 ![0, 1, 2, 3] bcast_S1x4x4096x1_S1x4x4096x4352_0_1_2_3 (recip q k))) (expo q k))
    (constant S_ .f32 0x00000000#32) reducesTo_S1x4x4096x4352_S1x4x4096_d3 h_S_) shapeCasts_S1x4x4096_S1x4x4096x1))
    (constant S_ .f32 0x00000000#32) reducesTo_S1x4x4096x1_S4x4096_d0_3 h_S_

theorem throughMass_at (b : Fin 4) (i : Fin 4096) :
    throughMass q k v g (ix2 b i) = -(∑ j, dp v g (ix4 0 b i j) * recip q k (ix4 0 b i 0) * expo q k (ix4 0 b i j)) := by
  refine (sum_units _ _ b i).trans (congrArg (fun t : EReal => -t) ?_)
  refine (shapeCast_apply _ _ _ (ix3 0 b i) ?_).trans ?_
  · rw [Shape.rowMajor_val_four, Shape.rowMajor_val_three]
    simp [ix4, ix3]
  refine (sum_last _ _ (by decide) _ 0 b i).trans (Finset.sum_congr rfl fun j _ => ?_)
  exact congrArg (fun t => dp v g (ix4 0 b i j) * t * expo q k (ix4 0 b i j)) (spread4 _ b i j)

/-- The gradient of the scaled scores, times the scale. -/
def ds : FVec Ideal S1x4x4096x4352 .f32 :=
  mulf (mulf (addf (Host.divf (dp v g) (broadcastInDim S1x4x4096x4352 ![0, 1, 2, 3] bcast_S1x4x4096x1_S1x4x4096x4352_0_1_2_3 (massCol q k)))
      (broadcastInDim S1x4x4096x4352 ![0, 1, 2] bcast_S1x4x4096_S1x4x4096x4352_0_1_2
        (broadcastInDim S1x4x4096 ![1, 2] bcast_S4x4096_S1x4x4096_1_2 (throughMass q k v g)))) (expo q k))
    (broadcastInDim S1x4x4096x4352 ![] bcast_S_S1x4x4096x4352 (constant S_ .f32 0x3D93CD3A#32))

theorem ds_at (b : Fin 4) (i : Fin 4096) (j : Fin 4352) : ds q k v g (ix4 0 b i j)
    = (Ideal.div (dp v g (ix4 0 b i j)) (mass q k (ix3 0 b i)) + throughMass q k v g (ix2 b i)) * expo q k (ix4 0 b i j) * cR := by
  have e1 : broadcastInDim S1x4x4096x4352 ![0, 1, 2, 3] bcast_S1x4x4096x1_S1x4x4096x4352_0_1_2_3 (massCol q k) (ix4 0 b i j)
      = mass q k (ix3 0 b i) := (spread4 _ b i j).trans (column _ b i)
  have e2 : broadcastInDim S1x4x4096x4352 ![0, 1, 2] bcast_S1x4x4096_S1x4x4096x4352_0_1_2
      (broadcastInDim S1x4x4096 ![1, 2] bcast_S4x4096_S1x4x4096_1_2 (throughMass q k v g)) (ix4 0 b i j) = throughMass q k v g (ix2 b i) :=
    (broadcastInDim_apply _ _ _ _ (ix3 0 b i) fun a => match a with | ⟨0, _⟩ => rfl | ⟨1, _⟩ => rfl | ⟨2, _⟩ => rfl).trans
      (broadcastInDim_apply _ _ _ _ (ix2 b i) fun a => match a with | ⟨0, _⟩ => rfl | ⟨1, _⟩ => rfl)
  rw [← e1, ← e2]
  rfl

/-- The gradient of the keys. -/
def dk : FVec Ideal S1x4x4352x192 .f32 := Host.dotGeneral (φ₁ := .f32) (φ₂ := .f32) dot_S1x4x4096x4352_S1x4x4096x192_S1x4x4352x192_2_2_3_3_01_01 none (ds q k v g) q

theorem dk_at (b : Fin 4) (j : Fin 4352) (d : Fin 192) : dk q k v g (ix4 0 b j d) = ∑ i, ds q k v g (ix4 0 b i j) * q (ix4 0 b i d) := by
  unfold dk
  simp only [Host.dotGeneral]
  rw [Ideal.dotGeneral_apply]
  refine contr1 dot_S1x4x4096x4352_S1x4x4096x192_S1x4x4352x192_2_2_3_3_01_01 4096 rfl rfl (ds q k v g) q _ _ _ ?_ ?_
  · exact fun x k h => funext fun a => Fin.ext (match a with | ⟨0, _⟩ => rfl | ⟨1, _⟩ => rfl | ⟨2, _⟩ => h | ⟨3, _⟩ => rfl)
  · exact fun x k h => funext fun a => Fin.ext (match a with | ⟨0, _⟩ => rfl | ⟨1, _⟩ => rfl | ⟨2, _⟩ => h | ⟨3, _⟩ => rfl)

/-- The gradient of the queries. -/
def dq : FVec Ideal S1x4x4096x192 .f32 := Host.dotGeneral (φ₁ := .f32) (φ₂ := .f32) dot_S1x4x4096x4352_S1x4x4352x192_S1x4x4096x192_3_2_2_3_01_01 none (ds q k v g) k

theorem dq_at (b : Fin 4) (i : Fin 4096) (d : Fin 192) : dq q k v g (ix4 0 b i d) = ∑ j, ds q k v g (ix4 0 b i j) * k (ix4 0 b j d) := by
  unfold dq
  simp only [Host.dotGeneral]
  rw [Ideal.dotGeneral_apply]
  refine contr1 dot_S1x4x4096x4352_S1x4x4352x192_S1x4x4096x192_3_2_2_3_01_01 4352 rfl rfl (ds q k v g) k _ _ _ ?_ ?_
  · exact fun x k h => funext fun a => Fin.ext (match a with | ⟨0, _⟩ => rfl | ⟨1, _⟩ => rfl | ⟨2, _⟩ => rfl | ⟨3, _⟩ => h)
  · exact fun x k h => funext fun a => Fin.ext (match a with | ⟨0, _⟩ => rfl | ⟨1, _⟩ => rfl | ⟨2, _⟩ => h | ⟨3, _⟩ => rfl)

/-! ## The run -/

variable (m : (ℓ : Loc nD τ sig) → Buf (Elt Ideal) ℓ) (ρ : Dev nD → PrngReg)

/-- The four argument arrays. -/
abbrev argQ (c : Dev nD) : S1x4x4096x192.Idx → EReal := m ((c : Thread nD τ).loc main_arg0)
abbrev argK (c : Dev nD) : S1x4x4352x192.Idx → EReal := m ((c : Thread nD τ).loc main_arg1)
abbrev argV (c : Dev nD) : S1x4x4352x128.Idx → EReal := m ((c : Thread nD τ).loc main_arg2)
abbrev argD (c : Dev nD) : S1x4096x512.Idx → EReal := m ((c : Thread nD τ).loc main_arg3)

/-- The reference ends with the four arrays above in its results. -/
theorem run_ref : θ_run defs (onTc (τ := τ) (main (F := Ideal))) ⟨m, fun _ => 0, ρ⟩ fun r => ∀ c : Dev nD,
    r.2.mem ((c.tc : Thread nD τ).loc main_v33) = out (argQ m c) (argK m c) (argV m c)
    ∧ r.2.mem ((c.tc : Thread nD τ).loc main_v55) = dq (argQ m c) (argK m c) (argV m c) (argD m c)
    ∧ r.2.mem ((c.tc : Thread nD τ).loc main_v54) = dk (argQ m c) (argK m c) (argV m c) (argD m c)
    ∧ r.2.mem ((c.tc : Thread nD τ).loc main_v37) = dv (argQ m c) (argK m c) (argD m c) :=
  (θ_run defs _ _).mono (fun _ h c => ⟨(h c).1, (h c).2.1, (h c).2.2.1, (h c).2.2.2.1⟩) (Cert.ReferenceIdeal.Value.run (F := Ideal) m ρ)

end Cert.Attn.Ref
-- ==== Proof.Equal.lean ====
/- At finite arguments the kernel's four results are the reference's. -/
module

public import proofs.«01_k».proof.Proof.Host
public import proofs.«01_k».proof.Proof.Ref
public import proofs.«01_k».proof.Proof.Math

@[expose] public section

set_option maxRecDepth 16384

noncomputable section

namespace Cert.Attn

open Idealize.ShloMosaic Idealize.ShloMosaic.TcCoe Idealize.ShloMosaic.ValueIdx Idealize.SL.Sem Cert.KernelIdeal Cert.KernelIdeal.Gen
open scoped BigOperators

theorem lnTwo_eq : lnTwo = ((Real.log 2 : ℝ) : EReal) := by
  have h : Ideal.ofBits .f32 0x40000000#32 = ((2 : ℝ) : EReal) := by
    simp [Ideal.ofBits, Ideal.ieee]
    rw [← EReal.coe_mul]
    norm_num
  unfold lnTwo
  rw [h, Ideal.log_coe, if_neg (by norm_num)]

theorem scale_real : ∃ r : ℝ, cS = (r : EReal) := by
  simp [cS, Ideal.ofBits, Ideal.ieee]
  exact ⟨_, (EReal.coe_mul _ _).symm⟩

/-! ## Rows over the reals -/

variable (q : S1x4x4096x192.Idx → ℝ) (k : S1x4x4352x192.Idx → ℝ) (v : S1x4x4352x128.Idx → ℝ) (g : S1x4096x512.Idx → ℝ) (cs : ℝ)

/-- A row of scaled scores. -/
def sc (h : Fin 4) (i : Fin 4096) (j : Fin 4352) : ℝ := (∑ d, q (ix4 0 h i d) * k (ix4 0 h j d)) * cs

/-- The values of a head, by rows. -/
def vals (h : Fin 4) (j : Fin 4352) (d : Fin 128) : ℝ := v (ix4 0 h j d)

/-- A row of the cotangent, within a head. -/
def cots (h : Fin 4) (i : Fin 4096) (d : Fin 128) : ℝ := g (ix3 0 i (colAt h d))

/-- The gradient of the scaled scores. -/
def grad (h : Fin 4) (i : Fin 4096) (j : Fin 4352) : ℝ := gradRow (sc q k cs h i) (vals v h) (cots g h i) j

/-! ## The kernel's side -/

section Kernel

variable (m : (ℓ : Loc nD τ sig) → Buf (Elt Ideal) ℓ) (ρ : Dev nD → PrngReg) (c : Dev nD)
variable (hq : ∀ y, argQ m c y = (q y : EReal)) (hk : ∀ y, argK m c y = (k y : EReal)) (hv : ∀ y, argV m c y = (v y : EReal))
  (hg : ∀ y, argD m c y = (g y : EReal)) (hcs : cS = (cs : EReal))

include hcs hq in
theorem opQ_at (h : Fin 4) (i : Fin 4096) (d : Fin 192) :
    opQ m ρ c (ix3 h i ⟨d.val, by omega⟩) = ((q (ix4 0 h i d) * (cs / Real.log 2) : ℝ) : EReal) := by
  have h2 : Real.log 2 ≠ 0 := (Real.log_pos (by norm_num)).ne'
  refine (congrFun (head_q m ρ c h i) ⟨d.val, by omega⟩).trans ?_
  unfold padRow
  rw [dif_pos d.isLt]
  show argQ m c (ix4 0 h i d) * Ideal.div cS lnTwo = _
  rw [hq, hcs, lnTwo_eq, Ideal.div_coe h2, ← EReal.coe_mul, ← EReal.coe_mul]
  refine congrArg _ ?_
  rw [mul_one_div]

include hk in
theorem opK_at (h : Fin 4) (j : Fin 4352) (d : Fin 192) : opK m ρ c (ix3 h j ⟨d.val, by omega⟩) = (k (ix4 0 h j d) : EReal) := by
  refine (congrFun (head_k m ρ c h j) ⟨d.val, by omega⟩).trans ?_
  unfold padRow
  rw [dif_pos d.isLt]
  exact hk _

include hv in
theorem opV_at (h : Fin 4) (j : Fin 4352) (d : Fin 128) : head (opV m ρ c) h j d = (vals v h j d : EReal) := by
  rw [show head (opV m ρ c) h j = _ from head_v m ρ c h j]
  exact hv _

include hg in
theorem opD_at (h : Fin 4) (i : Fin 4096) (d : Fin 128) : opD m ρ c (ix2 i (colAt h d)) = (cots g h i d : EReal) :=
  (v7_d m ρ c i (colAt h d)).trans (hg _)

include hq hk hcs in
theorem scores_eq (h : Fin 4) (i : Fin 4096) (j : Fin 4352) :
    scores (opQ m ρ c) (opK m ρ c) h i j = ((sc q k cs h i j / Real.log 2 : ℝ) : EReal) := by
  have h2 : Real.log 2 ≠ 0 := (Real.log_pos (by norm_num)).ne'
  unfold scores scoreRow
  rw [show head (opQ m ρ c) h i = _ from head_q m ρ c h i, show head (opK m ρ c) h j = _ from head_k m ρ c h j]
  refine (sum_pad (N := 192) (M := 64) _ _).trans ?_
  rw [sum_real _ (fun d => q (ix4 0 h i d) * k (ix4 0 h j d) * (cs / Real.log 2)) fun d => ?_]
  · refine congrArg _ ?_
    unfold sc
    rw [← Finset.sum_mul, mul_div_assoc]
  · rw [hq, hk, hcs, lnTwo_eq, Ideal.div_coe h2, ← EReal.coe_mul, ← EReal.coe_mul, ← EReal.coe_mul]
    refine congrArg _ ?_
    ring

include hq hk hv hcs in
theorem opO_at (h : Fin 4) (i : Fin 4096) (d : Fin 128) (e : Fin 512) (hh : headOf e = h) (hd : colOf e = d) :
    opO m ρ c (ix2 i e) = ((∑ j, soft (sc q k cs h i) j * vals v h j d : ℝ) : EReal) := by
  subst hh hd
  exact outRow_eq (by norm_num) (sc q k cs (headOf e) i) _ (scores_eq q k cs m ρ c hq hk hcs (headOf e) i) _ (vals v (headOf e))
    (opV_at v m ρ c hv (headOf e)) (colOf e)

include hq hk hcs in
theorem probA_eq (h : Fin 4) (i : Fin 4096) (j : Fin 4352) :
    probA (opQ m ρ c) (opK m ρ c) (opL m ρ c) h i j = (soft (sc q k cs h i) j : EReal) :=
  probRow_eq (by norm_num) (sc q k cs h i) _ (scores_eq q k cs m ρ c hq hk hcs h i) j

theorem headOf_colAt (h : Fin 4) (d : Fin 128) : headOf (colAt h d) = h :=
  Fin.ext (show (128 * h.val + d.val) / 128 = h.val by omega)

theorem colOf_colAt (h : Fin 4) (d : Fin 128) : colOf (colAt h d) = d :=
  Fin.ext (show (128 * h.val + d.val) % 128 = d.val by omega)

include hq hk hv hg hcs in
theorem rawA_eq (h : Fin 4) (i : Fin 4096) (j : Fin 4352) :
    rawA (opQ m ρ c) (opK m ρ c) (opV m ρ c) (opO m ρ c) (opL m ρ c) (opD m ρ c) h i j = (grad q k v g cs h i j : EReal) :=
  rawRow_eq (by norm_num) (sc q k cs h i) _ (scores_eq q k cs m ρ c hq hk hcs h i) _ (vals v h) (opV_at v m ρ c hv h) _ _ (cots g h i)
    (opD_at g m ρ c hg h i) (fun d => opO_at q k v cs m ρ c hq hk hv hcs h i d _ (headOf_colAt h d) (colOf_colAt h d)) j

include hq hk hv hg hcs in
theorem kernel_dq (h : Fin 4) (i : Fin 4096) (d : Fin 192) :
    (show S1x4x4096x192.Idx → EReal from W9 m ρ c (Proc.devRef .tc main_v19)) (ix4 0 h i d)
      = ((∑ j, grad q k v g cs h i j * cs * k (ix4 0 h j d) : ℝ) : EReal) := by
  rw [res_dq, show arrDq _ _ _ _ _ _ _ = _ from sum_real _ (fun j => grad q k v g cs h i j * k (ix4 0 h j d)) fun j => ?_, hcs,
    ← EReal.coe_mul, Finset.sum_mul]
  · exact congrArg _ (Finset.sum_congr rfl fun j _ => by ring)
  · rw [EReal.coe_mul, ← rawA_eq q k v g cs m ρ c hq hk hv hg hcs h i j, ← opK_at k m ρ c hk h j d]
    rfl

include hq hk hv hg hcs in
theorem kernel_dk (h : Fin 4) (j : Fin 4352) (d : Fin 192) :
    (show S1x4x4352x192.Idx → EReal from W9 m ρ c (Proc.devRef .tc main_v24)) (ix4 0 h j d)
      = ((∑ i, grad q k v g cs h i j * cs * q (ix4 0 h i d) : ℝ) : EReal) := by
  have h2 : Real.log 2 ≠ 0 := (Real.log_pos (by norm_num)).ne'
  rw [res_dk, show arrDk _ _ _ _ _ _ _ = _ from
      sum_real _ (fun i => q (ix4 0 h i d) * (cs / Real.log 2) * grad q k v g cs h i j) fun i => ?_, lnTwo_eq,
    ← EReal.coe_mul, Finset.sum_mul]
  · exact congrArg _ (Finset.sum_congr rfl fun j _ => by field_simp)
  · rw [EReal.coe_mul, ← rawA_eq q k v g cs m ρ c hq hk hv hg hcs h i j, ← opQ_at q cs m ρ c hq hcs h i d]
    rfl

include hq hk hg hcs in
theorem kernel_dv (h : Fin 4) (j : Fin 4352) (d : Fin 128) :
    (show S1x4x4352x128.Idx → EReal from W9 m ρ c (Proc.devRef .tc main_v26)) (ix4 0 h j d)
      = ((∑ i, cots g h i d * soft (sc q k cs h i) j : ℝ) : EReal) := by
  rw [res_dv]
  refine sum_real _ _ fun i => ?_
  rw [EReal.coe_mul, ← probA_eq q k cs m ρ c hq hk hcs h i j, ← opD_at g m ρ c hg h i d]

include hq hk hv hcs in
theorem kernel_o (h : Fin 4) (i : Fin 4096) (d : Fin 128) :
    (show S1x4096x512.Idx → EReal from W9 m ρ c (Proc.devRef .tc main_v15)) (ix3 0 i (colAt h d))
      = ((∑ j, soft (sc q k cs h i) j * vals v h j d : ℝ) : EReal) :=
  (res_o m ρ c i _).trans (opO_at q k v cs m ρ c hq hk hv hcs h i d _ (headOf_colAt h d) (colOf_colAt h d))

end Kernel

/-! ## The reference's side -/

section Reference

variable (Q : S1x4x4096x192.Idx → EReal) (K : S1x4x4352x192.Idx → EReal) (V : S1x4x4352x128.Idx → EReal) (G : S1x4096x512.Idx → EReal)
variable (hq : ∀ y, Q y = (q y : EReal)) (hk : ∀ y, K y = (k y : EReal)) (hv : ∀ y, V y = (v y : EReal))
  (hg : ∀ y, G y = (g y : EReal)) (hcs : cS = (cs : EReal))

include hq hk hcs in
theorem ref_score (h : Fin 4) (i : Fin 4096) (j : Fin 4352) : Ref.score Q K (ix4 0 h i j) = (sc q k cs h i j : EReal) := by
  rw [Ref.score_at, sum_real _ (fun d => q (ix4 0 h i d) * k (ix4 0 h j d)) fun d => by rw [hq, hk, EReal.coe_mul],
    show Ref.cR = _ from hcs, ← EReal.coe_mul]
  rfl

theorem ref_expo (h : Fin 4) (i : Fin 4096) (j : Fin 4352) : Ref.expo Q K (ix4 0 h i j)
    = Ideal.exp (Ref.score Q K (ix4 0 h i j) - Finset.univ.sup fun j => Ref.score Q K (ix4 0 h i j)) := by
  rw [Ref.expo_at, Ref.top_at]

include hq hk hcs in
theorem ref_prob (h : Fin 4) (i : Fin 4096) (j : Fin 4352) : Ref.prob Q K (ix4 0 h i j) = (soft (sc q k cs h i) j : EReal) := by
  rw [Ref.prob_at, Ref.mass_at]
  exact div_eq (by norm_num) (sc q k cs h i) (fun j => Ref.score Q K (ix4 0 h i j)) (ref_score q k cs Q K hq hk hcs h i)
    (fun j => Ref.expo Q K (ix4 0 h i j)) (ref_expo Q K h i) j

include hg in
theorem ref_cot (h : Fin 4) (i : Fin 4096) (d : Fin 128) : Ref.cot G (ix4 0 h i d) = (cots g h i d : EReal) :=
  (Ref.cot_at G h i d (colAt h d) rfl).trans (hg _)

include hv hg in
theorem ref_dp (h : Fin 4) (i : Fin 4096) (j : Fin 4352) : Ref.dp V G (ix4 0 h i j) = ((∑ d, cots g h i d * vals v h j d : ℝ) : EReal) := by
  rw [Ref.dp_at]
  exact sum_real _ _ fun d => by rw [ref_cot g G hg, hv, EReal.coe_mul]; rfl

include hq hk hv hg hcs in
theorem ref_ds (h : Fin 4) (i : Fin 4096) (j : Fin 4352) : Ref.ds Q K V G (ix4 0 h i j) = ((grad q k v g cs h i j * cs : ℝ) : EReal) := by
  rw [Ref.ds_at, Ref.throughMass_at, Ref.recip_at, Ref.mass_at, EReal.coe_mul, show Ref.cR = _ from hcs]
  refine congrArg (· * (cs : EReal)) ?_
  exact quot_eq (by norm_num) (sc q k cs h i) (fun j => Ref.score Q K (ix4 0 h i j)) (ref_score q k cs Q K hq hk hcs h i)
    (fun j => Ref.expo Q K (ix4 0 h i j)) (ref_expo Q K h i) (fun j => Ref.dp V G (ix4 0 h i j)) (vals v h) (cots g h i)
    (ref_dp v g V G hv hg h i) j

include hq hk hv hg hcs in
theorem ref_dq (h : Fin 4) (i : Fin 4096) (d : Fin 192) :
    Ref.dq Q K V G (ix4 0 h i d) = ((∑ j, grad q k v g cs h i j * cs * k (ix4 0 h j d) : ℝ) : EReal) := by
  rw [Ref.dq_at]
  exact sum_real _ _ fun j => by rw [ref_ds q k v g cs Q K V G hq hk hv hg hcs, hk, ← EReal.coe_mul]

include hq hk hv hg hcs in
theorem ref_dk (h : Fin 4) (j : Fin 4352) (d : Fin 192) :
    Ref.dk Q K V G (ix4 0 h j d) = ((∑ i, grad q k v g cs h i j * cs * q (ix4 0 h i d) : ℝ) : EReal) := by
  rw [Ref.dk_at]
  exact sum_real _ _ fun i => by rw [ref_ds q k v g cs Q K V G hq hk hv hg hcs, hq, ← EReal.coe_mul]

include hq hk hg hcs in
theorem ref_dv (h : Fin 4) (j : Fin 4352) (d : Fin 128) :
    Ref.dv Q K G (ix4 0 h j d) = ((∑ i, cots g h i d * soft (sc q k cs h i) j : ℝ) : EReal) := by
  rw [Ref.dv_at]
  exact sum_real _ _ fun i => by rw [ref_cot g G hg, ref_prob q k cs Q K hq hk hcs, ← EReal.coe_mul]

include hq hk hv hcs in
theorem ref_o (h : Fin 4) (i : Fin 4096) (d : Fin 128) :
    Ref.out Q K V (ix3 0 i (colAt h d)) = ((∑ j, soft (sc q k cs h i) j * vals v h j d : ℝ) : EReal) := by
  rw [Ref.out_at Q K V i h d (colAt h d) rfl]
  exact sum_real _ _ fun j => by rw [ref_prob q k cs Q K hq hk hcs, hv, ← EReal.coe_mul]; rfl

end Reference

end Cert.Attn
-- ==== Proof.Results.lean ====
/- The four results of the kernel and of the reference as whole arrays. -/
module

public import proofs.«01_k».proof.Proof.Equal

@[expose] public section

set_option maxRecDepth 16384

noncomputable section

namespace Cert.Attn

open Idealize.ShloMosaic Idealize.ShloMosaic.TcCoe Idealize.ShloMosaic.ValueIdx Idealize.SL.Sem Cert.KernelIdeal Cert.KernelIdeal.Gen

/-- An index whose first axis is a single entry. -/
theorem ix4_unit {n1 n2 n3 : ℕ} (y : (⟨4, ![1, n1, n2, n3]⟩ : Shape).Idx) : y = ix4 0 (y 1) (y 2) (y 3) := by
  funext a; match a with
  | ⟨0, _⟩ => exact Fin.ext (by have := (y 0).isLt; change (y 0).val < 1 at this; show (y 0).val = 0; omega)
  | ⟨1, _⟩ => rfl
  | ⟨2, _⟩ => rfl
  | ⟨3, _⟩ => rfl

/-- An index of the output by head and place in it. -/
theorem ix3_heads (y : S1x4096x512.Idx) : y = ix3 0 (y 1) (colAt (headOf (y 2)) (colOf (y 2))) := by
  funext a; match a with
  | ⟨0, _⟩ => exact Fin.ext (by have := (y 0).isLt; change (y 0).val < 1 at this; show (y 0).val = 0; omega)
  | ⟨1, _⟩ => rfl
  | ⟨2, _⟩ => exact Fin.ext (show (y 2).val = 128 * ((y 2).val / 128) + (y 2).val % 128 by omega)

variable (q : S1x4x4096x192.Idx → ℝ) (k : S1x4x4352x192.Idx → ℝ) (v : S1x4x4352x128.Idx → ℝ) (g : S1x4096x512.Idx → ℝ)
variable (m : (ℓ : Loc nD τ sig) → Buf (Elt Ideal) ℓ) (ρ : Dev nD → PrngReg) (c : Dev nD)
variable (hq : ∀ y, argQ m c y = (q y : EReal)) (hk : ∀ y, argK m c y = (k y : EReal)) (hv : ∀ y, argV m c y = (v y : EReal))
  (hg : ∀ y, argD m c y = (g y : EReal))

include hq hk hv hg

theorem same_o : Ref.out (argQ m c) (argK m c) (argV m c) = W9 m ρ c (Proc.devRef .tc main_v15) := by
  obtain ⟨cs, hcs⟩ := scale_real
  funext y
  rw [ix3_heads y]
  exact (ref_o q k v cs _ _ _ hq hk hv hcs _ _ _).trans (kernel_o q k v cs m ρ c hq hk hv hcs _ _ _).symm

theorem same_dq : Ref.dq (argQ m c) (argK m c) (argV m c) (argD m c) = W9 m ρ c (Proc.devRef .tc main_v19) := by
  obtain ⟨cs, hcs⟩ := scale_real
  funext y
  rw [ix4_unit y]
  exact (ref_dq q k v g cs _ _ _ _ hq hk hv hg hcs _ _ _).trans (kernel_dq q k v g cs m ρ c hq hk hv hg hcs _ _ _).symm

theorem same_dk : Ref.dk (argQ m c) (argK m c) (argV m c) (argD m c) = W9 m ρ c (Proc.devRef .tc main_v24) := by
  obtain ⟨cs, hcs⟩ := scale_real
  funext y
  rw [ix4_unit y]
  exact (ref_dk q k v g cs _ _ _ _ hq hk hv hg hcs _ _ _).trans (kernel_dk q k v g cs m ρ c hq hk hv hg hcs _ _ _).symm

theorem same_dv : Ref.dv (argQ m c) (argK m c) (argD m c) = W9 m ρ c (Proc.devRef .tc main_v26) := by
  obtain ⟨cs, hcs⟩ := scale_real
  funext y
  rw [ix4_unit y]
  exact (ref_dv q k g cs _ _ _ hq hk hg hcs _ _ _).trans (kernel_dv q k g cs m ρ c hq hk hg hcs _ _ _).symm

end Cert.Attn
-- ==== Proof.ProjBlock.lean ====
/- What the projection's backward call computes of one tile of 256 tokens, as functions of the tile's blocks: the gradients of the
   query and key rows through their norms, and what the tile adds to each of the six accumulated gradients. -/
module

public import proofs.«01_k».proof.Proof.Gen.ProjIdeal.Skeleton
public import Idealize.ShloMosaic.Lib.VecWindow

@[expose] public section

set_option maxRecDepth 16384

noncomputable section

namespace Cert.Proj

open Idealize.ShloMosaic Cert.ProjIdeal Cert.ProjIdeal.Gen

variable {F : FTy → Type} [FloatOps F] [Named F]

/-- The contents of the call's input blocks at one point, in the order of its arguments. -/
structure Blocks (F : FTy → Type) [FloatOps F] where
  x2 : Vec F S256x1024 .f32
  x3 : Vec F S256x1024 .f32
  ctx : Vec F S256x1024 .f32
  mods : Vec F S8x1024 .f32
  bmods : Vec F S8x1024 .f32
  ng : Vec F S1x1024 .f32
  win : Vec F S1984x1024 .bf16
  qlg : Vec F S1x256 .f32
  wuq : Vec F S1024x256 .bf16
  kvlg : Vec F S1x128 .f32
  wukv : Vec F S128x1024 .bf16
  qng : Vec F S1x256 .f32
  kng : Vec F S1x256 .f32
  cos : Vec F S256x128 .f32
  slo : Vec F S256x128 .f32
  shi : Vec F S256x128 .f32
  cq : Vec F S256x256 .f32
  ckv : Vec F S256x128 .f32
  kr : Vec F S256x128 .f32
  dq : Vec F S4x256x256 .f32
  dk : Vec F S4x256x256 .f32
  dv : Vec F S4x128x256 .f32
  dga : Vec F S256x512 .bf16
  dgp : Vec F S256x512 .bf16
  dpl : Vec F S256x512 .bf16
  hb : Vec F S16x512 .bf16
  ha : Vec F S16x512 .bf16
  g1 : Vec F S256x1024 .f32

/-- The contents of the six accumulated gradients. -/
structure Sums (F : FTy → Type) [FloatOps F] where
  uq : Vec F S1024x256 .f32
  ukv : Vec F S1024x128 .f32
  qlg : Vec F S1x256 .f32
  kvlg : Vec F S1x128 .f32
  qng : Vec F S1x256 .f32
  kng : Vec F S1x256 .f32

/-- The accumulators as the first point clears them. -/
def Sums.zero : Sums F := ⟨k0_pay8, k0_pay9, k0_pay10, k0_pay11, k0_pay12, k0_pay13⟩

/-- The norms' small constant. -/
abbrev eps : F .f32 := Scalar.ofBits .f32 0x358637BD#32

/-- The mean square of a query head's rows, over its 192 columns. -/
def meanSq (qh : FVec F S256x256 .f32) : FVec F S256x1 .f32 :=
  mulf (shapeCast S256x1 (multiReduction .add [1] S256 (mulf qh qh) 0x00000000#32 reduces_S256x256_S256 (.inl rfl) rfl) shapeCasts_S256_S256x1)
    (broadcast S256x1 (Named.named κ "inv192" 0x3BAAAAAB#32))

/-- One over the root of a key head's mean square: its own 128 columns and the shared rotary ones. -/
def keyRms (kn : FVec F S256x128 .f32) (ss : FVec F S256x1 .f32) : FVec F S256x1 .f32 :=
  rsqrt (addf (mulf (addf (shapeCast S256x1 (multiReduction .add [1] S256 (mulf kn kn) 0x00000000#32 reduces_S256x128_S256 (.inl rfl) rfl)
    shapeCasts_S256_S256x1) ss) (broadcast S256x1 (Named.named κ "inv192" 0x3BAAAAAB#32))) (broadcast S256x1 eps))

/-- Rows scaled by a column. -/
def scaled (x : FVec F S256x128 .f32) (r : FVec F S256x1 .f32) : FVec F S256x128 .f32 :=
  mulf x (broadcastTo S256x128 r broadcasts_S256x1_S256x128)

/-- A row with the column sums of a block added. -/
def addColSums (acc : FVec F S1x128 .f32) (x : FVec F S256x128 .f32) : FVec F S1x128 .f32 :=
  addf acc (shapeCast S1x128 (multiReduction .add [0] S128 x 0x00000000#32 reduces_S256x128_S128 (.inl rfl) rfl) shapeCasts_S128_S1x128)

/-- One head's matrix of a block of four. -/
abbrev head0 (x : Vec F S4x256x256 .f32) : Vec F S1x256x256 .f32 :=
  View.ld x (Rect.unit (s := S4x256x256) ![0, 0, 0] S1x256x256.size inb_S4x256x256_S1x256x256_0_0_0)
abbrev head1 (x : Vec F S4x256x256 .f32) : Vec F S1x256x256 .f32 :=
  View.ld x (Rect.unit (s := S4x256x256) ![1, 0, 0] S1x256x256.size inb_S4x256x256_S1x256x256_1_0_0)
abbrev head2 (x : Vec F S4x256x256 .f32) : Vec F S1x256x256 .f32 :=
  View.ld x (Rect.unit (s := S4x256x256) ![2, 0, 0] S1x256x256.size inb_S4x256x256_S1x256x256_2_0_0)
abbrev head3 (x : Vec F S4x256x256 .f32) : Vec F S1x256x256 .f32 :=
  View.ld x (Rect.unit (s := S4x256x256) ![3, 0, 0] S1x256x256.size inb_S4x256x256_S1x256x256_3_0_0)
abbrev vhead0 (x : Vec F S4x128x256 .f32) : Vec F S1x128x256 .f32 :=
  View.ld x (Rect.unit (s := S4x128x256) ![0, 0, 0] S1x128x256.size inb_S4x128x256_S1x128x256_0_0_0)
abbrev vhead1 (x : Vec F S4x128x256 .f32) : Vec F S1x128x256 .f32 :=
  View.ld x (Rect.unit (s := S4x128x256) ![1, 0, 0] S1x128x256.size inb_S4x128x256_S1x128x256_1_0_0)
abbrev vhead2 (x : Vec F S4x128x256 .f32) : Vec F S1x128x256 .f32 :=
  View.ld x (Rect.unit (s := S4x128x256) ![2, 0, 0] S1x128x256.size inb_S4x128x256_S1x128x256_2_0_0)
abbrev vhead3 (x : Vec F S4x128x256 .f32) : Vec F S1x128x256 .f32 :=
  View.ld x (Rect.unit (s := S4x128x256) ![3, 0, 0] S1x128x256.size inb_S4x128x256_S1x128x256_3_0_0)
/-- The left and the right half of a row of 256. -/
abbrev left (x : Vec F S1x256 .f32) : Vec F S1x128 .f32 :=
  View.ld x (Rect.unit (s := S1x256) ![0, 0] S1x128.size inb_S1x256_S1x128_0_0)
abbrev right (x : Vec F S1x256 .f32) : Vec F S1x128 .f32 :=
  View.ld x (Rect.unit (s := S1x256) ![0, 128] S1x128.size inb_S1x256_S1x128_0_128)

section
variable (lat : BitVec 1) (b : Blocks F)

/-! ## The queries -/

/-- The queries before their norm, four heads side by side. -/
def qAll : FVec F S256x1024 .f32 := k0_pay21 b.cq b.qlg b.wuq

/-- The norm gain's part of a query head. -/
def gainQ (acc : FVec F S1x256 .f32) (qh : FVec F S256x256 .f32) (d : Vec F S1x256x256 .f32) : FVec F S1x256 .f32 :=
  k0_pay68 lat (k0_pay58 b.cos) (k0_pay59 b.slo) (k0_pay60 b.shi) acc qh (meanSq qh) eps d

/-- A query head's gradient. -/
def gradQ (qh : FVec F S256x256 .f32) (d : Vec F S1x256x256 .f32) : FVec F S256x256 .f32 :=
  k0_pay69 lat (k0_pay58 b.cos) (k0_pay59 b.slo) (k0_pay60 b.shi) (k0_pay61 b.qng) qh (meanSq qh) eps d

/-- The four heads of the queries. -/
abbrev qh0 : FVec F S256x256 .f32 := extractStridedSlice S256x256 ![0, 0] (qAll b) slices_S256x1024_o0_0_S256x256
abbrev qh1 : FVec F S256x256 .f32 := extractStridedSlice S256x256 ![0, 256] (qAll b) slices_S256x1024_o0_256_S256x256
abbrev qh2 : FVec F S256x256 .f32 := extractStridedSlice S256x256 ![0, 512] (qAll b) slices_S256x1024_o0_512_S256x256
abbrev qh3 : FVec F S256x256 .f32 := extractStridedSlice S256x256 ![0, 768] (qAll b) slices_S256x1024_o0_768_S256x256

/-- The tile's part of the query norm's gain. -/
def sumQng : FVec F S1x256 .f32 :=
  gainQ lat b (gainQ lat b (gainQ lat b (gainQ lat b k0_pay62 (qh0 b) (head0 b.dq)) (qh1 b) (head1 b.dq)) (qh2 b) (head2 b.dq)) (qh3 b) (head3 b.dq)

/-- The gradient of the queries, four heads side by side. -/
def dqAll : FVec F S256x1024 .bf16 :=
  truncf .bf16 (concatenate S256x1024 1 [⟨S256x256, gradQ lat b (qh0 b) (head0 b.dq)⟩, ⟨S256x256, gradQ lat b (qh1 b) (head1 b.dq)⟩,
    ⟨S256x256, gradQ lat b (qh2 b) (head2 b.dq)⟩, ⟨S256x256, gradQ lat b (qh3 b) (head3 b.dq)⟩]
    concatenates_S256x256_S256x256_S256x256_S256x256_S256x1024_d1) bitsLt_bf16_f32

/-! ## The keys and values -/

/-- The keys and values before the keys' norm: per head 128 columns of each. -/
def kvAll : FVec F S256x1024 .f32 := k0_pay27 (k0_pay25 b.ckv b.kvlg) (k0_pay26 b.wukv)

/-- The four heads' keys. -/
abbrev kn0 : FVec F S256x128 .f32 := extractStridedSlice S256x128 ![0, 0] (kvAll b) slices_S256x1024_o0_0_S256x128
abbrev kn1 : FVec F S256x128 .f32 := extractStridedSlice S256x128 ![0, 256] (kvAll b) slices_S256x1024_o0_256_S256x128
abbrev kn2 : FVec F S256x128 .f32 := extractStridedSlice S256x128 ![0, 512] (kvAll b) slices_S256x1024_o0_512_S256x128
abbrev kn3 : FVec F S256x128 .f32 := extractStridedSlice S256x128 ![0, 768] (kvAll b) slices_S256x1024_o0_768_S256x128

/-- A key head's norm factor. -/
def rk (kn : FVec F S256x128 .f32) : FVec F S256x1 .f32 := keyRms kn (k0_pay92 b.kr)
/-- The normed shared rotary columns of a key head. -/
def yr (kn : FVec F S256x128 .f32) : FVec F S256x128 .f32 := scaled (k0_pay91 b.kr) (rk b kn)
/-- The rotary columns of a key head's gradient, turned back. -/
def dpr (d : Vec F S1x256x256 .f32) : FVec F S256x128 .f32 := k0_pay103 (k0_pay58 b.cos) (k0_pay59 b.slo) (k0_pay60 b.shi) d

/-- The norm gain's part of a key head, plain and rotary columns. -/
def gainKN (acc : FVec F S1x128 .f32) (kn : FVec F S256x128 .f32) (d : Vec F S1x256x256 .f32) : FVec F S1x128 .f32 :=
  addColSums acc (mulf (k0_pay102 d) (scaled kn (rk b kn)))
def gainKR (acc : FVec F S1x128 .f32) (kn : FVec F S256x128 .f32) (d : Vec F S1x256x256 .f32) : FVec F S1x128 .f32 :=
  addColSums acc (mulf (dpr b d) (yr b kn))

/-- A key head's gradient. -/
def gradK (kn : FVec F S256x128 .f32) (d : Vec F S1x256x256 .f32) : FVec F S256x128 .f32 :=
  k0_pay110 (rk b kn) (scaled kn (rk b kn)) (yr b kn) (k0_pay106 (k0_pay94 b.kng) d)
    (k0_pay107 (k0_pay58 b.cos) (k0_pay59 b.slo) (k0_pay60 b.shi) (k0_pay95 b.kng) d)
    (multiReduction .add [1] S256 (mulf (k0_pay106 (k0_pay94 b.kng) d) (scaled kn (rk b kn))) 0x00000000#32 reduces_S256x128_S256 (.inl rfl) rfl)

/-- A zero row. -/
abbrev zeroRow : FVec F S1x128 .f32 := broadcast S1x128 (Scalar.ofBits .f32 0x00000000#32)

/-- The tile's part of the key norm's gain, plain and rotary columns. -/
def sumKN : FVec F S1x128 .f32 :=
  gainKN b (gainKN b (gainKN b (gainKN b zeroRow (kn0 b) (head0 b.dk)) (kn1 b) (head1 b.dk)) (kn2 b) (head2 b.dk)) (kn3 b) (head3 b.dk)
def sumKR : FVec F S1x128 .f32 :=
  gainKR b (gainKR b (gainKR b (gainKR b zeroRow (kn0 b) (head0 b.dk)) (kn1 b) (head1 b.dk)) (kn2 b) (head2 b.dk)) (kn3 b) (head3 b.dk)

/-- The gradient of the keys and values, per head 128 columns of each. -/
def dkvAll : FVec F S256x1024 .bf16 :=
  truncf .bf16 (concatenate S256x1024 1 [⟨S256x128, gradK b (kn0 b) (head0 b.dk)⟩, ⟨S256x128, k0_pay111 (vhead0 b.dv)⟩,
    ⟨S256x128, gradK b (kn1 b) (head1 b.dk)⟩, ⟨S256x128, k0_pay111 (vhead1 b.dv)⟩, ⟨S256x128, gradK b (kn2 b) (head2 b.dk)⟩,
    ⟨S256x128, k0_pay111 (vhead2 b.dv)⟩, ⟨S256x128, gradK b (kn3 b) (head3 b.dk)⟩, ⟨S256x128, k0_pay111 (vhead3 b.dv)⟩]
    concatenates_S256x128_S256x128_S256x128_S256x128_S256x128_S256x128_S256x128_S256x128_S256x1024_d1) bitsLt_bf16_f32

/-! ## What a tile adds -/

/-- The query norm's gain with a tile's part added. -/
def stepQng (y : Vec F S1x256 .f32) : FVec F S1x256 .f32 := addf (shapeCast S1x256 y shapeCasts_S1x256_S1x256) (sumQng lat b)

/-- The key norm's gain with a tile's part added. -/
def stepKng (y : Vec F S1x256 .f32) : Vec F S1x256 .f32 :=
  VecWindow.put (VecWindow.put y ![0, 0] S1x128.size (k0_pay161 (sumKN b) (left y))) ![0, 128] S1x128.size (k0_pay162 (sumKR b) (right y))

/-- The six sums with a tile's parts added. -/
def step (y : Sums F) : Sums F where
  uq := k0_pay182 (k0_pay20 b.cq b.qlg) (dqAll lat b) y.uq
  ukv := k0_pay184 (k0_pay25 b.ckv b.kvlg) (dkvAll b) y.ukv
  qlg := k0_pay186 (k0_pay19 b.cq) (dqAll lat b) b.wuq y.qlg
  kvlg := k0_pay187 (k0_pay24 b.ckv) (k0_pay185 (dkvAll b) b.wukv) y.kvlg
  qng := stepQng lat b y.qng
  kng := stepKng b y.kng

end

end Cert.Proj

end
-- ==== Proof.ProjHeld.lean ====
/- One run of the projection's backward call: its body, on whole buffers, at each kind of point. The six accumulated gradients are
   named before and after; of the other outputs and of the scratch only that they hold something. -/
module

public import proofs.«01_k».proof.Proof.ProjBlock
public import proofs.«01_k».proof.Proof.Gen.ProjIdeal.Frame
public import Idealize.ShloMosaic.Lib.WholeRead
public import Idealize.ShloMosaic.Lib.Tactic
public import Idealize.ShloMosaic.Lib.Pipeline.ReadBack

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

/-- Whether the point's tile is one of latent tokens, as the body computes it. -/
abbrev latBit (i : grid0.Coords) : BitVec 1 := Scalar.cmpi .sgt (BitVec.ofNat 32 (i 0).val) 0#32

/-- A whole buffer owned at `x` is held at the contents that read as `x`. -/
theorem owns_raw {c : Dev nD} {sp : Space} {sh : Shape} {e : EltTy} {m : Memref sig .tc sp sh e} (h : m.IsWhole) {x : sh.Idx → Elt F e} :
    (owns (c : Thread nD τ) m fullShare x : sProp 𝕄) ⊢ (m.view.loc (c : Thread nD τ) ↦[m.view.set]{fullShare} h.unread x) := by
  unfold owns
  iintro ⟨%f, %hf, H⟩
  obtain rfl := h.eq_unread hf
  iexact H

theorem raw_owns {c : Dev nD} {sp : Space} {sh : Shape} {e : EltTy} {m : Memref sig .tc sp sh e} (h : m.IsWhole) {x : sh.Idx → Elt F e} :
    (m.view.loc (c : Thread nD τ) ↦[m.view.set]{fullShare} h.unread x) ⊢ (owns (c : Thread nD τ) m fullShare x : sProp 𝕄) := by
  unfold owns
  iintro H
  iexists _; iframe H; ipureintro; exact h.read_unread _

/-- A load through a rectangle of a whole buffer holding `X` is the load of `X`. -/
theorem readAt_eq_ld {sp : Space} {s : Shape} {e : EltTy} {m : Memref sig .tc sp s e} (h : m.IsWhole) (X : s.Idx → Elt F e) (R : Rect s) :
    View.readAt (Elt F) m.view R.toLoadRect (h.unread X) = View.ld X R :=
  funext fun x => h.readAt_unread X R.toLoadRect x

/-- The load of a whole block. -/
theorem ld_all {n k : ℕ} {e : EltTy} (X : (⟨2, ![n, k]⟩ : Shape).Idx → Elt F e) (inb : ∀ a, ![0, 0] a + ![n, k] a ≤ ![n, k] a) :
    View.ld X (Rect.unit (s := ⟨2, ![n, k]⟩) ![0, 0] ![n, k] inb) = X :=
  View.ld_unit_zero (S := ⟨2, ![n, k]⟩) (funext fun a => by match a with | ⟨0, _⟩ => rfl | ⟨1, _⟩ => rfl) inb X

/-- The load of a whole block after a store of the whole block. -/
theorem readCov_all {sp : Space} {n k : ℕ} {e : EltTy} (v : View sig .tc sp ⟨2, ![n, k]⟩ e) (inb : ∀ a, ![0, 0] a + ![n, k] a ≤ ![n, k] a)
    (inb' : ∀ a, ![0, 0] a + ![n, k] a ≤ ![n, k] a) (w : (Rect.unit (s := ⟨2, ![n, k]⟩) ![0, 0] ![n, k] inb').shape.Idx → Elt F e)
    (L : List (View.Piece (Elt F) ⟨2, ![n, k]⟩ e)) :
    v.readCov (⟨Rect.unit (s := ⟨2, ![n, k]⟩) ![0, 0] ![n, k] inb', w⟩ :: L) (Rect.unit (s := ⟨2, ![n, k]⟩) ![0, 0] ![n, k] inb).toLoadRect = w :=
  View.readCov_full v inb inb' w L

section
variable (c : Dev nD) (i : grid0.Coords)
  (arg1 : Memref sig .tc .vmem S256x1024 .f32) (harg1 : arg1.IsWhole) (arg2 : Memref sig .tc .vmem S256x1024 .f32) (harg2 : arg2.IsWhole) (arg3 :
  Memref sig .tc .vmem S256x1024 .f32) (harg3 : arg3.IsWhole) (arg4 : Memref sig .tc .vmem S8x1024 .f32) (harg4 : arg4.IsWhole) (arg5 : Memref sig .tc
  .vmem S8x1024 .f32) (harg5 : arg5.IsWhole) (arg6 : Memref sig .tc .vmem S1x1024 .f32) (harg6 : arg6.IsWhole) (arg7 : Memref sig .tc .vmem S1984x1024
  .bf16) (harg7 : arg7.IsWhole) (arg8 : Memref sig .tc .vmem S1x256 .f32) (harg8 : arg8.IsWhole) (arg9 : Memref sig .tc .vmem S1024x256 .bf16) (harg9
  : arg9.IsWhole) (arg10 : Memref sig .tc .vmem S1x128 .f32) (harg10 : arg10.IsWhole) (arg11 : Memref sig .tc .vmem S128x1024 .bf16) (harg11 :
  arg11.IsWhole) (arg12 : Memref sig .tc .vmem S1x256 .f32) (harg12 : arg12.IsWhole) (arg13 : Memref sig .tc .vmem S1x256 .f32) (harg13 :
  arg13.IsWhole) (arg14 : Memref sig .tc .vmem S256x128 .f32) (harg14 : arg14.IsWhole) (arg15 : Memref sig .tc .vmem S256x128 .f32) (harg15 :
  arg15.IsWhole) (arg16 : Memref sig .tc .vmem S256x128 .f32) (harg16 : arg16.IsWhole) (arg17 : Memref sig .tc .vmem S256x256 .f32) (harg17 :
  arg17.IsWhole) (arg18 : Memref sig .tc .vmem S256x128 .f32) (harg18 : arg18.IsWhole) (arg19 : Memref sig .tc .vmem S256x128 .f32) (harg19 :
  arg19.IsWhole) (arg20 : Memref sig .tc .vmem S4x256x256 .f32) (harg20 : arg20.IsWhole) (arg21 : Memref sig .tc .vmem S4x256x256 .f32) (harg21 :
  arg21.IsWhole) (arg22 : Memref sig .tc .vmem S4x128x256 .f32) (harg22 : arg22.IsWhole) (arg23 : Memref sig .tc .vmem S256x512 .bf16) (harg23 :
  arg23.IsWhole) (arg24 : Memref sig .tc .vmem S256x512 .bf16) (harg24 : arg24.IsWhole) (arg25 : Memref sig .tc .vmem S256x512 .bf16) (harg25 :
  arg25.IsWhole) (arg26 : Memref sig .tc .vmem S16x512 .bf16) (harg26 : arg26.IsWhole) (arg27 : Memref sig .tc .vmem S16x512 .bf16) (harg27 :
  arg27.IsWhole) (arg28 : Memref sig .tc .vmem S256x1024 .f32) (harg28 : arg28.IsWhole) (arg29 : Memref sig .tc .vmem S256x1024 .f32) (harg29 :
  arg29.IsWhole) (arg30 : Memref sig .tc .vmem S1984x1024 .f32) (harg30 : arg30.IsWhole) (arg31 : Memref sig .tc .vmem S1024x256 .f32) (harg31 :
  arg31.IsWhole) (arg32 : Memref sig .tc .vmem S1024x128 .f32) (harg32 : arg32.IsWhole) (arg33 : Memref sig .tc .vmem S1x256 .f32) (harg33 :
  arg33.IsWhole) (arg34 : Memref sig .tc .vmem S1x128 .f32) (harg34 : arg34.IsWhole) (arg35 : Memref sig .tc .vmem S1x256 .f32) (harg35 :
  arg35.IsWhole) (arg36 : Memref sig .tc .vmem S1x256 .f32) (harg36 : arg36.IsWhole) (arg37 : Memref sig .tc .vmem S1x1024 .f32) (harg37 :
  arg37.IsWhole) (arg38 : Memref sig .tc .vmem S8x1024 .f32) (harg38 : arg38.IsWhole) (arg39 : Memref sig .tc .vmem S256x2048 .bf16) (harg39 :
  arg39.IsWhole) (arg40 : Memref sig .tc .vmem S256x2048 .bf16) (harg40 : arg40.IsWhole) (arg41 : Memref sig .tc .vmem S256x1024 .f32) (harg41 :
  arg41.IsWhole) (arg42 : Memref sig .tc .vmem S256x1024 .f32) (harg42 : arg42.IsWhole)
  (b : Blocks F) (s s' : Sums F)

/-- The input blocks, held whole at their contents. -/
def Held : sProp 𝕄 :=
  iprop(owns (c : Thread nD τ) arg1 fullShare b.x2 ∗ owns (c : Thread nD τ) arg2 fullShare b.x3 ∗ owns (c : Thread nD τ) arg3 fullShare b.ctx ∗ owns
  (c : Thread nD τ) arg4 fullShare b.mods ∗ owns (c : Thread nD τ) arg5 fullShare b.bmods ∗ owns (c : Thread nD τ) arg6 fullShare b.ng ∗ owns (c :
  Thread nD τ) arg7 fullShare b.win ∗ owns (c : Thread nD τ) arg8 fullShare b.qlg ∗ owns (c : Thread nD τ) arg9 fullShare b.wuq ∗ owns (c : Thread nD
  τ) arg10 fullShare b.kvlg ∗ owns (c : Thread nD τ) arg11 fullShare b.wukv ∗ owns (c : Thread nD τ) arg12 fullShare b.qng ∗ owns (c : Thread nD τ)
  arg13 fullShare b.kng ∗ owns (c : Thread nD τ) arg14 fullShare b.cos ∗ owns (c : Thread nD τ) arg15 fullShare b.slo ∗ owns (c : Thread nD τ) arg16
  fullShare b.shi ∗ owns (c : Thread nD τ) arg17 fullShare b.cq ∗ owns (c : Thread nD τ) arg18 fullShare b.ckv ∗ owns (c : Thread nD τ) arg19
  fullShare b.kr ∗ owns (c : Thread nD τ) arg20 fullShare b.dq ∗ owns (c : Thread nD τ) arg21 fullShare b.dk ∗ owns (c : Thread nD τ) arg22 fullShare
  b.dv ∗ owns (c : Thread nD τ) arg23 fullShare b.dga ∗ owns (c : Thread nD τ) arg24 fullShare b.dgp ∗ owns (c : Thread nD τ) arg25 fullShare b.dpl ∗
  owns (c : Thread nD τ) arg26 fullShare b.hb ∗ owns (c : Thread nD τ) arg27 fullShare b.ha ∗ owns (c : Thread nD τ) arg28 fullShare b.g1)

/-- The six accumulated gradients, held whole at their contents. -/
def HeldSums : sProp 𝕄 :=
  iprop(owns (c : Thread nD τ) arg31 fullShare s.uq ∗ owns (c : Thread nD τ) arg32 fullShare s.ukv ∗ owns (c : Thread nD τ) arg33 fullShare s.qlg ∗
  owns (c : Thread nD τ) arg34 fullShare s.kvlg ∗ owns (c : Thread nD τ) arg35 fullShare s.qng ∗ owns (c : Thread nD τ) arg36 fullShare s.kng)

/-- The other outputs and the scratch, held at some contents. -/
def HeldRest : sProp 𝕄 :=
  iprop((∃ d, owns (c : Thread nD τ) arg29 fullShare d) ∗ (∃ d, owns (c : Thread nD τ) arg30 fullShare d) ∗ (∃ d, owns (c : Thread nD τ) arg37
  fullShare d) ∗ (∃ d, owns (c : Thread nD τ) arg38 fullShare d) ∗ (∃ d, owns (c : Thread nD τ) arg39 fullShare d) ∗ (∃ d, owns (c : Thread nD τ)
  arg40 fullShare d) ∗ (∃ d, owns (c : Thread nD τ) arg41 fullShare d) ∗ (∃ d, owns (c : Thread nD τ) arg42 fullShare d))

/-- The input blocks as the run holds them: each buffer at the contents that read as the block. -/
def Raw : sProp 𝕄 :=
  iprop((arg1.view.loc (c : Thread nD τ) ↦[arg1.view.set]{fullShare} harg1.unread b.x2) ∗ (arg2.view.loc (c : Thread nD τ) ↦[arg2.view.set]{fullShare}
  harg2.unread b.x3) ∗ (arg3.view.loc (c : Thread nD τ) ↦[arg3.view.set]{fullShare} harg3.unread b.ctx) ∗ (arg4.view.loc (c : Thread nD τ)
  ↦[arg4.view.set]{fullShare} harg4.unread b.mods) ∗ (arg5.view.loc (c : Thread nD τ) ↦[arg5.view.set]{fullShare} harg5.unread b.bmods) ∗
  (arg6.view.loc (c : Thread nD τ) ↦[arg6.view.set]{fullShare} harg6.unread b.ng) ∗ (arg7.view.loc (c : Thread nD τ) ↦[arg7.view.set]{fullShare}
  harg7.unread b.win) ∗ (arg8.view.loc (c : Thread nD τ) ↦[arg8.view.set]{fullShare} harg8.unread b.qlg) ∗ (arg9.view.loc (c : Thread nD τ)
  ↦[arg9.view.set]{fullShare} harg9.unread b.wuq) ∗ (arg10.view.loc (c : Thread nD τ) ↦[arg10.view.set]{fullShare} harg10.unread b.kvlg) ∗
  (arg11.view.loc (c : Thread nD τ) ↦[arg11.view.set]{fullShare} harg11.unread b.wukv) ∗ (arg12.view.loc (c : Thread nD τ)
  ↦[arg12.view.set]{fullShare} harg12.unread b.qng) ∗ (arg13.view.loc (c : Thread nD τ) ↦[arg13.view.set]{fullShare} harg13.unread b.kng) ∗
  (arg14.view.loc (c : Thread nD τ) ↦[arg14.view.set]{fullShare} harg14.unread b.cos) ∗ (arg15.view.loc (c : Thread nD τ) ↦[arg15.view.set]{fullShare}
  harg15.unread b.slo) ∗ (arg16.view.loc (c : Thread nD τ) ↦[arg16.view.set]{fullShare} harg16.unread b.shi) ∗ (arg17.view.loc (c : Thread nD τ)
  ↦[arg17.view.set]{fullShare} harg17.unread b.cq) ∗ (arg18.view.loc (c : Thread nD τ) ↦[arg18.view.set]{fullShare} harg18.unread b.ckv) ∗
  (arg19.view.loc (c : Thread nD τ) ↦[arg19.view.set]{fullShare} harg19.unread b.kr) ∗ (arg20.view.loc (c : Thread nD τ) ↦[arg20.view.set]{fullShare}
  harg20.unread b.dq) ∗ (arg21.view.loc (c : Thread nD τ) ↦[arg21.view.set]{fullShare} harg21.unread b.dk) ∗ (arg22.view.loc (c : Thread nD τ)
  ↦[arg22.view.set]{fullShare} harg22.unread b.dv) ∗ (arg23.view.loc (c : Thread nD τ) ↦[arg23.view.set]{fullShare} harg23.unread b.dga) ∗
  (arg24.view.loc (c : Thread nD τ) ↦[arg24.view.set]{fullShare} harg24.unread b.dgp) ∗ (arg25.view.loc (c : Thread nD τ) ↦[arg25.view.set]{fullShare}
  harg25.unread b.dpl) ∗ (arg26.view.loc (c : Thread nD τ) ↦[arg26.view.set]{fullShare} harg26.unread b.hb) ∗ (arg27.view.loc (c : Thread nD τ)
  ↦[arg27.view.set]{fullShare} harg27.unread b.ha) ∗ (arg28.view.loc (c : Thread nD τ) ↦[arg28.view.set]{fullShare} harg28.unread b.g1))

/-- The six sums as the run holds them. -/
def RawSums : sProp 𝕄 :=
  iprop((arg31.view.loc (c : Thread nD τ) ↦[arg31.view.set]{fullShare} harg31.unread s.uq) ∗ (arg32.view.loc (c : Thread nD τ)
  ↦[arg32.view.set]{fullShare} harg32.unread s.ukv) ∗ (arg33.view.loc (c : Thread nD τ) ↦[arg33.view.set]{fullShare} harg33.unread s.qlg) ∗
  (arg34.view.loc (c : Thread nD τ) ↦[arg34.view.set]{fullShare} harg34.unread s.kvlg) ∗ (arg35.view.loc (c : Thread nD τ)
  ↦[arg35.view.set]{fullShare} harg35.unread s.qng) ∗ (arg36.view.loc (c : Thread nD τ) ↦[arg36.view.set]{fullShare} harg36.unread s.kng))

theorem held_of_raw : Raw c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 b ⊢ Held c arg1 arg2 arg3 arg4 arg5 arg6 arg7 arg8 arg9 arg10 arg11 arg12 arg13 arg14 arg15 arg16 arg17 arg18 arg19 arg20 arg21 arg22 arg23 arg24 arg25 arg26 arg27 arg28 b :=
  Laws.sep_mono (raw_owns harg1) <| Laws.sep_mono (raw_owns harg2) <| Laws.sep_mono (raw_owns harg3) <| Laws.sep_mono (raw_owns harg4) <|
  Laws.sep_mono (raw_owns harg5) <| Laws.sep_mono (raw_owns harg6) <| Laws.sep_mono (raw_owns harg7) <| Laws.sep_mono (raw_owns harg8) <|
  Laws.sep_mono (raw_owns harg9) <| Laws.sep_mono (raw_owns harg10) <| Laws.sep_mono (raw_owns harg11) <| Laws.sep_mono (raw_owns harg12) <|
  Laws.sep_mono (raw_owns harg13) <| Laws.sep_mono (raw_owns harg14) <| Laws.sep_mono (raw_owns harg15) <| Laws.sep_mono (raw_owns harg16) <|
  Laws.sep_mono (raw_owns harg17) <| Laws.sep_mono (raw_owns harg18) <| Laws.sep_mono (raw_owns harg19) <| Laws.sep_mono (raw_owns harg20) <|
  Laws.sep_mono (raw_owns harg21) <| Laws.sep_mono (raw_owns harg22) <| Laws.sep_mono (raw_owns harg23) <| Laws.sep_mono (raw_owns harg24) <|
  Laws.sep_mono (raw_owns harg25) <| Laws.sep_mono (raw_owns harg26) <| Laws.sep_mono (raw_owns harg27) <| raw_owns harg28

theorem raw_of_held : Held c arg1 arg2 arg3 arg4 arg5 arg6 arg7 arg8 arg9 arg10 arg11 arg12 arg13 arg14 arg15 arg16 arg17 arg18 arg19 arg20 arg21 arg22 arg23 arg24 arg25 arg26 arg27 arg28 b ⊢ Raw c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 b :=
  Laws.sep_mono (owns_raw harg1) <| Laws.sep_mono (owns_raw harg2) <| Laws.sep_mono (owns_raw harg3) <| Laws.sep_mono (owns_raw harg4) <|
  Laws.sep_mono (owns_raw harg5) <| Laws.sep_mono (owns_raw harg6) <| Laws.sep_mono (owns_raw harg7) <| Laws.sep_mono (owns_raw harg8) <|
  Laws.sep_mono (owns_raw harg9) <| Laws.sep_mono (owns_raw harg10) <| Laws.sep_mono (owns_raw harg11) <| Laws.sep_mono (owns_raw harg12) <|
  Laws.sep_mono (owns_raw harg13) <| Laws.sep_mono (owns_raw harg14) <| Laws.sep_mono (owns_raw harg15) <| Laws.sep_mono (owns_raw harg16) <|
  Laws.sep_mono (owns_raw harg17) <| Laws.sep_mono (owns_raw harg18) <| Laws.sep_mono (owns_raw harg19) <| Laws.sep_mono (owns_raw harg20) <|
  Laws.sep_mono (owns_raw harg21) <| Laws.sep_mono (owns_raw harg22) <| Laws.sep_mono (owns_raw harg23) <| Laws.sep_mono (owns_raw harg24) <|
  Laws.sep_mono (owns_raw harg25) <| Laws.sep_mono (owns_raw harg26) <| Laws.sep_mono (owns_raw harg27) <| owns_raw harg28

theorem rawSums_of_held : HeldSums c arg31 arg32 arg33 arg34 arg35 arg36 s ⊢ RawSums c arg31 harg31 arg32 harg32 arg33 harg33 arg34 harg34 arg35 harg35 arg36 harg36 s :=
  Laws.sep_mono (owns_raw harg31) <| Laws.sep_mono (owns_raw harg32) <| Laws.sep_mono (owns_raw harg33) <| Laws.sep_mono (owns_raw harg34) <|
  Laws.sep_mono (owns_raw harg35) <| owns_raw harg36

end
end Cert.Proj
end
-- ==== Proof.ProjFirst.lean ====
/- One run of the projection's backward call at the first point. -/
module

public import proofs.«01_k».proof.Proof.ProjHeld

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

section
variable (c : Dev nD) (i : grid0.Coords)
  (arg1 : Memref sig .tc .vmem S256x1024 .f32) (harg1 : arg1.IsWhole) (arg2 : Memref sig .tc .vmem S256x1024 .f32) (harg2 : arg2.IsWhole) (arg3 :
  Memref sig .tc .vmem S256x1024 .f32) (harg3 : arg3.IsWhole) (arg4 : Memref sig .tc .vmem S8x1024 .f32) (harg4 : arg4.IsWhole) (arg5 : Memref sig .tc
  .vmem S8x1024 .f32) (harg5 : arg5.IsWhole) (arg6 : Memref sig .tc .vmem S1x1024 .f32) (harg6 : arg6.IsWhole) (arg7 : Memref sig .tc .vmem S1984x1024
  .bf16) (harg7 : arg7.IsWhole) (arg8 : Memref sig .tc .vmem S1x256 .f32) (harg8 : arg8.IsWhole) (arg9 : Memref sig .tc .vmem S1024x256 .bf16) (harg9
  : arg9.IsWhole) (arg10 : Memref sig .tc .vmem S1x128 .f32) (harg10 : arg10.IsWhole) (arg11 : Memref sig .tc .vmem S128x1024 .bf16) (harg11 :
  arg11.IsWhole) (arg12 : Memref sig .tc .vmem S1x256 .f32) (harg12 : arg12.IsWhole) (arg13 : Memref sig .tc .vmem S1x256 .f32) (harg13 :
  arg13.IsWhole) (arg14 : Memref sig .tc .vmem S256x128 .f32) (harg14 : arg14.IsWhole) (arg15 : Memref sig .tc .vmem S256x128 .f32) (harg15 :
  arg15.IsWhole) (arg16 : Memref sig .tc .vmem S256x128 .f32) (harg16 : arg16.IsWhole) (arg17 : Memref sig .tc .vmem S256x256 .f32) (harg17 :
  arg17.IsWhole) (arg18 : Memref sig .tc .vmem S256x128 .f32) (harg18 : arg18.IsWhole) (arg19 : Memref sig .tc .vmem S256x128 .f32) (harg19 :
  arg19.IsWhole) (arg20 : Memref sig .tc .vmem S4x256x256 .f32) (harg20 : arg20.IsWhole) (arg21 : Memref sig .tc .vmem S4x256x256 .f32) (harg21 :
  arg21.IsWhole) (arg22 : Memref sig .tc .vmem S4x128x256 .f32) (harg22 : arg22.IsWhole) (arg23 : Memref sig .tc .vmem S256x512 .bf16) (harg23 :
  arg23.IsWhole) (arg24 : Memref sig .tc .vmem S256x512 .bf16) (harg24 : arg24.IsWhole) (arg25 : Memref sig .tc .vmem S256x512 .bf16) (harg25 :
  arg25.IsWhole) (arg26 : Memref sig .tc .vmem S16x512 .bf16) (harg26 : arg26.IsWhole) (arg27 : Memref sig .tc .vmem S16x512 .bf16) (harg27 :
  arg27.IsWhole) (arg28 : Memref sig .tc .vmem S256x1024 .f32) (harg28 : arg28.IsWhole) (arg29 : Memref sig .tc .vmem S256x1024 .f32) (harg29 :
  arg29.IsWhole) (arg30 : Memref sig .tc .vmem S1984x1024 .f32) (harg30 : arg30.IsWhole) (arg31 : Memref sig .tc .vmem S1024x256 .f32) (harg31 :
  arg31.IsWhole) (arg32 : Memref sig .tc .vmem S1024x128 .f32) (harg32 : arg32.IsWhole) (arg33 : Memref sig .tc .vmem S1x256 .f32) (harg33 :
  arg33.IsWhole) (arg34 : Memref sig .tc .vmem S1x128 .f32) (harg34 : arg34.IsWhole) (arg35 : Memref sig .tc .vmem S1x256 .f32) (harg35 :
  arg35.IsWhole) (arg36 : Memref sig .tc .vmem S1x256 .f32) (harg36 : arg36.IsWhole) (arg37 : Memref sig .tc .vmem S1x1024 .f32) (harg37 :
  arg37.IsWhole) (arg38 : Memref sig .tc .vmem S8x1024 .f32) (harg38 : arg38.IsWhole) (arg39 : Memref sig .tc .vmem S256x2048 .bf16) (harg39 :
  arg39.IsWhole) (arg40 : Memref sig .tc .vmem S256x2048 .bf16) (harg40 : arg40.IsWhole) (arg41 : Memref sig .tc .vmem S256x1024 .f32) (harg41 :
  arg41.IsWhole) (arg42 : Memref sig .tc .vmem S256x1024 .f32) (harg42 : arg42.IsWhole)
  (b : Blocks F) (s s' : Sums F)

set_option maxHeartbeats 1200000 in
/-- The first point: the sums are cleared, then the context tile's parts added. -/
theorem run_first (hc0 : k0_cond1 i = 1#1) (hc1 : k0_cond2 i = 1#1) (hc2 : ¬ k0_cond3 i = 1#1) (hc3 : ¬ k0_cond4 i = 1#1) (hc4 : ¬ k0_cond5 i = 1#1)
  (hs : step (latBit i) b Sums.zero = s') (E : Set ℕ) (K : PUnit → sProp 𝕄) :
    iprop(Raw c arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 b ∗ RawSums c arg31 harg31 arg32 harg32 arg33 harg33 arg34 harg34 arg35
      harg35 arg36 harg36 s ∗ HeldRest c arg29 arg30 arg37 arg38 arg39 arg40 arg41 arg42
      ∗ (iprop(Raw c arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22
        arg23 harg23 arg24 harg24 arg25 harg25 arg26 harg26 arg27 harg27 arg28 harg28 b ∗ HeldSums c arg31 arg32 arg33 arg34 arg35 arg36 s' ∗ HeldRest
        c arg29 arg30 arg37 arg38 arg39 arg40 arg41 arg42) -∗ K ⟨⟩))
    ⊢ wp frame (wpE (defs₀ (F := F)) Variants.none c none) E (cc0_inproj_bwd i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27 harg27 arg28 harg28 arg29 harg29
      arg30 harg30 arg31 harg31 arg32 harg32 arg33 harg33 arg34 harg34 arg35 harg35 arg36 harg36 arg37 harg37 arg38 harg38 arg39 harg39 arg40 harg40
      arg41 harg41 arg42 harg42) K := by
  unfold Raw RawSums HeldRest owns
  iintro ⟨⟨H1, H2, H3, H4, H5, H6, H7, H8, H9, H10, H11, H12, H13, H14, H15, H16, H17, H18, H19, H20, H21, H22, H23, H24, H25, H26, H27, H28⟩, ⟨H31,
    H32, H33, H34, H35, H36⟩, ⟨⟨%d29, %f29, -, H29⟩, ⟨%d30, %f30, -, H30⟩, ⟨%d37, %f37, -, H37⟩, ⟨%d38, %f38, -, H38⟩, ⟨%d39, %f39, -, H39⟩, ⟨%d40,
    %f40, -, H40⟩, ⟨%d41, %f41, -, H41⟩, ⟨%d42, %f42, -, H42⟩⟩, Hk⟩
  simp only [cc0_inproj_bwd_eq_skeleton]; unfold cc0_inproj_bwd_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  sl_exec (disch := first | sl_exact hc0 | sl_exact hc1 | sl_exact hc2 | sl_exact hc3 | sl_exact hc4)
  sl_step
  iapply Hk
  isplitl [H1 H2 H3 H4 H5 H6 H7 H8 H9 H10 H11 H12 H13 H14 H15 H16 H17 H18 H19 H20 H21 H22 H23 H24 H25 H26 H27 H28]; · iframe
  isplitr [H29 H30 H37 H38 H39 H40 H41 H42]
  · unfold HeldSums owns
    isplitl [H31]
    · iexists _; iframe H31; ipureintro
      rw [View.read_writes_full]
      delta run_first.sl.H31_1 run_first.sl.cst_132 run_first.sl.r_2 run_first.sl.r_3 run_first.sl.r_24 run_first.sl.r_25 run_first.sl.r_26
        run_first.sl.r_27 run_first.sl.r_28 run_first.sl.r_29 run_first.sl.r_31 run_first.sl.r_32 run_first.sl.r_33 run_first.sl.r_34
        run_first.sl.r_36 run_first.sl.r_37 run_first.sl.r_38 run_first.sl.r_40 run_first.sl.r_41 run_first.sl.r_42 run_first.sl.r_43
        run_first.sl.r_44 run_first.sl.v20 run_first.sl.v863
      simp only [readCov_all]
      simp only [readAt_eq_ld, ld_all]
      subst hs
      rfl
    isplitl [H32]
    · iexists _; iframe H32; ipureintro
      rw [View.read_writes_full]
      delta run_first.sl.H32_1 run_first.sl.r_6 run_first.sl.r_7 run_first.sl.r_8 run_first.sl.r_24 run_first.sl.r_25 run_first.sl.r_26
        run_first.sl.r_45 run_first.sl.r_46 run_first.sl.r_47 run_first.sl.r_48 run_first.sl.r_49 run_first.sl.r_50 run_first.sl.r_51
        run_first.sl.r_54 run_first.sl.r_55 run_first.sl.r_56 run_first.sl.r_57 run_first.sl.r_58 run_first.sl.r_60 run_first.sl.r_61
        run_first.sl.r_62 run_first.sl.r_63 run_first.sl.r_64 run_first.sl.r_65 run_first.sl.r_68 run_first.sl.r_69 run_first.sl.r_71
        run_first.sl.r_72 run_first.sl.r_73 run_first.sl.r_79 run_first.sl.r_80 run_first.sl.r_82 run_first.sl.r_83 run_first.sl.r_84
        run_first.sl.r_87 run_first.sl.r_88 run_first.sl.r_89 run_first.sl.r_91 run_first.sl.v871
      simp only [readCov_all]
      simp only [readAt_eq_ld, ld_all]
      subst hs
      rfl
    isplitl [H33]
    · iexists _; iframe H33; ipureintro
      rw [View.read_writes_full]
      delta run_first.sl.H33_1 run_first.sl.cst_132 run_first.sl.r_1 run_first.sl.r_3 run_first.sl.r_24 run_first.sl.r_25 run_first.sl.r_26
        run_first.sl.r_27 run_first.sl.r_28 run_first.sl.r_29 run_first.sl.r_31 run_first.sl.r_32 run_first.sl.r_33 run_first.sl.r_34
        run_first.sl.r_36 run_first.sl.r_37 run_first.sl.r_38 run_first.sl.r_40 run_first.sl.r_41 run_first.sl.r_42 run_first.sl.r_43
        run_first.sl.r_44 run_first.sl.r_105 run_first.sl.v20 run_first.sl.v879
      simp only [readCov_all]
      simp only [readAt_eq_ld, ld_all]
      subst hs
      rfl
    isplitl [H34]
    · iexists _; iframe H34; ipureintro
      rw [View.read_writes_full]
      delta run_first.sl.H34_1 run_first.sl.r_5 run_first.sl.r_6 run_first.sl.r_7 run_first.sl.r_8 run_first.sl.r_24 run_first.sl.r_25
        run_first.sl.r_26 run_first.sl.r_45 run_first.sl.r_46 run_first.sl.r_47 run_first.sl.r_48 run_first.sl.r_49 run_first.sl.r_50
        run_first.sl.r_51 run_first.sl.r_54 run_first.sl.r_55 run_first.sl.r_56 run_first.sl.r_57 run_first.sl.r_58 run_first.sl.r_60
        run_first.sl.r_61 run_first.sl.r_62 run_first.sl.r_63 run_first.sl.r_64 run_first.sl.r_65 run_first.sl.r_68 run_first.sl.r_69
        run_first.sl.r_71 run_first.sl.r_72 run_first.sl.r_73 run_first.sl.r_79 run_first.sl.r_80 run_first.sl.r_82 run_first.sl.r_83
        run_first.sl.r_84 run_first.sl.r_87 run_first.sl.r_88 run_first.sl.r_89 run_first.sl.r_91 run_first.sl.r_104 run_first.sl.v900
      simp only [readCov_all]
      simp only [readAt_eq_ld, ld_all]
      subst hs
      rfl
    isplitl [H35]
    · iexists _; iframe H35; ipureintro
      rw [View.read_writes_full]
      delta run_first.sl.H35_1 run_first.sl.cst_132 run_first.sl.r_3 run_first.sl.r_24 run_first.sl.r_25 run_first.sl.r_26 run_first.sl.r_28
        run_first.sl.r_29 run_first.sl.r_30 run_first.sl.r_32 run_first.sl.r_34 run_first.sl.r_35 run_first.sl.r_38 run_first.sl.r_39
        run_first.sl.r_42 run_first.sl.r_43 run_first.sl.v20 run_first.sl.v404
      simp only [readCov_all]
      simp only [readAt_eq_ld, ld_all]
      subst hs
      rfl
    · iexists _; iframe H36; ipureintro
      delta run_first.sl.H36_2
      rw [View.read_writes_cons_put _ _ _ _ _ rfl, View.read_writes_cons_put _ _ _ _ _ rfl]
      delta run_first.sl.H36_1
      rw [View.read_writes_full]
      delta run_first.sl.H36_1 run_first.sl.H36_2 run_first.sl.r_6 run_first.sl.r_7 run_first.sl.r_8 run_first.sl.r_24 run_first.sl.r_25
        run_first.sl.r_26 run_first.sl.r_45 run_first.sl.r_46 run_first.sl.r_52 run_first.sl.r_53 run_first.sl.r_61 run_first.sl.r_62
        run_first.sl.r_63 run_first.sl.r_64 run_first.sl.r_65 run_first.sl.r_66 run_first.sl.r_67 run_first.sl.r_71 run_first.sl.r_72
        run_first.sl.r_73 run_first.sl.r_75 run_first.sl.r_76 run_first.sl.r_85 run_first.sl.r_86 run_first.sl.v674 run_first.sl.v678
      simp (disch := first | rfl | decide) only [↓View.readCov_skip, View.readCov_fill]
      simp only [readAt_eq_ld, ld_all]
      subst hs
      rfl
  isplitl [H29]; · (iexists _, _; iframe H29; ipureintro; rfl)
  isplitl [H30]; · (iexists _, _; iframe H30; ipureintro; rfl)
  isplitl [H37]; · (iexists _, _; iframe H37; ipureintro; rfl)
  isplitl [H38]; · (iexists _, _; iframe H38; ipureintro; rfl)
  isplitl [H39]; · (iexists _, _; iframe H39; ipureintro; rfl)
  isplitl [H40]; · (iexists _, _; iframe H40; ipureintro; rfl)
  isplitl [H41]; · (iexists _, _; iframe H41; ipureintro; rfl)
  iexists _, _; iframe H42; ipureintro; rfl
end
end Cert.Proj
end
-- ==== Proof.ProjOdd.lean ====
/- One run of the projection's backward call at an odd point. -/
module

public import proofs.«01_k».proof.Proof.ProjHeld

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

section
variable (c : Dev nD) (i : grid0.Coords)
  (arg1 : Memref sig .tc .vmem S256x1024 .f32) (harg1 : arg1.IsWhole) (arg2 : Memref sig .tc .vmem S256x1024 .f32) (harg2 : arg2.IsWhole) (arg3 :
  Memref sig .tc .vmem S256x1024 .f32) (harg3 : arg3.IsWhole) (arg4 : Memref sig .tc .vmem S8x1024 .f32) (harg4 : arg4.IsWhole) (arg5 : Memref sig .tc
  .vmem S8x1024 .f32) (harg5 : arg5.IsWhole) (arg6 : Memref sig .tc .vmem S1x1024 .f32) (harg6 : arg6.IsWhole) (arg7 : Memref sig .tc .vmem S1984x1024
  .bf16) (harg7 : arg7.IsWhole) (arg8 : Memref sig .tc .vmem S1x256 .f32) (harg8 : arg8.IsWhole) (arg9 : Memref sig .tc .vmem S1024x256 .bf16) (harg9
  : arg9.IsWhole) (arg10 : Memref sig .tc .vmem S1x128 .f32) (harg10 : arg10.IsWhole) (arg11 : Memref sig .tc .vmem S128x1024 .bf16) (harg11 :
  arg11.IsWhole) (arg12 : Memref sig .tc .vmem S1x256 .f32) (harg12 : arg12.IsWhole) (arg13 : Memref sig .tc .vmem S1x256 .f32) (harg13 :
  arg13.IsWhole) (arg14 : Memref sig .tc .vmem S256x128 .f32) (harg14 : arg14.IsWhole) (arg15 : Memref sig .tc .vmem S256x128 .f32) (harg15 :
  arg15.IsWhole) (arg16 : Memref sig .tc .vmem S256x128 .f32) (harg16 : arg16.IsWhole) (arg17 : Memref sig .tc .vmem S256x256 .f32) (harg17 :
  arg17.IsWhole) (arg18 : Memref sig .tc .vmem S256x128 .f32) (harg18 : arg18.IsWhole) (arg19 : Memref sig .tc .vmem S256x128 .f32) (harg19 :
  arg19.IsWhole) (arg20 : Memref sig .tc .vmem S4x256x256 .f32) (harg20 : arg20.IsWhole) (arg21 : Memref sig .tc .vmem S4x256x256 .f32) (harg21 :
  arg21.IsWhole) (arg22 : Memref sig .tc .vmem S4x128x256 .f32) (harg22 : arg22.IsWhole) (arg23 : Memref sig .tc .vmem S256x512 .bf16) (harg23 :
  arg23.IsWhole) (arg24 : Memref sig .tc .vmem S256x512 .bf16) (harg24 : arg24.IsWhole) (arg25 : Memref sig .tc .vmem S256x512 .bf16) (harg25 :
  arg25.IsWhole) (arg26 : Memref sig .tc .vmem S16x512 .bf16) (harg26 : arg26.IsWhole) (arg27 : Memref sig .tc .vmem S16x512 .bf16) (harg27 :
  arg27.IsWhole) (arg28 : Memref sig .tc .vmem S256x1024 .f32) (harg28 : arg28.IsWhole) (arg29 : Memref sig .tc .vmem S256x1024 .f32) (harg29 :
  arg29.IsWhole) (arg30 : Memref sig .tc .vmem S1984x1024 .f32) (harg30 : arg30.IsWhole) (arg31 : Memref sig .tc .vmem S1024x256 .f32) (harg31 :
  arg31.IsWhole) (arg32 : Memref sig .tc .vmem S1024x128 .f32) (harg32 : arg32.IsWhole) (arg33 : Memref sig .tc .vmem S1x256 .f32) (harg33 :
  arg33.IsWhole) (arg34 : Memref sig .tc .vmem S1x128 .f32) (harg34 : arg34.IsWhole) (arg35 : Memref sig .tc .vmem S1x256 .f32) (harg35 :
  arg35.IsWhole) (arg36 : Memref sig .tc .vmem S1x256 .f32) (harg36 : arg36.IsWhole) (arg37 : Memref sig .tc .vmem S1x1024 .f32) (harg37 :
  arg37.IsWhole) (arg38 : Memref sig .tc .vmem S8x1024 .f32) (harg38 : arg38.IsWhole) (arg39 : Memref sig .tc .vmem S256x2048 .bf16) (harg39 :
  arg39.IsWhole) (arg40 : Memref sig .tc .vmem S256x2048 .bf16) (harg40 : arg40.IsWhole) (arg41 : Memref sig .tc .vmem S256x1024 .f32) (harg41 :
  arg41.IsWhole) (arg42 : Memref sig .tc .vmem S256x1024 .f32) (harg42 : arg42.IsWhole)
  (b : Blocks F) (s s' : Sums F)

set_option maxHeartbeats 1200000 in
/-- An odd point up to 15: a tile's parts are added. -/
theorem run_odd (hc0 : ¬ k0_cond1 i = 1#1) (hc1 : ¬ k0_cond2 i = 1#1) (hc2 : k0_cond3 i = 1#1) (hc3 : ¬ k0_cond4 i = 1#1) (hc4 : ¬ k0_cond5 i = 1#1)
  (hs : step (latBit i) b s = s') (E : Set ℕ) (K : PUnit → sProp 𝕄) :
    iprop(Raw c arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 b ∗ RawSums c arg31 harg31 arg32 harg32 arg33 harg33 arg34 harg34 arg35
      harg35 arg36 harg36 s ∗ HeldRest c arg29 arg30 arg37 arg38 arg39 arg40 arg41 arg42
      ∗ (iprop(Raw c arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22
        arg23 harg23 arg24 harg24 arg25 harg25 arg26 harg26 arg27 harg27 arg28 harg28 b ∗ HeldSums c arg31 arg32 arg33 arg34 arg35 arg36 s' ∗ HeldRest
        c arg29 arg30 arg37 arg38 arg39 arg40 arg41 arg42) -∗ K ⟨⟩))
    ⊢ wp frame (wpE (defs₀ (F := F)) Variants.none c none) E (cc0_inproj_bwd i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27 harg27 arg28 harg28 arg29 harg29
      arg30 harg30 arg31 harg31 arg32 harg32 arg33 harg33 arg34 harg34 arg35 harg35 arg36 harg36 arg37 harg37 arg38 harg38 arg39 harg39 arg40 harg40
      arg41 harg41 arg42 harg42) K := by
  unfold Raw RawSums HeldRest owns
  iintro ⟨⟨H1, H2, H3, H4, H5, H6, H7, H8, H9, H10, H11, H12, H13, H14, H15, H16, H17, H18, H19, H20, H21, H22, H23, H24, H25, H26, H27, H28⟩, ⟨H31,
    H32, H33, H34, H35, H36⟩, ⟨⟨%d29, %f29, -, H29⟩, ⟨%d30, %f30, -, H30⟩, ⟨%d37, %f37, -, H37⟩, ⟨%d38, %f38, -, H38⟩, ⟨%d39, %f39, -, H39⟩, ⟨%d40,
    %f40, -, H40⟩, ⟨%d41, %f41, -, H41⟩, ⟨%d42, %f42, -, H42⟩⟩, Hk⟩
  simp only [cc0_inproj_bwd_eq_skeleton]; unfold cc0_inproj_bwd_skel
  simp only [k0_part24_eq_skeleton, k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton]
  sl_exec (disch := first | sl_exact hc0 | sl_exact hc1 | sl_exact hc2 | sl_exact hc3 | sl_exact hc4)
  sl_step
  iapply Hk
  isplitl [H1 H2 H3 H4 H5 H6 H7 H8 H9 H10 H11 H12 H13 H14 H15 H16 H17 H18 H19 H20 H21 H22 H23 H24 H25 H26 H27 H28]; · iframe
  isplitr [H29 H30 H37 H38 H39 H40 H41 H42]
  · unfold HeldSums owns
    isplitl [H31]
    · iexists _; iframe H31; ipureintro
      rw [View.read_writes_full]
      delta run_odd.sl.cst_132 run_odd.sl.r_2 run_odd.sl.r_3 run_odd.sl.r_25 run_odd.sl.r_26 run_odd.sl.r_27 run_odd.sl.r_28 run_odd.sl.r_29
        run_odd.sl.r_30 run_odd.sl.r_32 run_odd.sl.r_33 run_odd.sl.r_34 run_odd.sl.r_35 run_odd.sl.r_37 run_odd.sl.r_38 run_odd.sl.r_39
        run_odd.sl.r_41 run_odd.sl.r_42 run_odd.sl.r_43 run_odd.sl.r_44 run_odd.sl.r_45 run_odd.sl.v20
      simp only [readAt_eq_ld, ld_all]
      subst hs
      rfl
    isplitl [H32]
    · iexists _; iframe H32; ipureintro
      rw [View.read_writes_full]
      delta run_odd.sl.r_6 run_odd.sl.r_7 run_odd.sl.r_8 run_odd.sl.r_25 run_odd.sl.r_26 run_odd.sl.r_27 run_odd.sl.r_46 run_odd.sl.r_47
        run_odd.sl.r_48 run_odd.sl.r_49 run_odd.sl.r_50 run_odd.sl.r_51 run_odd.sl.r_52 run_odd.sl.r_55 run_odd.sl.r_56 run_odd.sl.r_57
        run_odd.sl.r_58 run_odd.sl.r_59 run_odd.sl.r_61 run_odd.sl.r_62 run_odd.sl.r_63 run_odd.sl.r_64 run_odd.sl.r_65 run_odd.sl.r_66
        run_odd.sl.r_69 run_odd.sl.r_70 run_odd.sl.r_72 run_odd.sl.r_73 run_odd.sl.r_74 run_odd.sl.r_80 run_odd.sl.r_81 run_odd.sl.r_83
        run_odd.sl.r_84 run_odd.sl.r_85 run_odd.sl.r_88 run_odd.sl.r_89 run_odd.sl.r_90 run_odd.sl.r_92
      simp only [readAt_eq_ld, ld_all]
      subst hs
      rfl
    isplitl [H33]
    · iexists _; iframe H33; ipureintro
      rw [View.read_writes_full]
      delta run_odd.sl.cst_132 run_odd.sl.r_1 run_odd.sl.r_3 run_odd.sl.r_25 run_odd.sl.r_26 run_odd.sl.r_27 run_odd.sl.r_28 run_odd.sl.r_29
        run_odd.sl.r_30 run_odd.sl.r_32 run_odd.sl.r_33 run_odd.sl.r_34 run_odd.sl.r_35 run_odd.sl.r_37 run_odd.sl.r_38 run_odd.sl.r_39
        run_odd.sl.r_41 run_odd.sl.r_42 run_odd.sl.r_43 run_odd.sl.r_44 run_odd.sl.r_45 run_odd.sl.r_106 run_odd.sl.v20
      simp only [readAt_eq_ld, ld_all]
      subst hs
      rfl
    isplitl [H34]
    · iexists _; iframe H34; ipureintro
      rw [View.read_writes_full]
      delta run_odd.sl.r_5 run_odd.sl.r_6 run_odd.sl.r_7 run_odd.sl.r_8 run_odd.sl.r_25 run_odd.sl.r_26 run_odd.sl.r_27 run_odd.sl.r_46
        run_odd.sl.r_47 run_odd.sl.r_48 run_odd.sl.r_49 run_odd.sl.r_50 run_odd.sl.r_51 run_odd.sl.r_52 run_odd.sl.r_55 run_odd.sl.r_56
        run_odd.sl.r_57 run_odd.sl.r_58 run_odd.sl.r_59 run_odd.sl.r_61 run_odd.sl.r_62 run_odd.sl.r_63 run_odd.sl.r_64 run_odd.sl.r_65
        run_odd.sl.r_66 run_odd.sl.r_69 run_odd.sl.r_70 run_odd.sl.r_72 run_odd.sl.r_73 run_odd.sl.r_74 run_odd.sl.r_80 run_odd.sl.r_81
        run_odd.sl.r_83 run_odd.sl.r_84 run_odd.sl.r_85 run_odd.sl.r_88 run_odd.sl.r_89 run_odd.sl.r_90 run_odd.sl.r_92 run_odd.sl.r_105
      simp only [readAt_eq_ld, ld_all]
      subst hs
      rfl
    isplitl [H35]
    · iexists _; iframe H35; ipureintro
      rw [View.read_writes_full]
      delta run_odd.sl.cst_132 run_odd.sl.r_3 run_odd.sl.r_25 run_odd.sl.r_26 run_odd.sl.r_27 run_odd.sl.r_29 run_odd.sl.r_30 run_odd.sl.r_31
        run_odd.sl.r_33 run_odd.sl.r_35 run_odd.sl.r_36 run_odd.sl.r_39 run_odd.sl.r_40 run_odd.sl.r_43 run_odd.sl.r_44 run_odd.sl.v20
      simp only [readAt_eq_ld, ld_all]
      subst hs
      rfl
    · iexists _; iframe H36; ipureintro
      rw [View.read_writes_cons_put _ _ _ _ _ rfl, View.read_writes_cons_put _ _ _ _ _ rfl, View.writes_nil, harg36.read_unread]
      delta run_odd.sl.r_6 run_odd.sl.r_7 run_odd.sl.r_8 run_odd.sl.r_25 run_odd.sl.r_26 run_odd.sl.r_27 run_odd.sl.r_46 run_odd.sl.r_47
        run_odd.sl.r_53 run_odd.sl.r_54 run_odd.sl.r_62 run_odd.sl.r_63 run_odd.sl.r_64 run_odd.sl.r_65 run_odd.sl.r_66 run_odd.sl.r_67
        run_odd.sl.r_68 run_odd.sl.r_72 run_odd.sl.r_73 run_odd.sl.r_74 run_odd.sl.r_76 run_odd.sl.r_77 run_odd.sl.r_86 run_odd.sl.r_87
        run_odd.sl.v678
      simp only [readAt_eq_ld, ld_all]
      subst hs
      rfl
  isplitl [H29]; · (iexists _, _; iframe H29; ipureintro; rfl)
  isplitl [H30]; · (iexists _, _; iframe H30; ipureintro; rfl)
  isplitl [H37]; · (iexists _, _; iframe H37; ipureintro; rfl)
  isplitl [H38]; · (iexists _, _; iframe H38; ipureintro; rfl)
  isplitl [H39]; · (iexists _, _; iframe H39; ipureintro; rfl)
  isplitl [H40]; · (iexists _, _; iframe H40; ipureintro; rfl)
  isplitl [H41]; · (iexists _, _; iframe H41; ipureintro; rfl)
  iexists _, _; iframe H42; ipureintro; rfl
end
end Cert.Proj
end
-- ==== Proof.ProjEven.lean ====
/- One run of the projection's backward call at an even point after the first. -/
module

public import proofs.«01_k».proof.Proof.ProjHeld

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

section
variable (c : Dev nD) (i : grid0.Coords)
  (arg1 : Memref sig .tc .vmem S256x1024 .f32) (harg1 : arg1.IsWhole) (arg2 : Memref sig .tc .vmem S256x1024 .f32) (harg2 : arg2.IsWhole) (arg3 :
  Memref sig .tc .vmem S256x1024 .f32) (harg3 : arg3.IsWhole) (arg4 : Memref sig .tc .vmem S8x1024 .f32) (harg4 : arg4.IsWhole) (arg5 : Memref sig .tc
  .vmem S8x1024 .f32) (harg5 : arg5.IsWhole) (arg6 : Memref sig .tc .vmem S1x1024 .f32) (harg6 : arg6.IsWhole) (arg7 : Memref sig .tc .vmem S1984x1024
  .bf16) (harg7 : arg7.IsWhole) (arg8 : Memref sig .tc .vmem S1x256 .f32) (harg8 : arg8.IsWhole) (arg9 : Memref sig .tc .vmem S1024x256 .bf16) (harg9
  : arg9.IsWhole) (arg10 : Memref sig .tc .vmem S1x128 .f32) (harg10 : arg10.IsWhole) (arg11 : Memref sig .tc .vmem S128x1024 .bf16) (harg11 :
  arg11.IsWhole) (arg12 : Memref sig .tc .vmem S1x256 .f32) (harg12 : arg12.IsWhole) (arg13 : Memref sig .tc .vmem S1x256 .f32) (harg13 :
  arg13.IsWhole) (arg14 : Memref sig .tc .vmem S256x128 .f32) (harg14 : arg14.IsWhole) (arg15 : Memref sig .tc .vmem S256x128 .f32) (harg15 :
  arg15.IsWhole) (arg16 : Memref sig .tc .vmem S256x128 .f32) (harg16 : arg16.IsWhole) (arg17 : Memref sig .tc .vmem S256x256 .f32) (harg17 :
  arg17.IsWhole) (arg18 : Memref sig .tc .vmem S256x128 .f32) (harg18 : arg18.IsWhole) (arg19 : Memref sig .tc .vmem S256x128 .f32) (harg19 :
  arg19.IsWhole) (arg20 : Memref sig .tc .vmem S4x256x256 .f32) (harg20 : arg20.IsWhole) (arg21 : Memref sig .tc .vmem S4x256x256 .f32) (harg21 :
  arg21.IsWhole) (arg22 : Memref sig .tc .vmem S4x128x256 .f32) (harg22 : arg22.IsWhole) (arg23 : Memref sig .tc .vmem S256x512 .bf16) (harg23 :
  arg23.IsWhole) (arg24 : Memref sig .tc .vmem S256x512 .bf16) (harg24 : arg24.IsWhole) (arg25 : Memref sig .tc .vmem S256x512 .bf16) (harg25 :
  arg25.IsWhole) (arg26 : Memref sig .tc .vmem S16x512 .bf16) (harg26 : arg26.IsWhole) (arg27 : Memref sig .tc .vmem S16x512 .bf16) (harg27 :
  arg27.IsWhole) (arg28 : Memref sig .tc .vmem S256x1024 .f32) (harg28 : arg28.IsWhole) (arg29 : Memref sig .tc .vmem S256x1024 .f32) (harg29 :
  arg29.IsWhole) (arg30 : Memref sig .tc .vmem S1984x1024 .f32) (harg30 : arg30.IsWhole) (arg31 : Memref sig .tc .vmem S1024x256 .f32) (harg31 :
  arg31.IsWhole) (arg32 : Memref sig .tc .vmem S1024x128 .f32) (harg32 : arg32.IsWhole) (arg33 : Memref sig .tc .vmem S1x256 .f32) (harg33 :
  arg33.IsWhole) (arg34 : Memref sig .tc .vmem S1x128 .f32) (harg34 : arg34.IsWhole) (arg35 : Memref sig .tc .vmem S1x256 .f32) (harg35 :
  arg35.IsWhole) (arg36 : Memref sig .tc .vmem S1x256 .f32) (harg36 : arg36.IsWhole) (arg37 : Memref sig .tc .vmem S1x1024 .f32) (harg37 :
  arg37.IsWhole) (arg38 : Memref sig .tc .vmem S8x1024 .f32) (harg38 : arg38.IsWhole) (arg39 : Memref sig .tc .vmem S256x2048 .bf16) (harg39 :
  arg39.IsWhole) (arg40 : Memref sig .tc .vmem S256x2048 .bf16) (harg40 : arg40.IsWhole) (arg41 : Memref sig .tc .vmem S256x1024 .f32) (harg41 :
  arg41.IsWhole) (arg42 : Memref sig .tc .vmem S256x1024 .f32) (harg42 : arg42.IsWhole)
  (b : Blocks F) (s s' : Sums F)

set_option maxHeartbeats 1200000 in
/-- An even point from 2 to 16: a tile's parts are added. -/
theorem run_even (hc0 : ¬ k0_cond1 i = 1#1) (hc1 : k0_cond2 i = 1#1) (hc2 : ¬ k0_cond3 i = 1#1) (hc3 : ¬ k0_cond4 i = 1#1) (hc4 : ¬ k0_cond5 i = 1#1)
  (hs : step (latBit i) b s = s') (E : Set ℕ) (K : PUnit → sProp 𝕄) :
    iprop(Raw c arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 b ∗ RawSums c arg31 harg31 arg32 harg32 arg33 harg33 arg34 harg34 arg35
      harg35 arg36 harg36 s ∗ HeldRest c arg29 arg30 arg37 arg38 arg39 arg40 arg41 arg42
      ∗ (iprop(Raw c arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22
        arg23 harg23 arg24 harg24 arg25 harg25 arg26 harg26 arg27 harg27 arg28 harg28 b ∗ HeldSums c arg31 arg32 arg33 arg34 arg35 arg36 s' ∗ HeldRest
        c arg29 arg30 arg37 arg38 arg39 arg40 arg41 arg42) -∗ K ⟨⟩))
    ⊢ wp frame (wpE (defs₀ (F := F)) Variants.none c none) E (cc0_inproj_bwd i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27 harg27 arg28 harg28 arg29 harg29
      arg30 harg30 arg31 harg31 arg32 harg32 arg33 harg33 arg34 harg34 arg35 harg35 arg36 harg36 arg37 harg37 arg38 harg38 arg39 harg39 arg40 harg40
      arg41 harg41 arg42 harg42) K := by
  unfold Raw RawSums HeldRest owns
  iintro ⟨⟨H1, H2, H3, H4, H5, H6, H7, H8, H9, H10, H11, H12, H13, H14, H15, H16, H17, H18, H19, H20, H21, H22, H23, H24, H25, H26, H27, H28⟩, ⟨H31,
    H32, H33, H34, H35, H36⟩, ⟨⟨%d29, %f29, -, H29⟩, ⟨%d30, %f30, -, H30⟩, ⟨%d37, %f37, -, H37⟩, ⟨%d38, %f38, -, H38⟩, ⟨%d39, %f39, -, H39⟩, ⟨%d40,
    %f40, -, H40⟩, ⟨%d41, %f41, -, H41⟩, ⟨%d42, %f42, -, H42⟩⟩, Hk⟩
  simp only [cc0_inproj_bwd_eq_skeleton]; unfold cc0_inproj_bwd_skel
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton]
  sl_exec (disch := first | sl_exact hc0 | sl_exact hc1 | sl_exact hc2 | sl_exact hc3 | sl_exact hc4)
  sl_step
  iapply Hk
  isplitl [H1 H2 H3 H4 H5 H6 H7 H8 H9 H10 H11 H12 H13 H14 H15 H16 H17 H18 H19 H20 H21 H22 H23 H24 H25 H26 H27 H28]; · iframe
  isplitr [H29 H30 H37 H38 H39 H40 H41 H42]
  · unfold HeldSums owns
    isplitl [H31]
    · iexists _; iframe H31; ipureintro
      rw [View.read_writes_full]
      delta run_even.sl.cst_132 run_even.sl.r_2 run_even.sl.r_3 run_even.sl.r_25 run_even.sl.r_26 run_even.sl.r_27 run_even.sl.r_28 run_even.sl.r_29
        run_even.sl.r_30 run_even.sl.r_32 run_even.sl.r_33 run_even.sl.r_34 run_even.sl.r_35 run_even.sl.r_37 run_even.sl.r_38 run_even.sl.r_39
        run_even.sl.r_41 run_even.sl.r_42 run_even.sl.r_43 run_even.sl.r_44 run_even.sl.r_45 run_even.sl.v20
      simp only [readAt_eq_ld, ld_all]
      subst hs
      rfl
    isplitl [H32]
    · iexists _; iframe H32; ipureintro
      rw [View.read_writes_full]
      delta run_even.sl.r_6 run_even.sl.r_7 run_even.sl.r_8 run_even.sl.r_25 run_even.sl.r_26 run_even.sl.r_27 run_even.sl.r_46 run_even.sl.r_47
        run_even.sl.r_48 run_even.sl.r_49 run_even.sl.r_50 run_even.sl.r_51 run_even.sl.r_52 run_even.sl.r_55 run_even.sl.r_56 run_even.sl.r_57
        run_even.sl.r_58 run_even.sl.r_59 run_even.sl.r_61 run_even.sl.r_62 run_even.sl.r_63 run_even.sl.r_64 run_even.sl.r_65 run_even.sl.r_66
        run_even.sl.r_69 run_even.sl.r_70 run_even.sl.r_72 run_even.sl.r_73 run_even.sl.r_74 run_even.sl.r_80 run_even.sl.r_81 run_even.sl.r_83
        run_even.sl.r_84 run_even.sl.r_85 run_even.sl.r_88 run_even.sl.r_89 run_even.sl.r_90 run_even.sl.r_92
      simp only [readAt_eq_ld, ld_all]
      subst hs
      rfl
    isplitl [H33]
    · iexists _; iframe H33; ipureintro
      rw [View.read_writes_full]
      delta run_even.sl.cst_132 run_even.sl.r_1 run_even.sl.r_3 run_even.sl.r_25 run_even.sl.r_26 run_even.sl.r_27 run_even.sl.r_28 run_even.sl.r_29
        run_even.sl.r_30 run_even.sl.r_32 run_even.sl.r_33 run_even.sl.r_34 run_even.sl.r_35 run_even.sl.r_37 run_even.sl.r_38 run_even.sl.r_39
        run_even.sl.r_41 run_even.sl.r_42 run_even.sl.r_43 run_even.sl.r_44 run_even.sl.r_45 run_even.sl.r_106 run_even.sl.v20
      simp only [readAt_eq_ld, ld_all]
      subst hs
      rfl
    isplitl [H34]
    · iexists _; iframe H34; ipureintro
      rw [View.read_writes_full]
      delta run_even.sl.r_5 run_even.sl.r_6 run_even.sl.r_7 run_even.sl.r_8 run_even.sl.r_25 run_even.sl.r_26 run_even.sl.r_27 run_even.sl.r_46
        run_even.sl.r_47 run_even.sl.r_48 run_even.sl.r_49 run_even.sl.r_50 run_even.sl.r_51 run_even.sl.r_52 run_even.sl.r_55 run_even.sl.r_56
        run_even.sl.r_57 run_even.sl.r_58 run_even.sl.r_59 run_even.sl.r_61 run_even.sl.r_62 run_even.sl.r_63 run_even.sl.r_64 run_even.sl.r_65
        run_even.sl.r_66 run_even.sl.r_69 run_even.sl.r_70 run_even.sl.r_72 run_even.sl.r_73 run_even.sl.r_74 run_even.sl.r_80 run_even.sl.r_81
        run_even.sl.r_83 run_even.sl.r_84 run_even.sl.r_85 run_even.sl.r_88 run_even.sl.r_89 run_even.sl.r_90 run_even.sl.r_92 run_even.sl.r_105
      simp only [readAt_eq_ld, ld_all]
      subst hs
      rfl
    isplitl [H35]
    · iexists _; iframe H35; ipureintro
      rw [View.read_writes_full]
      delta run_even.sl.cst_132 run_even.sl.r_3 run_even.sl.r_25 run_even.sl.r_26 run_even.sl.r_27 run_even.sl.r_29 run_even.sl.r_30 run_even.sl.r_31
        run_even.sl.r_33 run_even.sl.r_35 run_even.sl.r_36 run_even.sl.r_39 run_even.sl.r_40 run_even.sl.r_43 run_even.sl.r_44 run_even.sl.v20
      simp only [readAt_eq_ld, ld_all]
      subst hs
      rfl
    · iexists _; iframe H36; ipureintro
      rw [View.read_writes_cons_put _ _ _ _ _ rfl, View.read_writes_cons_put _ _ _ _ _ rfl, View.writes_nil, harg36.read_unread]
      delta run_even.sl.r_6 run_even.sl.r_7 run_even.sl.r_8 run_even.sl.r_25 run_even.sl.r_26 run_even.sl.r_27 run_even.sl.r_46 run_even.sl.r_47
        run_even.sl.r_53 run_even.sl.r_54 run_even.sl.r_62 run_even.sl.r_63 run_even.sl.r_64 run_even.sl.r_65 run_even.sl.r_66 run_even.sl.r_67
        run_even.sl.r_68 run_even.sl.r_72 run_even.sl.r_73 run_even.sl.r_74 run_even.sl.r_76 run_even.sl.r_77 run_even.sl.r_86 run_even.sl.r_87
        run_even.sl.v678
      simp only [readAt_eq_ld, ld_all]
      subst hs
      rfl
  isplitl [H29]; · (iexists _, _; iframe H29; ipureintro; rfl)
  isplitl [H30]; · (iexists _, _; iframe H30; ipureintro; rfl)
  isplitl [H37]; · (iexists _, _; iframe H37; ipureintro; rfl)
  isplitl [H38]; · (iexists _, _; iframe H38; ipureintro; rfl)
  isplitl [H39]; · (iexists _, _; iframe H39; ipureintro; rfl)
  isplitl [H40]; · (iexists _, _; iframe H40; ipureintro; rfl)
  isplitl [H41]; · (iexists _, _; iframe H41; ipureintro; rfl)
  iexists _, _; iframe H42; ipureintro; rfl
end
end Cert.Proj
end
-- ==== Proof.ProjDrain.lean ====
/- One run of the projection's backward call at point 17. -/
module

public import proofs.«01_k».proof.Proof.ProjHeld

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

section
variable (c : Dev nD) (i : grid0.Coords)
  (arg1 : Memref sig .tc .vmem S256x1024 .f32) (harg1 : arg1.IsWhole) (arg2 : Memref sig .tc .vmem S256x1024 .f32) (harg2 : arg2.IsWhole) (arg3 :
  Memref sig .tc .vmem S256x1024 .f32) (harg3 : arg3.IsWhole) (arg4 : Memref sig .tc .vmem S8x1024 .f32) (harg4 : arg4.IsWhole) (arg5 : Memref sig .tc
  .vmem S8x1024 .f32) (harg5 : arg5.IsWhole) (arg6 : Memref sig .tc .vmem S1x1024 .f32) (harg6 : arg6.IsWhole) (arg7 : Memref sig .tc .vmem S1984x1024
  .bf16) (harg7 : arg7.IsWhole) (arg8 : Memref sig .tc .vmem S1x256 .f32) (harg8 : arg8.IsWhole) (arg9 : Memref sig .tc .vmem S1024x256 .bf16) (harg9
  : arg9.IsWhole) (arg10 : Memref sig .tc .vmem S1x128 .f32) (harg10 : arg10.IsWhole) (arg11 : Memref sig .tc .vmem S128x1024 .bf16) (harg11 :
  arg11.IsWhole) (arg12 : Memref sig .tc .vmem S1x256 .f32) (harg12 : arg12.IsWhole) (arg13 : Memref sig .tc .vmem S1x256 .f32) (harg13 :
  arg13.IsWhole) (arg14 : Memref sig .tc .vmem S256x128 .f32) (harg14 : arg14.IsWhole) (arg15 : Memref sig .tc .vmem S256x128 .f32) (harg15 :
  arg15.IsWhole) (arg16 : Memref sig .tc .vmem S256x128 .f32) (harg16 : arg16.IsWhole) (arg17 : Memref sig .tc .vmem S256x256 .f32) (harg17 :
  arg17.IsWhole) (arg18 : Memref sig .tc .vmem S256x128 .f32) (harg18 : arg18.IsWhole) (arg19 : Memref sig .tc .vmem S256x128 .f32) (harg19 :
  arg19.IsWhole) (arg20 : Memref sig .tc .vmem S4x256x256 .f32) (harg20 : arg20.IsWhole) (arg21 : Memref sig .tc .vmem S4x256x256 .f32) (harg21 :
  arg21.IsWhole) (arg22 : Memref sig .tc .vmem S4x128x256 .f32) (harg22 : arg22.IsWhole) (arg23 : Memref sig .tc .vmem S256x512 .bf16) (harg23 :
  arg23.IsWhole) (arg24 : Memref sig .tc .vmem S256x512 .bf16) (harg24 : arg24.IsWhole) (arg25 : Memref sig .tc .vmem S256x512 .bf16) (harg25 :
  arg25.IsWhole) (arg26 : Memref sig .tc .vmem S16x512 .bf16) (harg26 : arg26.IsWhole) (arg27 : Memref sig .tc .vmem S16x512 .bf16) (harg27 :
  arg27.IsWhole) (arg28 : Memref sig .tc .vmem S256x1024 .f32) (harg28 : arg28.IsWhole) (arg29 : Memref sig .tc .vmem S256x1024 .f32) (harg29 :
  arg29.IsWhole) (arg30 : Memref sig .tc .vmem S1984x1024 .f32) (harg30 : arg30.IsWhole) (arg31 : Memref sig .tc .vmem S1024x256 .f32) (harg31 :
  arg31.IsWhole) (arg32 : Memref sig .tc .vmem S1024x128 .f32) (harg32 : arg32.IsWhole) (arg33 : Memref sig .tc .vmem S1x256 .f32) (harg33 :
  arg33.IsWhole) (arg34 : Memref sig .tc .vmem S1x128 .f32) (harg34 : arg34.IsWhole) (arg35 : Memref sig .tc .vmem S1x256 .f32) (harg35 :
  arg35.IsWhole) (arg36 : Memref sig .tc .vmem S1x256 .f32) (harg36 : arg36.IsWhole) (arg37 : Memref sig .tc .vmem S1x1024 .f32) (harg37 :
  arg37.IsWhole) (arg38 : Memref sig .tc .vmem S8x1024 .f32) (harg38 : arg38.IsWhole) (arg39 : Memref sig .tc .vmem S256x2048 .bf16) (harg39 :
  arg39.IsWhole) (arg40 : Memref sig .tc .vmem S256x2048 .bf16) (harg40 : arg40.IsWhole) (arg41 : Memref sig .tc .vmem S256x1024 .f32) (harg41 :
  arg41.IsWhole) (arg42 : Memref sig .tc .vmem S256x1024 .f32) (harg42 : arg42.IsWhole)
  (b : Blocks F) (s s' : Sums F)

set_option maxHeartbeats 1200000 in
/-- Point 17: the sums are left as they are. -/
theorem run_drain (hc0 : ¬ k0_cond1 i = 1#1) (hc1 : ¬ k0_cond2 i = 1#1) (hc2 : ¬ k0_cond3 i = 1#1) (hc3 : k0_cond4 i = 1#1) (hc4 : ¬ k0_cond5 i = 1#1)
  (E : Set ℕ) (K : PUnit → sProp 𝕄) :
    iprop(Raw c arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 b ∗ RawSums c arg31 harg31 arg32 harg32 arg33 harg33 arg34 harg34 arg35
      harg35 arg36 harg36 s ∗ HeldRest c arg29 arg30 arg37 arg38 arg39 arg40 arg41 arg42
      ∗ (iprop(Raw c arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22
        arg23 harg23 arg24 harg24 arg25 harg25 arg26 harg26 arg27 harg27 arg28 harg28 b ∗ HeldSums c arg31 arg32 arg33 arg34 arg35 arg36 s ∗ HeldRest
        c arg29 arg30 arg37 arg38 arg39 arg40 arg41 arg42) -∗ K ⟨⟩))
    ⊢ wp frame (wpE (defs₀ (F := F)) Variants.none c none) E (cc0_inproj_bwd i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27 harg27 arg28 harg28 arg29 harg29
      arg30 harg30 arg31 harg31 arg32 harg32 arg33 harg33 arg34 harg34 arg35 harg35 arg36 harg36 arg37 harg37 arg38 harg38 arg39 harg39 arg40 harg40
      arg41 harg41 arg42 harg42) K := by
  unfold Raw RawSums HeldRest owns
  iintro ⟨⟨H1, H2, H3, H4, H5, H6, H7, H8, H9, H10, H11, H12, H13, H14, H15, H16, H17, H18, H19, H20, H21, H22, H23, H24, H25, H26, H27, H28⟩, ⟨H31,
    H32, H33, H34, H35, H36⟩, ⟨⟨%d29, %f29, -, H29⟩, ⟨%d30, %f30, -, H30⟩, ⟨%d37, %f37, -, H37⟩, ⟨%d38, %f38, -, H38⟩, ⟨%d39, %f39, -, H39⟩, ⟨%d40,
    %f40, -, H40⟩, ⟨%d41, %f41, -, H41⟩, ⟨%d42, %f42, -, H42⟩⟩, Hk⟩
  simp only [cc0_inproj_bwd_eq_skeleton]; unfold cc0_inproj_bwd_skel
  rw [k0_part46_eq_skeleton, k0_part47_eq_skeleton, k0_part48_eq_skeleton, k0_part49_eq_skeleton]
  sl_exec (disch := first | sl_exact hc0 | sl_exact hc1 | sl_exact hc2 | sl_exact hc3 | sl_exact hc4)
  sl_step
  iapply Hk
  isplitl [H1 H2 H3 H4 H5 H6 H7 H8 H9 H10 H11 H12 H13 H14 H15 H16 H17 H18 H19 H20 H21 H22 H23 H24 H25 H26 H27 H28]; · iframe
  isplitr [H29 H30 H37 H38 H39 H40 H41 H42]
  · unfold HeldSums owns
    isplitl [H31]
    · iexists _; iframe H31; ipureintro
      exact harg31.read_unread _
    isplitl [H32]
    · iexists _; iframe H32; ipureintro
      exact harg32.read_unread _
    isplitl [H33]
    · iexists _; iframe H33; ipureintro
      exact harg33.read_unread _
    isplitl [H34]
    · iexists _; iframe H34; ipureintro
      exact harg34.read_unread _
    isplitl [H35]
    · iexists _; iframe H35; ipureintro
      exact harg35.read_unread _
    · iexists _; iframe H36; ipureintro
      exact harg36.read_unread _
  isplitl [H29]; · (iexists _, _; iframe H29; ipureintro; rfl)
  isplitl [H30]; · (iexists _, _; iframe H30; ipureintro; rfl)
  isplitl [H37]; · (iexists _, _; iframe H37; ipureintro; rfl)
  isplitl [H38]; · (iexists _, _; iframe H38; ipureintro; rfl)
  isplitl [H39]; · (iexists _, _; iframe H39; ipureintro; rfl)
  isplitl [H40]; · (iexists _, _; iframe H40; ipureintro; rfl)
  isplitl [H41]; · (iexists _, _; iframe H41; ipureintro; rfl)
  iexists _, _; iframe H42; ipureintro; rfl
end
end Cert.Proj
end
-- ==== Proof.ProjLast.lean ====
/- One run of the projection's backward call at the last point. -/
module

public import proofs.«01_k».proof.Proof.ProjHeld

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

section
variable (c : Dev nD) (i : grid0.Coords)
  (arg1 : Memref sig .tc .vmem S256x1024 .f32) (harg1 : arg1.IsWhole) (arg2 : Memref sig .tc .vmem S256x1024 .f32) (harg2 : arg2.IsWhole) (arg3 :
  Memref sig .tc .vmem S256x1024 .f32) (harg3 : arg3.IsWhole) (arg4 : Memref sig .tc .vmem S8x1024 .f32) (harg4 : arg4.IsWhole) (arg5 : Memref sig .tc
  .vmem S8x1024 .f32) (harg5 : arg5.IsWhole) (arg6 : Memref sig .tc .vmem S1x1024 .f32) (harg6 : arg6.IsWhole) (arg7 : Memref sig .tc .vmem S1984x1024
  .bf16) (harg7 : arg7.IsWhole) (arg8 : Memref sig .tc .vmem S1x256 .f32) (harg8 : arg8.IsWhole) (arg9 : Memref sig .tc .vmem S1024x256 .bf16) (harg9
  : arg9.IsWhole) (arg10 : Memref sig .tc .vmem S1x128 .f32) (harg10 : arg10.IsWhole) (arg11 : Memref sig .tc .vmem S128x1024 .bf16) (harg11 :
  arg11.IsWhole) (arg12 : Memref sig .tc .vmem S1x256 .f32) (harg12 : arg12.IsWhole) (arg13 : Memref sig .tc .vmem S1x256 .f32) (harg13 :
  arg13.IsWhole) (arg14 : Memref sig .tc .vmem S256x128 .f32) (harg14 : arg14.IsWhole) (arg15 : Memref sig .tc .vmem S256x128 .f32) (harg15 :
  arg15.IsWhole) (arg16 : Memref sig .tc .vmem S256x128 .f32) (harg16 : arg16.IsWhole) (arg17 : Memref sig .tc .vmem S256x256 .f32) (harg17 :
  arg17.IsWhole) (arg18 : Memref sig .tc .vmem S256x128 .f32) (harg18 : arg18.IsWhole) (arg19 : Memref sig .tc .vmem S256x128 .f32) (harg19 :
  arg19.IsWhole) (arg20 : Memref sig .tc .vmem S4x256x256 .f32) (harg20 : arg20.IsWhole) (arg21 : Memref sig .tc .vmem S4x256x256 .f32) (harg21 :
  arg21.IsWhole) (arg22 : Memref sig .tc .vmem S4x128x256 .f32) (harg22 : arg22.IsWhole) (arg23 : Memref sig .tc .vmem S256x512 .bf16) (harg23 :
  arg23.IsWhole) (arg24 : Memref sig .tc .vmem S256x512 .bf16) (harg24 : arg24.IsWhole) (arg25 : Memref sig .tc .vmem S256x512 .bf16) (harg25 :
  arg25.IsWhole) (arg26 : Memref sig .tc .vmem S16x512 .bf16) (harg26 : arg26.IsWhole) (arg27 : Memref sig .tc .vmem S16x512 .bf16) (harg27 :
  arg27.IsWhole) (arg28 : Memref sig .tc .vmem S256x1024 .f32) (harg28 : arg28.IsWhole) (arg29 : Memref sig .tc .vmem S256x1024 .f32) (harg29 :
  arg29.IsWhole) (arg30 : Memref sig .tc .vmem S1984x1024 .f32) (harg30 : arg30.IsWhole) (arg31 : Memref sig .tc .vmem S1024x256 .f32) (harg31 :
  arg31.IsWhole) (arg32 : Memref sig .tc .vmem S1024x128 .f32) (harg32 : arg32.IsWhole) (arg33 : Memref sig .tc .vmem S1x256 .f32) (harg33 :
  arg33.IsWhole) (arg34 : Memref sig .tc .vmem S1x128 .f32) (harg34 : arg34.IsWhole) (arg35 : Memref sig .tc .vmem S1x256 .f32) (harg35 :
  arg35.IsWhole) (arg36 : Memref sig .tc .vmem S1x256 .f32) (harg36 : arg36.IsWhole) (arg37 : Memref sig .tc .vmem S1x1024 .f32) (harg37 :
  arg37.IsWhole) (arg38 : Memref sig .tc .vmem S8x1024 .f32) (harg38 : arg38.IsWhole) (arg39 : Memref sig .tc .vmem S256x2048 .bf16) (harg39 :
  arg39.IsWhole) (arg40 : Memref sig .tc .vmem S256x2048 .bf16) (harg40 : arg40.IsWhole) (arg41 : Memref sig .tc .vmem S256x1024 .f32) (harg41 :
  arg41.IsWhole) (arg42 : Memref sig .tc .vmem S256x1024 .f32) (harg42 : arg42.IsWhole)
  (b : Blocks F) (s s' : Sums F)

set_option maxHeartbeats 1200000 in
/-- The last point: the sums are left as they are. -/
theorem run_last (hc0 : ¬ k0_cond1 i = 1#1) (hc1 : ¬ k0_cond2 i = 1#1) (hc2 : ¬ k0_cond3 i = 1#1) (hc3 : ¬ k0_cond4 i = 1#1) (hc4 : k0_cond5 i = 1#1)
  (E : Set ℕ) (K : PUnit → sProp 𝕄) :
    iprop(Raw c arg1 harg1 arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21 arg22 harg22 arg23
      harg23 arg24 harg24 arg25 harg25 arg26 harg26 arg27 harg27 arg28 harg28 b ∗ RawSums c arg31 harg31 arg32 harg32 arg33 harg33 arg34 harg34 arg35
      harg35 arg36 harg36 s ∗ HeldRest c arg29 arg30 arg37 arg38 arg39 arg40 arg41 arg42
      ∗ (iprop(Raw c arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22
        arg23 harg23 arg24 harg24 arg25 harg25 arg26 harg26 arg27 harg27 arg28 harg28 b ∗ HeldSums c arg31 arg32 arg33 arg34 arg35 arg36 s ∗ HeldRest
        c arg29 arg30 arg37 arg38 arg39 arg40 arg41 arg42) -∗ K ⟨⟩))
    ⊢ wp frame (wpE (defs₀ (F := F)) Variants.none c none) E (cc0_inproj_bwd i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27 harg27 arg28 harg28 arg29 harg29
      arg30 harg30 arg31 harg31 arg32 harg32 arg33 harg33 arg34 harg34 arg35 harg35 arg36 harg36 arg37 harg37 arg38 harg38 arg39 harg39 arg40 harg40
      arg41 harg41 arg42 harg42) K := by
  unfold Raw RawSums HeldRest owns
  iintro ⟨⟨H1, H2, H3, H4, H5, H6, H7, H8, H9, H10, H11, H12, H13, H14, H15, H16, H17, H18, H19, H20, H21, H22, H23, H24, H25, H26, H27, H28⟩, ⟨H31,
    H32, H33, H34, H35, H36⟩, ⟨⟨%d29, %f29, -, H29⟩, ⟨%d30, %f30, -, H30⟩, ⟨%d37, %f37, -, H37⟩, ⟨%d38, %f38, -, H38⟩, ⟨%d39, %f39, -, H39⟩, ⟨%d40,
    %f40, -, H40⟩, ⟨%d41, %f41, -, H41⟩, ⟨%d42, %f42, -, H42⟩⟩, Hk⟩
  simp only [cc0_inproj_bwd_eq_skeleton]; unfold cc0_inproj_bwd_skel
  rw [k0_part50_eq_skeleton, k0_part51_eq_skeleton]
  sl_exec (disch := first | sl_exact hc0 | sl_exact hc1 | sl_exact hc2 | sl_exact hc3 | sl_exact hc4)
  sl_step
  iapply Hk
  isplitl [H1 H2 H3 H4 H5 H6 H7 H8 H9 H10 H11 H12 H13 H14 H15 H16 H17 H18 H19 H20 H21 H22 H23 H24 H25 H26 H27 H28]; · iframe
  isplitr [H29 H30 H37 H38 H39 H40 H41 H42]
  · unfold HeldSums owns
    isplitl [H31]
    · iexists _; iframe H31; ipureintro
      exact harg31.read_unread _
    isplitl [H32]
    · iexists _; iframe H32; ipureintro
      exact harg32.read_unread _
    isplitl [H33]
    · iexists _; iframe H33; ipureintro
      exact harg33.read_unread _
    isplitl [H34]
    · iexists _; iframe H34; ipureintro
      exact harg34.read_unread _
    isplitl [H35]
    · iexists _; iframe H35; ipureintro
      exact harg35.read_unread _
    · iexists _; iframe H36; ipureintro
      exact harg36.read_unread _
  isplitl [H29]; · (iexists _, _; iframe H29; ipureintro; rfl)
  isplitl [H30]; · (iexists _, _; iframe H30; ipureintro; rfl)
  isplitl [H37]; · (iexists _, _; iframe H37; ipureintro; rfl)
  isplitl [H38]; · (iexists _, _; iframe H38; ipureintro; rfl)
  isplitl [H39]; · (iexists _, _; iframe H39; ipureintro; rfl)
  isplitl [H40]; · (iexists _, _; iframe H40; ipureintro; rfl)
  isplitl [H41]; · (iexists _, _; iframe H41; ipureintro; rfl)
  iexists _, _; iframe H42; ipureintro; rfl
end
end Cert.Proj
end
-- ==== Proof.ProjPoint.lean ====
/- The projection's backward call point by point: what every buffer holds before and after the body, and the body's triple at each point. -/
module

public import proofs.«01_k».proof.Proof.ProjFirst
public import proofs.«01_k».proof.Proof.ProjOdd
public import proofs.«01_k».proof.Proof.ProjEven
public import proofs.«01_k».proof.Proof.ProjDrain
public import proofs.«01_k».proof.Proof.ProjLast

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.ProjIdeal Cert.ProjIdeal.Gen

variable {F : FTy → Type} [FloatOps F] [Named F]

local notation "𝕄" => MT nD τ sig Unit (Elt F) ℕ (UR sig nD τ) ℕ

variable (m : (ℓ : Loc nD τ sig) → Buf (Elt F) ℓ)

/-- The input blocks of a point. -/
def blocksAt (c : Dev nD) (t : Fin cfg0.N) : Blocks F where
  x2 := iblk m c 0 t
  x3 := iblk m c 1 t
  ctx := iblk m c 2 t
  mods := iblk m c 3 t
  bmods := iblk m c 4 t
  ng := iblk m c 5 t
  win := iblk m c 6 t
  qlg := iblk m c 7 t
  wuq := iblk m c 8 t
  kvlg := iblk m c 9 t
  wukv := iblk m c 10 t
  qng := iblk m c 11 t
  kng := iblk m c 12 t
  cos := iblk m c 13 t
  slo := iblk m c 14 t
  shi := iblk m c 15 t
  cq := iblk m c 16 t
  ckv := iblk m c 17 t
  kr := iblk m c 18 t
  dq := iblk m c 19 t
  dk := iblk m c 20 t
  dv := iblk m c 21 t
  dga := iblk m c 22 t
  dgp := iblk m c 23 t
  dpl := iblk m c 24 t
  hb := iblk m c 25 t
  ha := iblk m c 26 t
  g1 := iblk m c 27 t

/-- The six sums after a point: a tile is added at each of the first 17 points, the last two points leave the sums. -/
def sumsTo (c : Dev nD) : (n : ℕ) → n < cfg0.N → Sums F
  | 0, h => step (latBit (grid0.coords ⟨0, h⟩)) (blocksAt m c ⟨0, h⟩) Sums.zero
  | n + 1, h => if n + 1 < 17 then step (latBit (grid0.coords ⟨n + 1, h⟩)) (blocksAt m c ⟨n + 1, h⟩) (sumsTo c n (Nat.lt_of_succ_lt h))
      else sumsTo c n (Nat.lt_of_succ_lt h)

/-- The outputs nothing is said of: the gradients of the later stages. -/
def forgets : Fin 38 → Bool := fun w => w.val == 28 || w.val == 29 || w.val == 36 || w.val == 37

/-- What every window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, h⟩ => Dat.unnamed (cfg := cfg0) ⟨28, h⟩ t
    | ⟨29, h⟩ => Dat.unnamed (cfg := cfg0) ⟨29, h⟩ t
    | ⟨30, _⟩ => (sumsTo m c t.val t.isLt).uq
    | ⟨31, _⟩ => (sumsTo m c t.val t.isLt).ukv
    | ⟨32, _⟩ => (sumsTo m c t.val t.isLt).qlg
    | ⟨33, _⟩ => (sumsTo m c t.val t.isLt).kvlg
    | ⟨34, _⟩ => (sumsTo m c t.val t.isLt).qng
    | ⟨35, _⟩ => (sumsTo m c t.val t.isLt).kng
    | ⟨36, h⟩ => Dat.unnamed (cfg := cfg0) ⟨36, h⟩ t
    | ⟨37, h⟩ => Dat.unnamed (cfg := cfg0) ⟨37, h⟩ t
    | ⟨_ + 38, h⟩ => absurd h (Nat.not_lt.2 (Nat.le_add_left _ _))
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

/-- A buffer held at what the data says is held at that under another name. -/
theorem owns_before {c : Dev nD} {w : Fin cfg0.W} {t : Fin cfg0.N} {X : (cfg0.win w).block.Idx → Elt F (cfg0.win w).elt}
    (h : ∀ d, (dats m 0 c).before w t d = X) :
    iprop(∃ d, owns (c : Thread nD τ) ((cfg0.win w).stage (cfg0.slots t w)) fullShare ((dats m 0 c).before w t d))
      ⊢ (owns (c : Thread nD τ) ((cfg0.win w).stage (cfg0.slots t w)) fullShare X : sProp 𝕄) := by
  iintro ⟨%d, H⟩; rw [h d]; iexact H

section
variable (c : Dev nD) (t : Fin cfg0.N) (b : Blocks F) (s s' : Sums F)

/-- The point's input buffers, held whole at their blocks. -/
def HeldAt : sProp 𝕄 :=
  Held c (win0_0.stage (cfg0.slots t 0)) (win0_1.stage (cfg0.slots t 1)) (win0_2.stage (cfg0.slots t 2)) (win0_3.stage (cfg0.slots t 3)) (win0_4.stage
    (cfg0.slots t 4)) (win0_5.stage (cfg0.slots t 5)) (win0_6.stage (cfg0.slots t 6)) (win0_7.stage (cfg0.slots t 7)) (win0_8.stage (cfg0.slots t 8))
    (win0_9.stage (cfg0.slots t 9)) (win0_10.stage (cfg0.slots t 10)) (win0_11.stage (cfg0.slots t 11)) (win0_12.stage (cfg0.slots t 12))
    (win0_13.stage (cfg0.slots t 13)) (win0_14.stage (cfg0.slots t 14)) (win0_15.stage (cfg0.slots t 15)) (win0_16.stage (cfg0.slots t 16))
    (win0_17.stage (cfg0.slots t 17)) (win0_18.stage (cfg0.slots t 18)) (win0_19.stage (cfg0.slots t 19)) (win0_20.stage (cfg0.slots t 20))
    (win0_21.stage (cfg0.slots t 21)) (win0_22.stage (cfg0.slots t 22)) (win0_23.stage (cfg0.slots t 23)) (win0_24.stage (cfg0.slots t 24))
    (win0_25.stage (cfg0.slots t 25)) (win0_26.stage (cfg0.slots t 26)) (win0_27.stage (cfg0.slots t 27)) b

/-- The point's six sum buffers, held whole. -/
def SumsAt : sProp 𝕄 :=
  HeldSums c (win0_30.stage (cfg0.slots t 30)) (win0_31.stage (cfg0.slots t 31)) (win0_32.stage (cfg0.slots t 32)) (win0_33.stage (cfg0.slots t 33))
    (win0_34.stage (cfg0.slots t 34)) (win0_35.stage (cfg0.slots t 35)) s

/-- The other outputs and the scratch, held at some contents. -/
def RestAt : sProp 𝕄 :=
  HeldRest c (win0_28.stage (cfg0.slots t 28)) (win0_29.stage (cfg0.slots t 29)) (win0_36.stage (cfg0.slots t 36)) (win0_37.stage (cfg0.slots t 37))
    (Memref.whole cc0_scratch0) (Memref.whole cc0_scratch1) (Memref.whole cc0_scratch2) (Memref.whole cc0_scratch3)

/-- The input buffers as the body's run holds them. -/
def RawAt : sProp 𝕄 :=
  Raw c (win0_0.stage (cfg0.slots t 0)) (hstage0_0 ((cfg0.slots t 0).cast nbuf0_0)) (win0_1.stage (cfg0.slots t 1)) (hstage0_1 ((cfg0.slots t 1).cast
    nbuf0_1)) (win0_2.stage (cfg0.slots t 2)) (hstage0_2 ((cfg0.slots t 2).cast nbuf0_2)) (win0_3.stage (cfg0.slots t 3)) (hstage0_3 ((cfg0.slots t
    3).cast nbuf0_3)) (win0_4.stage (cfg0.slots t 4)) (hstage0_4 ((cfg0.slots t 4).cast nbuf0_4)) (win0_5.stage (cfg0.slots t 5)) (hstage0_5
    ((cfg0.slots t 5).cast nbuf0_5)) (win0_6.stage (cfg0.slots t 6)) (hstage0_6 ((cfg0.slots t 6).cast nbuf0_6)) (win0_7.stage (cfg0.slots t 7))
    (hstage0_7 ((cfg0.slots t 7).cast nbuf0_7)) (win0_8.stage (cfg0.slots t 8)) (hstage0_8 ((cfg0.slots t 8).cast nbuf0_8)) (win0_9.stage (cfg0.slots
    t 9)) (hstage0_9 ((cfg0.slots t 9).cast nbuf0_9)) (win0_10.stage (cfg0.slots t 10)) (hstage0_10 ((cfg0.slots t 10).cast nbuf0_10)) (win0_11.stage
    (cfg0.slots t 11)) (hstage0_11 ((cfg0.slots t 11).cast nbuf0_11)) (win0_12.stage (cfg0.slots t 12)) (hstage0_12 ((cfg0.slots t 12).cast nbuf0_12))
    (win0_13.stage (cfg0.slots t 13)) (hstage0_13 ((cfg0.slots t 13).cast nbuf0_13)) (win0_14.stage (cfg0.slots t 14)) (hstage0_14 ((cfg0.slots t
    14).cast nbuf0_14)) (win0_15.stage (cfg0.slots t 15)) (hstage0_15 ((cfg0.slots t 15).cast nbuf0_15)) (win0_16.stage (cfg0.slots t 16)) (hstage0_16
    ((cfg0.slots t 16).cast nbuf0_16)) (win0_17.stage (cfg0.slots t 17)) (hstage0_17 ((cfg0.slots t 17).cast nbuf0_17)) (win0_18.stage (cfg0.slots t
    18)) (hstage0_18 ((cfg0.slots t 18).cast nbuf0_18)) (win0_19.stage (cfg0.slots t 19)) (hstage0_19 ((cfg0.slots t 19).cast nbuf0_19))
    (win0_20.stage (cfg0.slots t 20)) (hstage0_20 ((cfg0.slots t 20).cast nbuf0_20)) (win0_21.stage (cfg0.slots t 21)) (hstage0_21 ((cfg0.slots t
    21).cast nbuf0_21)) (win0_22.stage (cfg0.slots t 22)) (hstage0_22 ((cfg0.slots t 22).cast nbuf0_22)) (win0_23.stage (cfg0.slots t 23)) (hstage0_23
    ((cfg0.slots t 23).cast nbuf0_23)) (win0_24.stage (cfg0.slots t 24)) (hstage0_24 ((cfg0.slots t 24).cast nbuf0_24)) (win0_25.stage (cfg0.slots t
    25)) (hstage0_25 ((cfg0.slots t 25).cast nbuf0_25)) (win0_26.stage (cfg0.slots t 26)) (hstage0_26 ((cfg0.slots t 26).cast nbuf0_26))
    (win0_27.stage (cfg0.slots t 27)) (hstage0_27 ((cfg0.slots t 27).cast nbuf0_27)) b

/-- The sum buffers as the body's run holds them. -/
def RawSumsAt : sProp 𝕄 :=
  RawSums c (win0_30.stage (cfg0.slots t 30)) (hstage0_30 ((cfg0.slots t 30).cast nbuf0_30)) (win0_31.stage (cfg0.slots t 31)) (hstage0_31
    ((cfg0.slots t 31).cast nbuf0_31)) (win0_32.stage (cfg0.slots t 32)) (hstage0_32 ((cfg0.slots t 32).cast nbuf0_32)) (win0_33.stage (cfg0.slots t
    33)) (hstage0_33 ((cfg0.slots t 33).cast nbuf0_33)) (win0_34.stage (cfg0.slots t 34)) (hstage0_34 ((cfg0.slots t 34).cast nbuf0_34))
    (win0_35.stage (cfg0.slots t 35)) (hstage0_35 ((cfg0.slots t 35).cast nbuf0_35)) s

theorem rawAt_of_heldAt : (HeldAt c t b : sProp 𝕄) ⊢ RawAt c t b := by
  unfold HeldAt RawAt; exact raw_of_held _ _ _ _ _ _ _ _ _ _ _ _ _ _ _ _ _ _ _ _ _ _ _ _ _ _ _ _ _ _ _ _ _ _ _ _ _ _ _ _ _ _ _ _ _ _ _ _ _ _ _ _ _ _ _ _ _ _
theorem heldAt_of_rawAt : (RawAt c t b : sProp 𝕄) ⊢ HeldAt c t b := by
  unfold HeldAt RawAt; exact held_of_raw _ _ _ _ _ _ _ _ _ _ _ _ _ _ _ _ _ _ _ _ _ _ _ _ _ _ _ _ _ _ _ _ _ _ _ _ _ _ _ _ _ _ _ _ _ _ _ _ _ _ _ _ _ _ _ _ _ _
theorem rawSumsAt_of_sumsAt : (SumsAt c t s : sProp 𝕄) ⊢ RawSumsAt c t s := by
  unfold SumsAt RawSumsAt; exact rawSums_of_held _ _ _ _ _ _ _ _ _ _ _ _ _ _

end

theorem cond1_iff (t : Fin cfg0.N) : k0_cond1 (grid0.coords t) = 1#1 ↔ t.val % 19 = 0 := by
  have ht : t.val < 19 := Nat.lt_of_lt_of_eq t.isLt N_0
  have e0 : (grid0.coords t 0).val = t.val / 1 % 19 := Pipeline.Grid.coords_val t 0 (by decide) rfl
  simp only [k0_cond1, e0]
  word_cmp

theorem cond4_iff (t : Fin cfg0.N) : k0_cond4 (grid0.coords t) = 1#1 ↔ t.val % 19 = 17 := by
  have ht : t.val < 19 := Nat.lt_of_lt_of_eq t.isLt N_0
  have e0 : (grid0.coords t 0).val = t.val / 1 % 19 := Pipeline.Grid.coords_val t 0 (by decide) rfl
  simp only [k0_cond4, e0]
  word_cmp

theorem cond5_iff (t : Fin cfg0.N) : k0_cond5 (grid0.coords t) = 1#1 ↔ t.val % 19 = 18 := by
  have ht : t.val < 19 := Nat.lt_of_lt_of_eq t.isLt N_0
  have e0 : (grid0.coords t 0).val = t.val / 1 % 19 := Pipeline.Grid.coords_val t 0 (by decide) rfl
  simp only [k0_cond5, e0]
  word_cmp

theorem cond2_iff : ∀ t : Fin cfg0.N, k0_cond2 (grid0.coords t) = 1#1 ↔ t.val < 17 ∧ t.val % 2 = 0 := by decide +kernel

theorem cond3_iff : ∀ t : Fin cfg0.N, k0_cond3 (grid0.coords t) = 1#1 ↔ t.val < 17 ∧ t.val % 2 = 1 := by decide +kernel

/-- A body's triple with its input and sum buffers stated as owned. -/
theorem triple_owned {A A' S S₀ S' R K W : sProp 𝕄} (h1 : A ⊢ A') (h2 : S ⊢ S₀) (h3 : A' ⊢ A)
    (h : iprop(A' ∗ S₀ ∗ R ∗ (iprop(A' ∗ S' ∗ R) -∗ K)) ⊢ W) : iprop(A ∗ S ∗ R ∗ (iprop(A ∗ S' ∗ R) -∗ K)) ⊢ W := by
  refine BIBase.Entails.trans ?_ h
  refine Laws.sep_mono h1 (Laws.sep_mono h2 (Laws.sep_mono .rfl ?_))
  iintro Hk ⟨HA, HS, HR⟩
  iapply Hk
  isplitl [HA]
  · iapply h3; iexact HA
  iframe

/-- The body at a point, from the sums before it to the sums after it. -/
theorem body_at (c : Dev nD) (t : Fin cfg0.N) (s : Sums F)
    (hs : ∀ h : t.val ≠ 0, s = sumsTo m c (t.val - 1) (Nat.lt_of_le_of_lt (Nat.sub_le _ _) t.isLt)) (K : PUnit → sProp 𝕄) :
    iprop(HeldAt c t (blocksAt m c t) ∗ SumsAt c t s ∗ RestAt c t
      ∗ (iprop(HeldAt c t (blocksAt m c t) ∗ SumsAt c t (sumsTo m c t.val t.isLt) ∗ RestAt c t) -∗ K ⟨⟩))
    ⊢ wp frame (wpE (defs₀ (F := F)) Variants.none c none) Set.univ (bodyAt0 t) K := by
  refine triple_owned (rawAt_of_heldAt c t _) (rawSumsAt_of_sumsAt c t s) (heldAt_of_rawAt c t _) ?_
  have ht : t.val < 19 := Nat.lt_of_lt_of_eq t.isLt N_0
  have hs0 : t.val = 0 → step (latBit (grid0.coords t)) (blocksAt m c t) Sums.zero = sumsTo m c t.val t.isLt := by
    obtain ⟨n, hn⟩ := t; intro h; obtain rfl : n = 0 := h; rfl
  have hsm : t.val ≠ 0 → t.val < 17 → step (latBit (grid0.coords t)) (blocksAt m c t) s = sumsTo m c t.val t.isLt := by
    intro h0 h17
    rw [hs h0]
    obtain ⟨n, hn⟩ := t
    cases n with
    | zero => exact absurd rfl h0
    | succ n => exact (if_pos h17).symm
  have hse : 17 ≤ t.val → s = sumsTo m c t.val t.isLt := by
    intro h17
    rw [hs (by omega)]
    obtain ⟨n, hn⟩ := t
    cases n with
    | zero => exact absurd h17 (Nat.not_le.2 (by norm_num))
    | succ n => exact (if_neg (Nat.not_lt.2 h17)).symm
  have c1 := cond1_iff t
  have c2 := cond2_iff t
  have c3 := cond3_iff t
  have c4 := cond4_iff t
  have c5 := cond5_iff t
  unfold RawAt RawSumsAt SumsAt RestAt
  by_cases h0 : t.val = 0
  · exact run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocksAt m c t) s _
      (c1.2 (by omega)) (c2.2 (by omega)) (fun h => by have := c3.1 h; omega) (fun h => by have := c4.1 h; omega)
      (fun h => by have := c5.1 h; omega) (hs0 h0) Set.univ K
  by_cases h17 : t.val < 17
  · by_cases hp : t.val % 2 = 0
    · exact run_even c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocksAt m c t) s _
        (fun h => by have := c1.1 h; omega) (c2.2 (by omega)) (fun h => by have := c3.1 h; omega) (fun h => by have := c4.1 h; omega)
        (fun h => by have := c5.1 h; omega) (hsm h0 h17) Set.univ K
    · exact run_odd c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocksAt m c t) s _
        (fun h => by have := c1.1 h; omega) (fun h => by have := c2.1 h; omega) (c3.2 (by omega)) (fun h => by have := c4.1 h; omega)
        (fun h => by have := c5.1 h; omega) (hsm h0 h17) Set.univ K
  rw [← hse (by omega)]
  by_cases hp : t.val = 17
  · exact run_drain c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocksAt m c t) s
      (fun h => by have := c1.1 h; omega) (fun h => by have := c2.1 h; omega) (fun h => by have := c3.1 h; omega) (c4.2 (by omega))
      (fun h => by have := c5.1 h; omega) Set.univ K
  · exact run_last c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocksAt m c t) s
      (fun h => by have := c1.1 h; omega) (fun h => by have := c2.1 h; omega) (fun h => by have := c3.1 h; omega)
      (fun h => by have := c4.1 h; omega) (c5.2 (by omega)) Set.univ K

end Cert.Proj
end
-- ==== Proof.ProjFrame.lean ====
/- The projection's backward call as a whole: the launch, its frame, and what its six stage-one results hold at the end. -/
module

public import proofs.«01_k».proof.Proof.ProjPoint
public import Idealize.ShloMosaic.Lib.Pipeline.TableIdle
public import Idealize.ShloMosaic.Lib.Pipeline.ValueKit

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.ProjIdeal Cert.ProjIdeal.Gen

variable {F : FTy → Type} [FloatOps F] [Named F]

local notation "𝕄" => MT nD τ sig Unit (Elt F) ℕ (UR sig nD τ) ℕ

section
variable {M : Type} [URA M] {A0 A1 A2 A3 A4 A5 A6 A7 A8 A9 A10 A11 A12 A13 A14 A15 A16 A17 A18 A19 A20 A21 A22 A23 A24 A25 A26 A27 B28 B29 C30 C31 C32 C33 C34 C35 B36 B37 S0 S1 S2 S3 G O : sProp M}

/-- The windows' conjuncts brought together by kind, -/
theorem gather :
    iprop(((S0 ∗ S1 ∗ S2 ∗ S3) ∗ G) ∗ O ∗ A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19
      ∗ A20 ∗ A21 ∗ A22 ∗ A23 ∗ A24 ∗ A25 ∗ A26 ∗ A27 ∗ B28 ∗ B29 ∗ C30 ∗ C31 ∗ C32 ∗ C33 ∗ C34 ∗ C35 ∗ B36 ∗ B37)
    ⊢ iprop((A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ A20 ∗ A21 ∗ A22 ∗ A23 ∗ A24
      ∗ A25 ∗ A26 ∗ A27) ∗ (C30 ∗ C31 ∗ C32 ∗ C33 ∗ C34 ∗ C35) ∗ (B28 ∗ B29 ∗ B36 ∗ B37 ∗ S0 ∗ S1 ∗ S2 ∗ S3) ∗ G ∗ O) := by
  iintro ⟨⟨⟨S0, S1, S2, S3⟩, G⟩, O, A0, A1, A2, A3, A4, A5, A6, A7, A8, A9, A10, A11, A12, A13, A14, A15, A16, A17, A18, A19, A20, A21, A22, A23, A24,
    A25, A26, A27, B28, B29, C30, C31, C32, C33, C34, C35, B36, B37⟩
  isplitl [A0 A1 A2 A3 A4 A5 A6 A7 A8 A9 A10 A11 A12 A13 A14 A15 A16 A17 A18 A19 A20 A21 A22 A23 A24 A25 A26 A27]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    isplitl [A25]; · iexact A25
    isplitl [A26]; · iexact A26
    iexact A27
  isplitl [C30 C31 C32 C33 C34 C35]
  · isplitl [C30]; · iexact C30
    isplitl [C31]; · iexact C31
    isplitl [C32]; · iexact C32
    isplitl [C33]; · iexact C33
    isplitl [C34]; · iexact C34
    iexact C35
  isplitl [B28 B29 B36 B37 S0 S1 S2 S3]
  · isplitl [B28]; · iexact B28
    isplitl [B29]; · iexact B29
    isplitl [B36]; · iexact B36
    isplitl [B37]; · iexact B37
    isplitl [S0]; · iexact S0
    isplitl [S1]; · iexact S1
    isplitl [S2]; · iexact S2
    iexact S3
  isplitl [G]; · iexact G
  iexact O

/-- and put back in the windows' order. -/
theorem scatter :
    iprop((A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ A19 ∗ A20 ∗ A21 ∗ A22 ∗ A23 ∗ A24 ∗
      A25 ∗ A26 ∗ A27) ∗ (C30 ∗ C31 ∗ C32 ∗ C33 ∗ C34 ∗ C35) ∗ (B28 ∗ B29 ∗ B36 ∗ B37 ∗ S0 ∗ S1 ∗ S2 ∗ S3) ∗ G ∗ O)
    ⊢ iprop(((S0 ∗ S1 ∗ S2 ∗ S3) ∗ G) ∗ O ∗ A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗
      A19 ∗ A20 ∗ A21 ∗ A22 ∗ A23 ∗ A24 ∗ A25 ∗ A26 ∗ A27 ∗ B28 ∗ B29 ∗ C30 ∗ C31 ∗ C32 ∗ C33 ∗ C34 ∗ C35 ∗ B36 ∗ B37) := by
  iintro ⟨⟨A0, A1, A2, A3, A4, A5, A6, A7, A8, A9, A10, A11, A12, A13, A14, A15, A16, A17, A18, A19, A20, A21, A22, A23, A24, A25, A26, A27⟩, ⟨C30,
    C31, C32, C33, C34, C35⟩, ⟨B28, B29, B36, B37, S0, S1, S2, S3⟩, G, O⟩
  isplitl [S0 S1 S2 S3 G]
  · isplitl [S0 S1 S2 S3]
    · isplitl [S0]; · iexact S0
      isplitl [S1]; · iexact S1
      isplitl [S2]; · iexact S2
      iexact S3
    iexact G
  isplitl [O]; · iexact O
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [B28]; · iexact B28
  isplitl [B29]; · iexact B29
  isplitl [C30]; · iexact C30
  isplitl [C31]; · iexact C31
  isplitl [C32]; · iexact C32
  isplitl [C33]; · iexact C33
  isplitl [C34]; · iexact C34
  isplitl [C35]; · iexact C35
  isplitl [B36]; · iexact B36
  iexact B37

end

variable (m : (ℓ : Loc nD τ sig) → Buf (Elt F) ℓ) (ρ : Dev nD → PrngReg)

theorem last_lt : 18 < cfg0.N := Nat.lt_of_lt_of_eq (by norm_num) N_0.symm

/-- The scratch and the generator register, as buffers owned at some contents. -/
theorem phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- A sum's buffer is fresh at no point after the first. -/
theorem not_fresh (w : Fin cfg0.W) (hfl : ∀ t : Fin cfg0.N, (cfg0.win w).flush t = true ↔ t.val % 19 = 18)
    (hid : ∀ t : Fin cfg0.N, cfg0.idle w (grid0.coords t) = true → 17 ≤ t.val) : ∀ n, n ≠ 0 → n < cfg0.N → cfg0.fresh w n = false
  | 0, h, _ => absurd rfl h
  | n + 1, _, hn => by
    have h19 : n + 1 < 19 := Nat.lt_of_lt_of_eq hn N_0
    rw [Pipeline.Cfg.fresh_succ cfg0 w n (Nat.lt_of_succ_lt hn),
      show (cfg0.win w).flush ⟨n, Nat.lt_of_succ_lt hn⟩ = false from
        Bool.eq_false_iff.2 (fun h => by have := (hfl ⟨n, Nat.lt_of_succ_lt hn⟩).1 h; simp only at this; omega), Bool.false_or]
    by_cases h0 : n = 0
    · rw [show cfg0.idle w (cfg0.grid.coords ⟨n, Nat.lt_of_succ_lt hn⟩) = false from
        Bool.eq_false_iff.2 (fun h => by have := hid ⟨n, Nat.lt_of_succ_lt hn⟩ h; simp only at this; omega), Bool.false_and]
    · rw [not_fresh w hfl hid n h0 (Nat.lt_of_succ_lt hn), Bool.and_false]

/-- What the body finds in a sum's buffer after the first point: what the point before left. -/
theorem before_sum (c : Dev nD) (w : Fin cfg0.W) (ho : (cfg0.win w).isOut = true)
    (hc : ∀ (i : cfg0.grid.Coords) a, (cfg0.win w).clip i a = none)
    (hfl : ∀ t : Fin cfg0.N, (cfg0.win w).flush t = true ↔ t.val % 19 = 18)
    (hid : ∀ t : Fin cfg0.N, cfg0.idle w (grid0.coords t) = true → 17 ≤ t.val)
    (hk : ∀ (t : Fin cfg0.N), 17 ≤ t.val → (dats m 0 c).after w t = (dats m 0 c).after w ⟨t.val - 1, Nat.lt_of_le_of_lt (Nat.sub_le _ _) t.isLt⟩)
    (t : Fin cfg0.N) (ht : t.val ≠ 0) (d) :
    (dats m 0 c).before w t d = (dats m 0 c).after w ⟨t.val - 1, Nat.lt_of_le_of_lt (Nat.sub_le _ _) t.isLt⟩ := by
  rw [(dats m 0 c).before_out_traj w ho hc (fun t _ hi _ => hk t (hid t hi)) t.val t rfl d,
    if_neg (by rw [not_fresh w hfl hid t.val ht t.isLt]; exact Bool.false_ne_true)]

/-- A buffer left at its named contents is as the obligation asks. -/
theorem leaves_named (c : Dev nD) (w : Fin cfg0.W) (t : Fin cfg0.N)
    (h : cfg0.idle w (grid0.coords t) = true → ∀ d, (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t)
  · exact .rfl
  · cases (cfg0.win w).flush t
    · iintro H
      iexists (dats m 0 c).after w t
      rw [h hi]
      iexact H
    · exact .rfl

theorem idle_sum (t : Fin cfg0.N) (h : (!(k0_cond1 (grid0.coords t) == 1#1) && !(k0_cond2 (grid0.coords t) == 1#1) && !(k0_cond3 (grid0.coords t) == 1#1)) = true) :
    17 ≤ t.val := by
  by_contra hn
  rcases Nat.mod_two_eq_zero_or_one t.val with hp | hp
  · rw [(cond2_iff t).2 ⟨by omega, hp⟩] at h; simp at h
  · rw [(cond3_iff t).2 ⟨by omega, hp⟩] at h; simp at h

/-- The last two points leave the sums. -/
theorem sumsTo_keep (c : Dev nD) (t : Fin cfg0.N) (h : 17 ≤ t.val) :
    sumsTo m c t.val t.isLt = sumsTo m c (t.val - 1) (Nat.lt_of_le_of_lt (Nat.sub_le _ _) t.isLt) := by
  obtain ⟨n, hn⟩ := t
  cases n with
  | zero => exact absurd h (Nat.not_le.2 (by norm_num))
  | succ n => exact if_neg (Nat.not_lt.2 h)

theorem after_uq (c : Dev nD) (t : Fin cfg0.N) : (dats m 0 c).after 30 t = (sumsTo m c t.val t.isLt).uq := by dsimp only [dats]

theorem keep_uq (c : Dev nD) (t : Fin cfg0.N) (h : 17 ≤ t.val) :
    (dats m 0 c).after 30 t = (dats m 0 c).after 30 ⟨t.val - 1, Nat.lt_of_le_of_lt (Nat.sub_le _ _) t.isLt⟩ := by
  rw [after_uq, after_uq, sumsTo_keep m c t h]

theorem before_uq (c : Dev nD) (t : Fin cfg0.N) (ht : t.val ≠ 0) (d) :
    (dats m 0 c).before 30 t d = (dats m 0 c).after 30 ⟨t.val - 1, Nat.lt_of_le_of_lt (Nat.sub_le _ _) t.isLt⟩ :=
  before_sum m c 30 rfl (fun _ _ => rfl) flush0_30 idle_sum (keep_uq m c) t ht d

theorem leaves_uq (c : Dev nD) (t : Fin cfg0.N) :
    (owns (c : Thread nD τ) (win0_30.stage (cfg0.slots t 30)) fullShare (sumsTo m c t.val t.isLt).uq : sProp 𝕄) ⊢ (dats m 0 c).leavesExact 30 t := by
  rw [← after_uq]
  exact leaves_named m c 30 t fun hi d => (before_uq m c t (by have := idle_sum t hi; omega) d).trans (keep_uq m c t (idle_sum t hi)).symm

theorem after_ukv (c : Dev nD) (t : Fin cfg0.N) : (dats m 0 c).after 31 t = (sumsTo m c t.val t.isLt).ukv := by dsimp only [dats]

theorem keep_ukv (c : Dev nD) (t : Fin cfg0.N) (h : 17 ≤ t.val) :
    (dats m 0 c).after 31 t = (dats m 0 c).after 31 ⟨t.val - 1, Nat.lt_of_le_of_lt (Nat.sub_le _ _) t.isLt⟩ := by
  rw [after_ukv, after_ukv, sumsTo_keep m c t h]

theorem before_ukv (c : Dev nD) (t : Fin cfg0.N) (ht : t.val ≠ 0) (d) :
    (dats m 0 c).before 31 t d = (dats m 0 c).after 31 ⟨t.val - 1, Nat.lt_of_le_of_lt (Nat.sub_le _ _) t.isLt⟩ :=
  before_sum m c 31 rfl (fun _ _ => rfl) flush0_31 idle_sum (keep_ukv m c) t ht d

theorem leaves_ukv (c : Dev nD) (t : Fin cfg0.N) :
    (owns (c : Thread nD τ) (win0_31.stage (cfg0.slots t 31)) fullShare (sumsTo m c t.val t.isLt).ukv : sProp 𝕄) ⊢ (dats m 0 c).leavesExact 31 t := by
  rw [← after_ukv]
  exact leaves_named m c 31 t fun hi d => (before_ukv m c t (by have := idle_sum t hi; omega) d).trans (keep_ukv m c t (idle_sum t hi)).symm

theorem after_qlg (c : Dev nD) (t : Fin cfg0.N) : (dats m 0 c).after 32 t = (sumsTo m c t.val t.isLt).qlg := by dsimp only [dats]

theorem keep_qlg (c : Dev nD) (t : Fin cfg0.N) (h : 17 ≤ t.val) :
    (dats m 0 c).after 32 t = (dats m 0 c).after 32 ⟨t.val - 1, Nat.lt_of_le_of_lt (Nat.sub_le _ _) t.isLt⟩ := by
  rw [after_qlg, after_qlg, sumsTo_keep m c t h]

theorem before_qlg (c : Dev nD) (t : Fin cfg0.N) (ht : t.val ≠ 0) (d) :
    (dats m 0 c).before 32 t d = (dats m 0 c).after 32 ⟨t.val - 1, Nat.lt_of_le_of_lt (Nat.sub_le _ _) t.isLt⟩ :=
  before_sum m c 32 rfl (fun _ _ => rfl) flush0_32 idle_sum (keep_qlg m c) t ht d

theorem leaves_qlg (c : Dev nD) (t : Fin cfg0.N) :
    (owns (c : Thread nD τ) (win0_32.stage (cfg0.slots t 32)) fullShare (sumsTo m c t.val t.isLt).qlg : sProp 𝕄) ⊢ (dats m 0 c).leavesExact 32 t := by
  rw [← after_qlg]
  exact leaves_named m c 32 t fun hi d => (before_qlg m c t (by have := idle_sum t hi; omega) d).trans (keep_qlg m c t (idle_sum t hi)).symm

theorem after_kvlg (c : Dev nD) (t : Fin cfg0.N) : (dats m 0 c).after 33 t = (sumsTo m c t.val t.isLt).kvlg := by dsimp only [dats]

theorem keep_kvlg (c : Dev nD) (t : Fin cfg0.N) (h : 17 ≤ t.val) :
    (dats m 0 c).after 33 t = (dats m 0 c).after 33 ⟨t.val - 1, Nat.lt_of_le_of_lt (Nat.sub_le _ _) t.isLt⟩ := by
  rw [after_kvlg, after_kvlg, sumsTo_keep m c t h]

theorem before_kvlg (c : Dev nD) (t : Fin cfg0.N) (ht : t.val ≠ 0) (d) :
    (dats m 0 c).before 33 t d = (dats m 0 c).after 33 ⟨t.val - 1, Nat.lt_of_le_of_lt (Nat.sub_le _ _) t.isLt⟩ :=
  before_sum m c 33 rfl (fun _ _ => rfl) flush0_33 idle_sum (keep_kvlg m c) t ht d

theorem leaves_kvlg (c : Dev nD) (t : Fin cfg0.N) :
    (owns (c : Thread nD τ) (win0_33.stage (cfg0.slots t 33)) fullShare (sumsTo m c t.val t.isLt).kvlg : sProp 𝕄) ⊢ (dats m 0 c).leavesExact 33 t := by
  rw [← after_kvlg]
  exact leaves_named m c 33 t fun hi d => (before_kvlg m c t (by have := idle_sum t hi; omega) d).trans (keep_kvlg m c t (idle_sum t hi)).symm

theorem after_qng (c : Dev nD) (t : Fin cfg0.N) : (dats m 0 c).after 34 t = (sumsTo m c t.val t.isLt).qng := by dsimp only [dats]

theorem keep_qng (c : Dev nD) (t : Fin cfg0.N) (h : 17 ≤ t.val) :
    (dats m 0 c).after 34 t = (dats m 0 c).after 34 ⟨t.val - 1, Nat.lt_of_le_of_lt (Nat.sub_le _ _) t.isLt⟩ := by
  rw [after_qng, after_qng, sumsTo_keep m c t h]

theorem before_qng (c : Dev nD) (t : Fin cfg0.N) (ht : t.val ≠ 0) (d) :
    (dats m 0 c).before 34 t d = (dats m 0 c).after 34 ⟨t.val - 1, Nat.lt_of_le_of_lt (Nat.sub_le _ _) t.isLt⟩ :=
  before_sum m c 34 rfl (fun _ _ => rfl) flush0_34 idle_sum (keep_qng m c) t ht d

theorem leaves_qng (c : Dev nD) (t : Fin cfg0.N) :
    (owns (c : Thread nD τ) (win0_34.stage (cfg0.slots t 34)) fullShare (sumsTo m c t.val t.isLt).qng : sProp 𝕄) ⊢ (dats m 0 c).leavesExact 34 t := by
  rw [← after_qng]
  exact leaves_named m c 34 t fun hi d => (before_qng m c t (by have := idle_sum t hi; omega) d).trans (keep_qng m c t (idle_sum t hi)).symm

theorem after_kng (c : Dev nD) (t : Fin cfg0.N) : (dats m 0 c).after 35 t = (sumsTo m c t.val t.isLt).kng := by dsimp only [dats]

theorem keep_kng (c : Dev nD) (t : Fin cfg0.N) (h : 17 ≤ t.val) :
    (dats m 0 c).after 35 t = (dats m 0 c).after 35 ⟨t.val - 1, Nat.lt_of_le_of_lt (Nat.sub_le _ _) t.isLt⟩ := by
  rw [after_kng, after_kng, sumsTo_keep m c t h]

theorem before_kng (c : Dev nD) (t : Fin cfg0.N) (ht : t.val ≠ 0) (d) :
    (dats m 0 c).before 35 t d = (dats m 0 c).after 35 ⟨t.val - 1, Nat.lt_of_le_of_lt (Nat.sub_le _ _) t.isLt⟩ :=
  before_sum m c 35 rfl (fun _ _ => rfl) flush0_35 idle_sum (keep_kng m c) t ht d

theorem leaves_kng (c : Dev nD) (t : Fin cfg0.N) :
    (owns (c : Thread nD τ) (win0_35.stage (cfg0.slots t 35)) fullShare (sumsTo m c t.val t.isLt).kng : sProp 𝕄) ⊢ (dats m 0 c).leavesExact 35 t := by
  rw [← after_kng]
  exact leaves_named m c 35 t fun hi d => (before_kng m c t (by have := idle_sum t hi; omega) d).trans (keep_kng m c t (idle_sum t hi)).symm

/-- What the body is called with at a point, window by window, -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats
    m 0 c).before 0 t d)) ∗ (∃ d, owns (c : Thread nD τ) (win0_1.stage (cfg0.slots t 1)) fullShare ((dats m 0 c).before 1 t d)) ∗ (∃ d, owns (c :
    Thread nD τ) (win0_2.stage (cfg0.slots t 2)) fullShare ((dats m 0 c).before 2 t d)) ∗ (∃ d, owns (c : Thread nD τ) (win0_3.stage (cfg0.slots t 3))
    fullShare ((dats m 0 c).before 3 t d)) ∗ (∃ d, owns (c : Thread nD τ) (win0_4.stage (cfg0.slots t 4)) fullShare ((dats m 0 c).before 4 t d)) ∗ (∃
    d, owns (c : Thread nD τ) (win0_5.stage (cfg0.slots t 5)) fullShare ((dats m 0 c).before 5 t d)) ∗ (∃ d, owns (c : Thread nD τ) (win0_6.stage
    (cfg0.slots t 6)) fullShare ((dats m 0 c).before 6 t d)) ∗ (∃ d, owns (c : Thread nD τ) (win0_7.stage (cfg0.slots t 7)) fullShare ((dats m 0
    c).before 7 t d)) ∗ (∃ d, owns (c : Thread nD τ) (win0_8.stage (cfg0.slots t 8)) fullShare ((dats m 0 c).before 8 t d)) ∗ (∃ d, owns (c : Thread
    nD τ) (win0_9.stage (cfg0.slots t 9)) fullShare ((dats m 0 c).before 9 t d)) ∗ (∃ d, owns (c : Thread nD τ) (win0_10.stage (cfg0.slots t 10))
    fullShare ((dats m 0 c).before 10 t d)) ∗ (∃ d, owns (c : Thread nD τ) (win0_11.stage (cfg0.slots t 11)) fullShare ((dats m 0 c).before 11 t d)) ∗
    (∃ d, owns (c : Thread nD τ) (win0_12.stage (cfg0.slots t 12)) fullShare ((dats m 0 c).before 12 t d)) ∗ (∃ d, owns (c : Thread nD τ)
    (win0_13.stage (cfg0.slots t 13)) fullShare ((dats m 0 c).before 13 t d)) ∗ (∃ d, owns (c : Thread nD τ) (win0_14.stage (cfg0.slots t 14))
    fullShare ((dats m 0 c).before 14 t d)) ∗ (∃ d, owns (c : Thread nD τ) (win0_15.stage (cfg0.slots t 15)) fullShare ((dats m 0 c).before 15 t d)) ∗
    (∃ d, owns (c : Thread nD τ) (win0_16.stage (cfg0.slots t 16)) fullShare ((dats m 0 c).before 16 t d)) ∗ (∃ d, owns (c : Thread nD τ)
    (win0_17.stage (cfg0.slots t 17)) fullShare ((dats m 0 c).before 17 t d)) ∗ (∃ d, owns (c : Thread nD τ) (win0_18.stage (cfg0.slots t 18))
    fullShare ((dats m 0 c).before 18 t d)) ∗ (∃ d, owns (c : Thread nD τ) (win0_19.stage (cfg0.slots t 19)) fullShare ((dats m 0 c).before 19 t d)) ∗
    (∃ d, owns (c : Thread nD τ) (win0_20.stage (cfg0.slots t 20)) fullShare ((dats m 0 c).before 20 t d)) ∗ (∃ d, owns (c : Thread nD τ)
    (win0_21.stage (cfg0.slots t 21)) fullShare ((dats m 0 c).before 21 t d)) ∗ (∃ d, owns (c : Thread nD τ) (win0_22.stage (cfg0.slots t 22))
    fullShare ((dats m 0 c).before 22 t d)) ∗ (∃ d, owns (c : Thread nD τ) (win0_23.stage (cfg0.slots t 23)) fullShare ((dats m 0 c).before 23 t d)) ∗
    (∃ d, owns (c : Thread nD τ) (win0_24.stage (cfg0.slots t 24)) fullShare ((dats m 0 c).before 24 t d)) ∗ (∃ d, owns (c : Thread nD τ)
    (win0_25.stage (cfg0.slots t 25)) fullShare ((dats m 0 c).before 25 t d)) ∗ (∃ d, owns (c : Thread nD τ) (win0_26.stage (cfg0.slots t 26))
    fullShare ((dats m 0 c).before 26 t d)) ∗ (∃ d, owns (c : Thread nD τ) (win0_27.stage (cfg0.slots t 27)) fullShare ((dats m 0 c).before 27 t d)) ∗
    (∃ d, owns (c : Thread nD τ) (win0_28.stage (cfg0.slots t 28)) fullShare d) ∗ (∃ d, owns (c : Thread nD τ) (win0_29.stage (cfg0.slots t 29))
    fullShare d) ∗ (∃ d, owns (c : Thread nD τ) (win0_30.stage (cfg0.slots t 30)) fullShare ((dats m 0 c).before 30 t d)) ∗ (∃ d, owns (c : Thread nD
    τ) (win0_31.stage (cfg0.slots t 31)) fullShare ((dats m 0 c).before 31 t d)) ∗ (∃ d, owns (c : Thread nD τ) (win0_32.stage (cfg0.slots t 32))
    fullShare ((dats m 0 c).before 32 t d)) ∗ (∃ d, owns (c : Thread nD τ) (win0_33.stage (cfg0.slots t 33)) fullShare ((dats m 0 c).before 33 t d)) ∗
    (∃ d, owns (c : Thread nD τ) (win0_34.stage (cfg0.slots t 34)) fullShare ((dats m 0 c).before 34 t d)) ∗ (∃ d, owns (c : Thread nD τ)
    (win0_35.stage (cfg0.slots t 35)) fullShare ((dats m 0 c).before 35 t d)) ∗ (∃ d, owns (c : Thread nD τ) (win0_36.stage (cfg0.slots t 36))
    fullShare d) ∗ (∃ d, owns (c : Thread nD τ) (win0_37.stage (cfg0.slots t 37)) fullShare d))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact
    2 t ∗ (dats m 0 c).leavesExact 3 t ∗ (dats m 0 c).leavesExact 4 t ∗ (dats m 0 c).leavesExact 5 t ∗ (dats m 0 c).leavesExact 6 t ∗ (dats m 0
    c).leavesExact 7 t ∗ (dats m 0 c).leavesExact 8 t ∗ (dats m 0 c).leavesExact 9 t ∗ (dats m 0 c).leavesExact 10 t ∗ (dats m 0 c).leavesExact 11 t ∗
    (dats m 0 c).leavesExact 12 t ∗ (dats m 0 c).leavesExact 13 t ∗ (dats m 0 c).leavesExact 14 t ∗ (dats m 0 c).leavesExact 15 t ∗ (dats m 0
    c).leavesExact 16 t ∗ (dats m 0 c).leavesExact 17 t ∗ (dats m 0 c).leavesExact 18 t ∗ (dats m 0 c).leavesExact 19 t ∗ (dats m 0 c).leavesExact 20
    t ∗ (dats m 0 c).leavesExact 21 t ∗ (dats m 0 c).leavesExact 22 t ∗ (dats m 0 c).leavesExact 23 t ∗ (dats m 0 c).leavesExact 24 t ∗ (dats m 0
    c).leavesExact 25 t ∗ (dats m 0 c).leavesExact 26 t ∗ (dats m 0 c).leavesExact 27 t ∗ (∃ d, owns (c : Thread nD τ) (win0_28.stage (cfg0.slots t
    28)) fullShare d) ∗ (∃ d, owns (c : Thread nD τ) (win0_29.stage (cfg0.slots t 29)) fullShare d) ∗ (dats m 0 c).leavesExact 30 t ∗ (dats m 0
    c).leavesExact 31 t ∗ (dats m 0 c).leavesExact 32 t ∗ (dats m 0 c).leavesExact 33 t ∗ (dats m 0 c).leavesExact 34 t ∗ (dats m 0 c).leavesExact 35
    t ∗ (∃ d, owns (c : Thread nD τ) (win0_36.stage (cfg0.slots t 36)) fullShare d) ∗ (∃ d, owns (c : Thread nD τ) (win0_37.stage (cfg0.slots t 37))
    fullShare d))

/-- The sums before a point: named, but at the first point. -/
theorem sums_before (c : Dev nD) (t : Fin cfg0.N) :
    iprop((∃ d, owns (c : Thread nD τ) (win0_30.stage (cfg0.slots t 30)) fullShare ((dats m 0 c).before 30 t d)) ∗ (∃ d, owns (c : Thread nD τ)
      (win0_31.stage (cfg0.slots t 31)) fullShare ((dats m 0 c).before 31 t d)) ∗ (∃ d, owns (c : Thread nD τ) (win0_32.stage (cfg0.slots t 32))
      fullShare ((dats m 0 c).before 32 t d)) ∗ (∃ d, owns (c : Thread nD τ) (win0_33.stage (cfg0.slots t 33)) fullShare ((dats m 0 c).before 33 t d))
      ∗ (∃ d, owns (c : Thread nD τ) (win0_34.stage (cfg0.slots t 34)) fullShare ((dats m 0 c).before 34 t d)) ∗ (∃ d, owns (c : Thread nD τ)
      (win0_35.stage (cfg0.slots t 35)) fullShare ((dats m 0 c).before 35 t d)))
    ⊢ (iprop(∃ s, ⌜∀ h : t.val ≠ 0, s = sumsTo m c (t.val - 1) (Nat.lt_of_le_of_lt (Nat.sub_le _ _) t.isLt)⌝ ∗ SumsAt c t s) : sProp 𝕄) := by
  unfold SumsAt HeldSums
  by_cases h : t.val = 0
  · iintro ⟨⟨%d0, H0⟩, ⟨%d1, H1⟩, ⟨%d2, H2⟩, ⟨%d3, H3⟩, ⟨%d4, H4⟩, ⟨%d5, H5⟩⟩
    iexists (Sums.mk ((dats m 0 c).before 30 t d0) ((dats m 0 c).before 31 t d1) ((dats m 0 c).before 32 t d2)
      ((dats m 0 c).before 33 t d3) ((dats m 0 c).before 34 t d4) ((dats m 0 c).before 35 t d5))
    isplitr; · ipureintro; exact fun h' => absurd h h'
    isplitl [H0]; · iexact H0
    isplitl [H1]; · iexact H1
    isplitl [H2]; · iexact H2
    isplitl [H3]; · iexact H3
    isplitl [H4]; · iexact H4
    iexact H5
  · refine BIBase.Entails.trans (Laws.sep_mono (owns_before (w := 30) m (before_uq m c t h)) <| Laws.sep_mono (owns_before (w := 31) m (before_ukv m c t h)) <|
      Laws.sep_mono (owns_before (w := 32) m (before_qlg m c t h)) <| Laws.sep_mono (owns_before (w := 33) m (before_kvlg m c t h)) <|
      Laws.sep_mono (owns_before (w := 34) m (before_qng m c t h)) (owns_before (w := 35) m (before_kng m c t h))) ?_
    rw [after_uq, after_ukv, after_qlg, after_kvlg, after_qng, after_kng]
    iintro ⟨H0, H1, H2, H3, H4, H5⟩
    iexists _
    isplitr; · ipureintro; exact fun _ => rfl
    isplitl [H0]; · iexact H0
    isplitl [H1]; · iexact H1
    isplitl [H2]; · iexact H2
    isplitl [H3]; · iexact H3
    isplitl [H4]; · iexact H4
    iexact H5

theorem in_x2 (c : Dev nD) (t : Fin cfg0.N) :
    (iprop(∃ d, owns (c : Thread nD τ) (win0_0.stage (cfg0.slots t 0)) fullShare ((dats m 0 c).before 0 t d)) : sProp 𝕄)
      ⊢ owns (c : Thread nD τ) (win0_0.stage (cfg0.slots t 0)) fullShare (blocksAt m c t).x2 :=
  owns_before (w := 0) m (before0_0_of m (dats m 0 c) (dats_A m c 0) (fun t => by dsimp only [dats]) t)

theorem in_x3 (c : Dev nD) (t : Fin cfg0.N) :
    (iprop(∃ d, owns (c : Thread nD τ) (win0_1.stage (cfg0.slots t 1)) fullShare ((dats m 0 c).before 1 t d)) : sProp 𝕄)
      ⊢ owns (c : Thread nD τ) (win0_1.stage (cfg0.slots t 1)) fullShare (blocksAt m c t).x3 :=
  owns_before (w := 1) m (before0_1_of m (dats m 0 c) (dats_A m c 1) (fun t => by dsimp only [dats]) t)

theorem in_ctx (c : Dev nD) (t : Fin cfg0.N) :
    (iprop(∃ d, owns (c : Thread nD τ) (win0_2.stage (cfg0.slots t 2)) fullShare ((dats m 0 c).before 2 t d)) : sProp 𝕄)
      ⊢ owns (c : Thread nD τ) (win0_2.stage (cfg0.slots t 2)) fullShare (blocksAt m c t).ctx :=
  owns_before (w := 2) m (before0_2_of m (dats m 0 c) (dats_A m c 2) (fun t => by dsimp only [dats]) t)

theorem in_mods (c : Dev nD) (t : Fin cfg0.N) :
    (iprop(∃ d, owns (c : Thread nD τ) (win0_3.stage (cfg0.slots t 3)) fullShare ((dats m 0 c).before 3 t d)) : sProp 𝕄)
      ⊢ owns (c : Thread nD τ) (win0_3.stage (cfg0.slots t 3)) fullShare (blocksAt m c t).mods :=
  owns_before (w := 3) m (before0_3_of m (dats m 0 c) (dats_A m c 3) (fun t => by dsimp only [dats]) t)

theorem in_bmods (c : Dev nD) (t : Fin cfg0.N) :
    (iprop(∃ d, owns (c : Thread nD τ) (win0_4.stage (cfg0.slots t 4)) fullShare ((dats m 0 c).before 4 t d)) : sProp 𝕄)
      ⊢ owns (c : Thread nD τ) (win0_4.stage (cfg0.slots t 4)) fullShare (blocksAt m c t).bmods :=
  owns_before (w := 4) m (before0_4_of m (dats m 0 c) (dats_A m c 4) (fun t => by dsimp only [dats]) t)

theorem in_ng (c : Dev nD) (t : Fin cfg0.N) :
    (iprop(∃ d, owns (c : Thread nD τ) (win0_5.stage (cfg0.slots t 5)) fullShare ((dats m 0 c).before 5 t d)) : sProp 𝕄)
      ⊢ owns (c : Thread nD τ) (win0_5.stage (cfg0.slots t 5)) fullShare (blocksAt m c t).ng :=
  owns_before (w := 5) m (before0_5_of m (dats m 0 c) (dats_A m c 5) (fun t => by dsimp only [dats]) t)

theorem in_win (c : Dev nD) (t : Fin cfg0.N) :
    (iprop(∃ d, owns (c : Thread nD τ) (win0_6.stage (cfg0.slots t 6)) fullShare ((dats m 0 c).before 6 t d)) : sProp 𝕄)
      ⊢ owns (c : Thread nD τ) (win0_6.stage (cfg0.slots t 6)) fullShare (blocksAt m c t).win :=
  owns_before (w := 6) m (before0_6_of m (dats m 0 c) (dats_A m c 6) (fun t => by dsimp only [dats]) t)

theorem in_qlg (c : Dev nD) (t : Fin cfg0.N) :
    (iprop(∃ d, owns (c : Thread nD τ) (win0_7.stage (cfg0.slots t 7)) fullShare ((dats m 0 c).before 7 t d)) : sProp 𝕄)
      ⊢ owns (c : Thread nD τ) (win0_7.stage (cfg0.slots t 7)) fullShare (blocksAt m c t).qlg :=
  owns_before (w := 7) m (before0_7_of m (dats m 0 c) (dats_A m c 7) (fun t => by dsimp only [dats]) t)

theorem in_wuq (c : Dev nD) (t : Fin cfg0.N) :
    (iprop(∃ d, owns (c : Thread nD τ) (win0_8.stage (cfg0.slots t 8)) fullShare ((dats m 0 c).before 8 t d)) : sProp 𝕄)
      ⊢ owns (c : Thread nD τ) (win0_8.stage (cfg0.slots t 8)) fullShare (blocksAt m c t).wuq :=
  owns_before (w := 8) m (before0_8_of m (dats m 0 c) (dats_A m c 8) (fun t => by dsimp only [dats]) t)

theorem in_kvlg (c : Dev nD) (t : Fin cfg0.N) :
    (iprop(∃ d, owns (c : Thread nD τ) (win0_9.stage (cfg0.slots t 9)) fullShare ((dats m 0 c).before 9 t d)) : sProp 𝕄)
      ⊢ owns (c : Thread nD τ) (win0_9.stage (cfg0.slots t 9)) fullShare (blocksAt m c t).kvlg :=
  owns_before (w := 9) m (before0_9_of m (dats m 0 c) (dats_A m c 9) (fun t => by dsimp only [dats]) t)

theorem in_wukv (c : Dev nD) (t : Fin cfg0.N) :
    (iprop(∃ d, owns (c : Thread nD τ) (win0_10.stage (cfg0.slots t 10)) fullShare ((dats m 0 c).before 10 t d)) : sProp 𝕄)
      ⊢ owns (c : Thread nD τ) (win0_10.stage (cfg0.slots t 10)) fullShare (blocksAt m c t).wukv :=
  owns_before (w := 10) m (before0_10_of m (dats m 0 c) (dats_A m c 10) (fun t => by dsimp only [dats]) t)

theorem in_qng (c : Dev nD) (t : Fin cfg0.N) :
    (iprop(∃ d, owns (c : Thread nD τ) (win0_11.stage (cfg0.slots t 11)) fullShare ((dats m 0 c).before 11 t d)) : sProp 𝕄)
      ⊢ owns (c : Thread nD τ) (win0_11.stage (cfg0.slots t 11)) fullShare (blocksAt m c t).qng :=
  owns_before (w := 11) m (before0_11_of m (dats m 0 c) (dats_A m c 11) (fun t => by dsimp only [dats]) t)

theorem in_kng (c : Dev nD) (t : Fin cfg0.N) :
    (iprop(∃ d, owns (c : Thread nD τ) (win0_12.stage (cfg0.slots t 12)) fullShare ((dats m 0 c).before 12 t d)) : sProp 𝕄)
      ⊢ owns (c : Thread nD τ) (win0_12.stage (cfg0.slots t 12)) fullShare (blocksAt m c t).kng :=
  owns_before (w := 12) m (before0_12_of m (dats m 0 c) (dats_A m c 12) (fun t => by dsimp only [dats]) t)

theorem in_cos (c : Dev nD) (t : Fin cfg0.N) :
    (iprop(∃ d, owns (c : Thread nD τ) (win0_13.stage (cfg0.slots t 13)) fullShare ((dats m 0 c).before 13 t d)) : sProp 𝕄)
      ⊢ owns (c : Thread nD τ) (win0_13.stage (cfg0.slots t 13)) fullShare (blocksAt m c t).cos :=
  owns_before (w := 13) m (before0_13_of m (dats m 0 c) (dats_A m c 13) (fun t => by dsimp only [dats]) t)

theorem in_slo (c : Dev nD) (t : Fin cfg0.N) :
    (iprop(∃ d, owns (c : Thread nD τ) (win0_14.stage (cfg0.slots t 14)) fullShare ((dats m 0 c).before 14 t d)) : sProp 𝕄)
      ⊢ owns (c : Thread nD τ) (win0_14.stage (cfg0.slots t 14)) fullShare (blocksAt m c t).slo :=
  owns_before (w := 14) m (before0_14_of m (dats m 0 c) (dats_A m c 14) (fun t => by dsimp only [dats]) t)

theorem in_shi (c : Dev nD) (t : Fin cfg0.N) :
    (iprop(∃ d, owns (c : Thread nD τ) (win0_15.stage (cfg0.slots t 15)) fullShare ((dats m 0 c).before 15 t d)) : sProp 𝕄)
      ⊢ owns (c : Thread nD τ) (win0_15.stage (cfg0.slots t 15)) fullShare (blocksAt m c t).shi :=
  owns_before (w := 15) m (before0_15_of m (dats m 0 c) (dats_A m c 15) (fun t => by dsimp only [dats]) t)

theorem in_cq (c : Dev nD) (t : Fin cfg0.N) :
    (iprop(∃ d, owns (c : Thread nD τ) (win0_16.stage (cfg0.slots t 16)) fullShare ((dats m 0 c).before 16 t d)) : sProp 𝕄)
      ⊢ owns (c : Thread nD τ) (win0_16.stage (cfg0.slots t 16)) fullShare (blocksAt m c t).cq :=
  owns_before (w := 16) m (before0_16_of m (dats m 0 c) (dats_A m c 16) (fun t => by dsimp only [dats]) t)

theorem in_ckv (c : Dev nD) (t : Fin cfg0.N) :
    (iprop(∃ d, owns (c : Thread nD τ) (win0_17.stage (cfg0.slots t 17)) fullShare ((dats m 0 c).before 17 t d)) : sProp 𝕄)
      ⊢ owns (c : Thread nD τ) (win0_17.stage (cfg0.slots t 17)) fullShare (blocksAt m c t).ckv :=
  owns_before (w := 17) m (before0_17_of m (dats m 0 c) (dats_A m c 17) (fun t => by dsimp only [dats]) t)

theorem in_kr (c : Dev nD) (t : Fin cfg0.N) :
    (iprop(∃ d, owns (c : Thread nD τ) (win0_18.stage (cfg0.slots t 18)) fullShare ((dats m 0 c).before 18 t d)) : sProp 𝕄)
      ⊢ owns (c : Thread nD τ) (win0_18.stage (cfg0.slots t 18)) fullShare (blocksAt m c t).kr :=
  owns_before (w := 18) m (before0_18_of m (dats m 0 c) (dats_A m c 18) (fun t => by dsimp only [dats]) t)

theorem in_dq (c : Dev nD) (t : Fin cfg0.N) :
    (iprop(∃ d, owns (c : Thread nD τ) (win0_19.stage (cfg0.slots t 19)) fullShare ((dats m 0 c).before 19 t d)) : sProp 𝕄)
      ⊢ owns (c : Thread nD τ) (win0_19.stage (cfg0.slots t 19)) fullShare (blocksAt m c t).dq :=
  owns_before (w := 19) m (before0_19_of m (dats m 0 c) (dats_A m c 19) (fun t => by dsimp only [dats]) t)

theorem in_dk (c : Dev nD) (t : Fin cfg0.N) :
    (iprop(∃ d, owns (c : Thread nD τ) (win0_20.stage (cfg0.slots t 20)) fullShare ((dats m 0 c).before 20 t d)) : sProp 𝕄)
      ⊢ owns (c : Thread nD τ) (win0_20.stage (cfg0.slots t 20)) fullShare (blocksAt m c t).dk :=
  owns_before (w := 20) m (before0_20_of m (dats m 0 c) (dats_A m c 20) (fun t => by dsimp only [dats]) t)

theorem in_dv (c : Dev nD) (t : Fin cfg0.N) :
    (iprop(∃ d, owns (c : Thread nD τ) (win0_21.stage (cfg0.slots t 21)) fullShare ((dats m 0 c).before 21 t d)) : sProp 𝕄)
      ⊢ owns (c : Thread nD τ) (win0_21.stage (cfg0.slots t 21)) fullShare (blocksAt m c t).dv :=
  owns_before (w := 21) m (before0_21_of m (dats m 0 c) (dats_A m c 21) (fun t => by dsimp only [dats]) t)

theorem in_dga (c : Dev nD) (t : Fin cfg0.N) :
    (iprop(∃ d, owns (c : Thread nD τ) (win0_22.stage (cfg0.slots t 22)) fullShare ((dats m 0 c).before 22 t d)) : sProp 𝕄)
      ⊢ owns (c : Thread nD τ) (win0_22.stage (cfg0.slots t 22)) fullShare (blocksAt m c t).dga :=
  owns_before (w := 22) m (before0_22_of m (dats m 0 c) (dats_A m c 22) (fun t => by dsimp only [dats]) t)

theorem in_dgp (c : Dev nD) (t : Fin cfg0.N) :
    (iprop(∃ d, owns (c : Thread nD τ) (win0_23.stage (cfg0.slots t 23)) fullShare ((dats m 0 c).before 23 t d)) : sProp 𝕄)
      ⊢ owns (c : Thread nD τ) (win0_23.stage (cfg0.slots t 23)) fullShare (blocksAt m c t).dgp :=
  owns_before (w := 23) m (before0_23_of m (dats m 0 c) (dats_A m c 23) (fun t => by dsimp only [dats]) t)

theorem in_dpl (c : Dev nD) (t : Fin cfg0.N) :
    (iprop(∃ d, owns (c : Thread nD τ) (win0_24.stage (cfg0.slots t 24)) fullShare ((dats m 0 c).before 24 t d)) : sProp 𝕄)
      ⊢ owns (c : Thread nD τ) (win0_24.stage (cfg0.slots t 24)) fullShare (blocksAt m c t).dpl :=
  owns_before (w := 24) m (before0_24_of m (dats m 0 c) (dats_A m c 24) (fun t => by dsimp only [dats]) t)

theorem in_hb (c : Dev nD) (t : Fin cfg0.N) :
    (iprop(∃ d, owns (c : Thread nD τ) (win0_25.stage (cfg0.slots t 25)) fullShare ((dats m 0 c).before 25 t d)) : sProp 𝕄)
      ⊢ owns (c : Thread nD τ) (win0_25.stage (cfg0.slots t 25)) fullShare (blocksAt m c t).hb :=
  owns_before (w := 25) m (before0_25_of m (dats m 0 c) (dats_A m c 25) (fun t => by dsimp only [dats]) t)

theorem in_ha (c : Dev nD) (t : Fin cfg0.N) :
    (iprop(∃ d, owns (c : Thread nD τ) (win0_26.stage (cfg0.slots t 26)) fullShare ((dats m 0 c).before 26 t d)) : sProp 𝕄)
      ⊢ owns (c : Thread nD τ) (win0_26.stage (cfg0.slots t 26)) fullShare (blocksAt m c t).ha :=
  owns_before (w := 26) m (before0_26_of m (dats m 0 c) (dats_A m c 26) (fun t => by dsimp only [dats]) t)

theorem in_g1 (c : Dev nD) (t : Fin cfg0.N) :
    (iprop(∃ d, owns (c : Thread nD τ) (win0_27.stage (cfg0.slots t 27)) fullShare ((dats m 0 c).before 27 t d)) : sProp 𝕄)
      ⊢ owns (c : Thread nD τ) (win0_27.stage (cfg0.slots t 27)) fullShare (blocksAt m c t).g1 :=
  owns_before (w := 27) m (before0_27_of m (dats m 0 c) (dats_A m c 27) (fun t => by dsimp only [dats]) t)

set_option maxHeartbeats 1600000 in
/-- What the body is called with, by kind. -/
theorem pre_gathered (c : Dev nD) (t : Fin cfg0.N) : bodyPre m c t ⊢ (iprop(HeldAt c t (blocksAt m c t)
    ∗ (∃ s, ⌜∀ h : t.val ≠ 0, s = sumsTo m c (t.val - 1) (Nat.lt_of_le_of_lt (Nat.sub_le _ _) t.isLt)⌝ ∗ SumsAt c t s)
    ∗ RestAt c t ∗ (∃ r, prngReg c r) ∗ (dats m 0 c).owesAt () t.castSucc) : sProp 𝕄) := by
  unfold bodyPre
  rw [show (dats m 0 c).Φ t.castSucc = Pipeline.ΦA spec0 c from rfl, phi_eq]
  refine BIBase.Entails.trans gather (Laws.sep_mono ?_ (Laws.sep_mono (sums_before m c t) ?_))
  · unfold HeldAt Held
    exact Laws.sep_mono (in_x2 m c t) <| Laws.sep_mono (in_x3 m c t) <| Laws.sep_mono (in_ctx m c t) <| Laws.sep_mono (in_mods m c t) <| Laws.sep_mono
      (in_bmods m c t) <| Laws.sep_mono (in_ng m c t) <| Laws.sep_mono (in_win m c t) <| Laws.sep_mono (in_qlg m c t) <| Laws.sep_mono (in_wuq m c t)
      <| Laws.sep_mono (in_kvlg m c t) <| Laws.sep_mono (in_wukv m c t) <| Laws.sep_mono (in_qng m c t) <| Laws.sep_mono (in_kng m c t) <|
      Laws.sep_mono (in_cos m c t) <| Laws.sep_mono (in_slo m c t) <| Laws.sep_mono (in_shi m c t) <| Laws.sep_mono (in_cq m c t) <| Laws.sep_mono
      (in_ckv m c t) <| Laws.sep_mono (in_kr m c t) <| Laws.sep_mono (in_dq m c t) <| Laws.sep_mono (in_dk m c t) <| Laws.sep_mono (in_dv m c t) <|
      Laws.sep_mono (in_dga m c t) <| Laws.sep_mono (in_dgp m c t) <| Laws.sep_mono (in_dpl m c t) <| Laws.sep_mono (in_hb m c t) <| Laws.sep_mono
      (in_ha m c t) <| in_g1 m c t
  · unfold RestAt HeldRest
    exact .rfl

set_option maxHeartbeats 1600000 in
/-- What the body returns, from the kinds. -/
theorem post_scattered (c : Dev nD) (t : Fin cfg0.N) : (iprop(HeldAt c t (blocksAt m c t)
    ∗ SumsAt c t (sumsTo m c t.val t.isLt) ∗ RestAt c t ∗ (∃ r, prngReg c r) ∗ (dats m 0 c).owesAt () t.castSucc) : sProp 𝕄) ⊢ bodyPost m c t := by
  unfold bodyPost
  rw [show (dats m 0 c).Φ t.succ = Pipeline.ΦA spec0 c from rfl, phi_eq,
    show (dats m 0 c).owesAt () t.succ = (dats m 0 c).owesAt () t.castSucc from rfl]
  refine BIBase.Entails.trans ?_ scatter
  refine Laws.sep_mono ?_ (Laws.sep_mono ?_ (Laws.sep_mono ?_ .rfl))
  · unfold HeldAt Held
    exact Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| Laws.sep_mono .rfl <| .rfl
  · unfold SumsAt HeldSums
    exact Laws.sep_mono (leaves_uq m c t) <| Laws.sep_mono (leaves_ukv m c t) <| Laws.sep_mono (leaves_qlg m c t) <|
      Laws.sep_mono (leaves_kvlg m c t) <| Laws.sep_mono (leaves_qng m c t) (leaves_kng m c t)
  · unfold RestAt HeldRest
    exact .rfl

/-- The body at any point. -/
theorem sound_body (c : Dev nD) (t : Fin cfg0.N) :
    bodyPre m c t ⊢ wp frame (wpE (defs₀ (F := F)) Variants.none c none) Set.univ (bodyAt0 t) (fun _ => bodyPost m c t) := by
  refine BIBase.Entails.trans (pre_gathered m c t) ?_
  iintro ⟨HA, ⟨%s, %hs, HS⟩, HR, HG, HO⟩
  iapply (body_at m c t s hs fun _ => bodyPost m c t)
  isplitl [HA]; · iexact HA
  isplitl [HS]; · iexact HS
  isplitl [HR]; · iexact HR
  iintro ⟨HA, HS, HR⟩
  iapply (post_scattered m c t)
  isplitl [HA]; · iexact HA
  isplitl [HS]; · iexact HS
  isplitl [HR]; · iexact HR
  isplitl [HG]; · iexact HG
  iexact HO

theorem body_row (t : Fin cfg0.N) : defs₀ (F := F) .tc cfg0.body (cfg0.bodyArgs t (cfg0.slots t)) = bodyAt0 t := by
  unfold defs₀; rw [Defs.onTc_tc]

/-- The obligation, what a window is left at by its own name. -/
theorem obligation_of {cfg : Pipeline.Cfg sig Λ₀} {c : Dev nD} (dat : Dat τ (Elt F) Unit ℕ (UR sig nD τ) ℕ cfg c) (fgt : Fin cfg.W → Bool)
    (h : ∀ t : Fin cfg.N, iprop(dat.Φ t.castSucc ∗ dat.owesAt () t.castSucc ∗ bigSep Finset.univ fun w : Fin cfg.W =>
          match fgt w with
          | true => iprop(∃ X, owns (c : Thread nD τ) ((cfg.win w).stage (cfg.slots t w)) fullShare X)
          | false => iprop(∃ d, owns (c : Thread nD τ) ((cfg.win w).stage (cfg.slots t w)) fullShare (dat.before w t d)))
      ⊢ wp frame (wpE (defs₀ (F := F)) Variants.none c none) Set.univ (defs₀ (F := F) .tc cfg.body (cfg.bodyArgs t (cfg.slots t))) fun _ =>
        iprop(dat.Φ t.succ ∗ dat.owesAt () t.succ ∗ bigSep Finset.univ fun w : Fin cfg.W =>
          match fgt w with
          | true => iprop(∃ X, owns (c : Thread nD τ) ((cfg.win w).stage (cfg.slots t w)) fullShare X)
          | false => dat.leavesExact w t)) :
    BodyObligation dat (defs₀ (F := F)) Variants.none () Set.univ fgt := h

theorem left_named {cfg : Pipeline.Cfg sig Λ₀} {c : Dev nD} (dat : Dat τ (Elt F) Unit ℕ (UR sig nD τ) ℕ cfg c) (fgt : Fin cfg.W → Bool) (w : Fin cfg.W)
    (t : Fin cfg.N) (h : fgt w = false) : dat.leavesExact w t ⊢ (match fgt w with
      | true => iprop(∃ X, owns (c : Thread nD τ) ((cfg.win w).stage (cfg.slots t w)) fullShare X)
      | false => dat.leavesExact w t) := by
  rw [h]

theorem left_some {cfg : Pipeline.Cfg sig Λ₀} {c : Dev nD} (dat : Dat τ (Elt F) Unit ℕ (UR sig nD τ) ℕ cfg c) (fgt : Fin cfg.W → Bool) (w : Fin cfg.W)
    (t : Fin cfg.N) (h : fgt w = true) : (iprop(∃ X, owns (c : Thread nD τ) ((cfg.win w).stage (cfg.slots t w)) fullShare X) : sProp 𝕄) ⊢ (match fgt w with
      | true => iprop(∃ X, owns (c : Thread nD τ) ((cfg.win w).stage (cfg.slots t w)) fullShare X)
      | false => dat.leavesExact w t) := by
  rw [h]

set_option maxHeartbeats 1600000 in
/-- The obligation at these data. -/
theorem obligation (c : Dev nD) : BodyObligation (dats (F := F) m 0 c) (defs₀ (F := F)) Variants.none () Set.univ forgets := obligation_of _ _ fun t => by
  rw [bigSep_W0, bigSep_W0, body_row]
  refine triple_restated (sound_body m c t) rfl .rfl fun _ => ?_
  unfold bodyPost
  exact Laws.sep_mono .rfl <| Laws.sep_mono .rfl <| Laws.sep_mono (left_named (dats m 0 c) forgets 0 t rfl) <| Laws.sep_mono (left_named (dats m 0 c)
    forgets 1 t rfl) <| Laws.sep_mono (left_named (dats m 0 c) forgets 2 t rfl) <| Laws.sep_mono (left_named (dats m 0 c) forgets 3 t rfl) <|
    Laws.sep_mono (left_named (dats m 0 c) forgets 4 t rfl) <| Laws.sep_mono (left_named (dats m 0 c) forgets 5 t rfl) <| Laws.sep_mono (left_named
    (dats m 0 c) forgets 6 t rfl) <| Laws.sep_mono (left_named (dats m 0 c) forgets 7 t rfl) <| Laws.sep_mono (left_named (dats m 0 c) forgets 8 t
    rfl) <| Laws.sep_mono (left_named (dats m 0 c) forgets 9 t rfl) <| Laws.sep_mono (left_named (dats m 0 c) forgets 10 t rfl) <| Laws.sep_mono
    (left_named (dats m 0 c) forgets 11 t rfl) <| Laws.sep_mono (left_named (dats m 0 c) forgets 12 t rfl) <| Laws.sep_mono (left_named (dats m 0 c)
    forgets 13 t rfl) <| Laws.sep_mono (left_named (dats m 0 c) forgets 14 t rfl) <| Laws.sep_mono (left_named (dats m 0 c) forgets 15 t rfl) <|
    Laws.sep_mono (left_named (dats m 0 c) forgets 16 t rfl) <| Laws.sep_mono (left_named (dats m 0 c) forgets 17 t rfl) <| Laws.sep_mono (left_named
    (dats m 0 c) forgets 18 t rfl) <| Laws.sep_mono (left_named (dats m 0 c) forgets 19 t rfl) <| Laws.sep_mono (left_named (dats m 0 c) forgets 20 t
    rfl) <| Laws.sep_mono (left_named (dats m 0 c) forgets 21 t rfl) <| Laws.sep_mono (left_named (dats m 0 c) forgets 22 t rfl) <| Laws.sep_mono
    (left_named (dats m 0 c) forgets 23 t rfl) <| Laws.sep_mono (left_named (dats m 0 c) forgets 24 t rfl) <| Laws.sep_mono (left_named (dats m 0 c)
    forgets 25 t rfl) <| Laws.sep_mono (left_named (dats m 0 c) forgets 26 t rfl) <| Laws.sep_mono (left_named (dats m 0 c) forgets 27 t rfl) <|
    Laws.sep_mono (left_some (dats m 0 c) forgets 28 t rfl) <| Laws.sep_mono (left_some (dats m 0 c) forgets 29 t rfl) <| Laws.sep_mono (left_named
    (dats m 0 c) forgets 30 t rfl) <| Laws.sep_mono (left_named (dats m 0 c) forgets 31 t rfl) <| Laws.sep_mono (left_named (dats m 0 c) forgets 32 t
    rfl) <| Laws.sep_mono (left_named (dats m 0 c) forgets 33 t rfl) <| Laws.sep_mono (left_named (dats m 0 c) forgets 34 t rfl) <| Laws.sep_mono
    (left_named (dats m 0 c) forgets 35 t rfl) <| Laws.sep_mono (left_some (dats m 0 c) forgets 36 t rfl) <| left_some (dats m 0 c) forgets 37 t rfl

/-! ## The run -/

set_option backward.isDefEq.respectTransparency.types false in
/-- Every execution ends, with the arrays as the data says and every semaphore at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := dats_A m) (hin := fun _ => .rfl) (hout := fun _ => .rfl)

/-- The array of window 30 at the end. -/
theorem final_uq (c : Dev nD) : (dats m 0 c).arrAt 30 cfg0.N = (sumsTo m c 18 last_lt).uq := by
  refine (dats m 0 c).arrAt_eq_of_covers 30 _ (by decide +kernel) fun t hf y => ?_
  blk_simp
  rw [after_uq]
  obtain rfl : t = ⟨18, last_lt⟩ := Fin.ext (by have := (flush0_30 t).1 hf; have := Nat.lt_of_lt_of_eq t.isLt N_0; simp only; omega)
  refine congrArg _ (funext fun a => Fin.ext ?_)
  fin_cases a <;> blk_simp <;> first | exact (Nat.zero_add _).symm | rfl

/-- The array of window 31 at the end. -/
theorem final_ukv (c : Dev nD) : (dats m 0 c).arrAt 31 cfg0.N = (sumsTo m c 18 last_lt).ukv := by
  refine (dats m 0 c).arrAt_eq_of_covers 31 _ (by decide +kernel) fun t hf y => ?_
  blk_simp
  rw [after_ukv]
  obtain rfl : t = ⟨18, last_lt⟩ := Fin.ext (by have := (flush0_31 t).1 hf; have := Nat.lt_of_lt_of_eq t.isLt N_0; simp only; omega)
  refine congrArg _ (funext fun a => Fin.ext ?_)
  fin_cases a <;> blk_simp <;> first | exact (Nat.zero_add _).symm | rfl

/-- The array of window 32 at the end. -/
theorem final_qlg (c : Dev nD) : (dats m 0 c).arrAt 32 cfg0.N = (sumsTo m c 18 last_lt).qlg := by
  refine (dats m 0 c).arrAt_eq_of_covers 32 _ (by decide +kernel) fun t hf y => ?_
  blk_simp
  rw [after_qlg]
  obtain rfl : t = ⟨18, last_lt⟩ := Fin.ext (by have := (flush0_32 t).1 hf; have := Nat.lt_of_lt_of_eq t.isLt N_0; simp only; omega)
  refine congrArg _ (funext fun a => Fin.ext ?_)
  fin_cases a <;> blk_simp <;> first | exact (Nat.zero_add _).symm | rfl

/-- The array of window 33 at the end. -/
theorem final_kvlg (c : Dev nD) : (dats m 0 c).arrAt 33 cfg0.N = (sumsTo m c 18 last_lt).kvlg := by
  refine (dats m 0 c).arrAt_eq_of_covers 33 _ (by decide +kernel) fun t hf y => ?_
  blk_simp
  rw [after_kvlg]
  obtain rfl : t = ⟨18, last_lt⟩ := Fin.ext (by have := (flush0_33 t).1 hf; have := Nat.lt_of_lt_of_eq t.isLt N_0; simp only; omega)
  refine congrArg _ (funext fun a => Fin.ext ?_)
  fin_cases a <;> blk_simp <;> first | exact (Nat.zero_add _).symm | rfl

/-- The array of window 34 at the end. -/
theorem final_qng (c : Dev nD) : (dats m 0 c).arrAt 34 cfg0.N = (sumsTo m c 18 last_lt).qng := by
  refine (dats m 0 c).arrAt_eq_of_covers 34 _ (by decide +kernel) fun t hf y => ?_
  blk_simp
  rw [after_qng]
  obtain rfl : t = ⟨18, last_lt⟩ := Fin.ext (by have := (flush0_34 t).1 hf; have := Nat.lt_of_lt_of_eq t.isLt N_0; simp only; omega)
  refine congrArg _ (funext fun a => Fin.ext ?_)
  fin_cases a <;> blk_simp <;> first | exact (Nat.zero_add _).symm | rfl

/-- The array of window 35 at the end. -/
theorem final_kng (c : Dev nD) : (dats m 0 c).arrAt 35 cfg0.N = (sumsTo m c 18 last_lt).kng := by
  refine (dats m 0 c).arrAt_eq_of_covers 35 _ (by decide +kernel) fun t hf y => ?_
  blk_simp
  rw [after_kng]
  obtain rfl : t = ⟨18, last_lt⟩ := Fin.ext (by have := (flush0_35 t).1 hf; have := Nat.lt_of_lt_of_eq t.isLt N_0; simp only; omega)
  refine congrArg _ (funext fun a => Fin.ext ?_)
  fin_cases a <;> blk_simp <;> first | exact (Nat.zero_add _).symm | rfl

/-- The arguments of a device end as they began. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)
  ∧ r.2.mem ((c.tc : Thread nD τ).loc main_arg18) = m ((c.tc : Thread nD τ).loc main_arg18)
  ∧ r.2.mem ((c.tc : Thread nD τ).loc main_arg19) = m ((c.tc : Thread nD τ).loc main_arg19)

theorem kept_of {r : PUnit × MemSt nD τ sig (Elt F)} (h : Pipeline.RDat.FramePost (cfgs 0) (fun c => (dats m 0 c).toRForget forgets) (V m) r) (c : Dev nD) :
    Kept m r c :=
  ⟨((h c).2 main_arg0 (Pipeline.mem_restRefs_of main_arg0 (by decide) (by decide))).trans (V_main_arg0 m c), ((h c).2 main_arg1
    (Pipeline.mem_restRefs_of main_arg1 (by decide) (by decide))).trans (V_main_arg1 m c), ((h c).2 main_arg2 (Pipeline.mem_restRefs_of main_arg2 (by
    decide) (by decide))).trans (V_main_arg2 m c), ((h c).2 main_arg3 (Pipeline.mem_restRefs_of main_arg3 (by decide) (by decide))).trans (V_main_arg3
    m c), ((h c).2 main_arg4 (Pipeline.mem_restRefs_of main_arg4 (by decide) (by decide))).trans (V_main_arg4 m c), ((h c).2 main_arg5
    (Pipeline.mem_restRefs_of main_arg5 (by decide) (by decide))).trans (V_main_arg5 m c), ((h c).2 main_arg6 (Pipeline.mem_restRefs_of main_arg6 (by
    decide) (by decide))).trans (V_main_arg6 m c), ((h c).2 main_arg7 (Pipeline.mem_restRefs_of main_arg7 (by decide) (by decide))).trans (V_main_arg7
    m c), ((h c).2 main_arg8 (Pipeline.mem_restRefs_of main_arg8 (by decide) (by decide))).trans (V_main_arg8 m c), ((h c).2 main_arg9
    (Pipeline.mem_restRefs_of main_arg9 (by decide) (by decide))).trans (V_main_arg9 m c), ((h c).2 main_arg10 (Pipeline.mem_restRefs_of main_arg10
    (by decide) (by decide))).trans (V_main_arg10 m c), ((h c).2 main_arg11 (Pipeline.mem_restRefs_of main_arg11 (by decide) (by decide))).trans
    (V_main_arg11 m c), ((h c).2 main_arg12 (Pipeline.mem_restRefs_of main_arg12 (by decide) (by decide))).trans (V_main_arg12 m c), ((h c).2
    main_arg13 (Pipeline.mem_restRefs_of main_arg13 (by decide) (by decide))).trans (V_main_arg13 m c), ((h c).2 main_arg14 (Pipeline.mem_restRefs_of
    main_arg14 (by decide) (by decide))).trans (V_main_arg14 m c), ((h c).2 main_arg15 (Pipeline.mem_restRefs_of main_arg15 (by decide) (by
    decide))).trans (V_main_arg15 m c), ((h c).2 main_arg16 (Pipeline.mem_restRefs_of main_arg16 (by decide) (by decide))).trans (V_main_arg16 m c),
    ((h c).2 main_arg17 (Pipeline.mem_restRefs_of main_arg17 (by decide) (by decide))).trans (V_main_arg17 m c), ((h c).2 main_arg18
    (Pipeline.mem_restRefs_of main_arg18 (by decide) (by decide))).trans (V_main_arg18 m c), ((h c).2 main_arg19 (Pipeline.mem_restRefs_of main_arg19
    (by decide) (by decide))).trans (V_main_arg19 m c)⟩

/-- THE RUN: every execution ends; the six stage-one gradients are the sums after the last point, the arguments unchanged, every
    semaphore at zero. -/
theorem run : θ_run defs (onTc (τ := τ) (main (F := F))) ⟨m, fun _ => 0, ρ⟩ (fun r => (∀ c : Dev nD,
      (r.2.mem ((c.tc : Thread nD τ).loc main_v138_2) = (sumsTo m c 18 last_lt).uq
      ∧ r.2.mem ((c.tc : Thread nD τ).loc main_v138_3) = (sumsTo m c 18 last_lt).ukv
      ∧ r.2.mem ((c.tc : Thread nD τ).loc main_v138_4) = (sumsTo m c 18 last_lt).qlg
      ∧ r.2.mem ((c.tc : Thread nD τ).loc main_v138_5) = (sumsTo m c 18 last_lt).kvlg
      ∧ r.2.mem ((c.tc : Thread nD τ).loc main_v138_6) = (sumsTo m c 18 last_lt).qng
      ∧ r.2.mem ((c.tc : Thread nD τ).loc main_v138_7) = (sumsTo m c 18 last_lt).kng)
      ∧ Kept m r c) ∧ r.2.sem = fun _ => 0) :=
  (θ_run defs _ _).mono (fun r h => ⟨fun c => ⟨⟨
      (((dats m 0 c).toRForget_arrAt_iff (fgt := forgets) (w := 30) rfl _ _).1 ((h.1 c).1 30)).trans (final_uq m c),
      (((dats m 0 c).toRForget_arrAt_iff (fgt := forgets) (w := 31) rfl _ _).1 ((h.1 c).1 31)).trans (final_ukv m c),
      (((dats m 0 c).toRForget_arrAt_iff (fgt := forgets) (w := 32) rfl _ _).1 ((h.1 c).1 32)).trans (final_qlg m c),
      (((dats m 0 c).toRForget_arrAt_iff (fgt := forgets) (w := 33) rfl _ _).1 ((h.1 c).1 33)).trans (final_kvlg m c),
      (((dats m 0 c).toRForget_arrAt_iff (fgt := forgets) (w := 34) rfl _ _).1 ((h.1 c).1 34)).trans (final_qng m c),
      (((dats m 0 c).toRForget_arrAt_iff (fgt := forgets) (w := 35) rfl _ _).1 ((h.1 c).1 35)).trans (final_kng m c)⟩, kept_of m h.1 c⟩, h.2⟩) (run_main m ρ)

/-- THE FRAME: every execution ends, the arguments unchanged, every semaphore at zero. -/
theorem framed : θ_run defs (onTc (τ := τ) (main (F := F))) ⟨m, fun _ => 0, ρ⟩ (fun r => (∀ c : Dev nD, Kept m r c) ∧ r.2.sem = fun _ => 0) :=
  (θ_run defs _ _).mono (fun _ h => ⟨fun c => (h.1 c).2, h.2⟩) (run m ρ)

end Cert.Proj
end
-- ==== Proof.ProjBits.lean ====
/- The frame of the projection's backward call at the machine's words: the printed program and its idealization are one text but for the
   constant they name, so the run proved of the one over any instance is the run of the other. -/
module

public import proofs.«01_k».proof.Proof.ProjFrame
public import proofs.«01_k».proof.Proof.Gen.Proj
public import proofs.«01_k».proof.Defs

@[expose] public section

set_option maxRecDepth 65536

noncomputable section

namespace Cert.Proj

open Idealize.ShloMosaic Idealize.ShloMosaic.TcCoe Idealize.ShloMosaic.Tactic Idealize.SL.Sem

/-- The named constant read as the word it is printed as. -/
@[reducible] def namedBits : Named Bits where
  named _ _ {φ} b := Scalar.ofBits φ b

/-- The frame of the printed program. -/
theorem frame_bits : Cert.quiescent_Proj (hProj := Cert.Proj.Gen.facts) := fun m ρ _ => by
  refine cast ?_ (@Cert.Proj.framed Bits _ namedBits m ρ)
  sl_kernel_rfl

end Cert.Proj
end
-- ==== Proof.ProjMath.lean ====
/- The mathematics of one row of the projection's backward call, over the extended reals: a row's norm, the rotary turn taken back, and
   how both look on rows lengthened by zeros. -/
module

public import proofs.«01_k».proof.Proof.Math
public import Idealize.ShloMosaic.Lib.Pointwise

@[expose] public section

set_option maxRecDepth 16384

noncomputable section

namespace Cert.Proj

open Idealize.ShloMosaic
open Cert.Attn (padRow sum_pad)
open scoped BigOperators

/-- The norms' small constant, the scores' scale and the logarithm of two, each the real of its float word. -/
def cEps : EReal := Ideal.ofBits .f32 0x358637BD#32
def scaleQ : EReal := Ideal.ofBits .f32 0x3D93CD3A#32
def scaleK : EReal := Ideal.ofBits .f32 0x3F317218#32

theorem word_192 : Ideal.ofBits .f32 0x43400000#32 = ((192 : ℝ) : EReal) := by
  simp [Ideal.ofBits, Ideal.ieee]
  rw [← EReal.coe_mul]
  norm_num

theorem scaleQ_real : ∃ r : ℝ, r ≠ 0 ∧ scaleQ = (r : EReal) := by
  simp [scaleQ, Ideal.ofBits, Ideal.ieee]
  exact ⟨_, by norm_num, (EReal.coe_mul _ _).symm⟩

theorem scaleK_real : ∃ r : ℝ, r ≠ 0 ∧ scaleK = (r : EReal) := by
  simp [scaleK, Ideal.ofBits, Ideal.ieee]
  exact ⟨_, by norm_num, (EReal.coe_mul _ _).symm⟩

/-- Dividing by a real and multiplying by it again gives the number back, infinite or not. -/
theorem div_mul_back (c x : EReal) (hc : ∃ r : ℝ, r ≠ 0 ∧ c = (r : EReal)) : Ideal.div x c * c = x := by
  obtain ⟨r, h, rfl⟩ := hc
  rw [Ideal.div_coe h, mul_assoc, ← EReal.coe_mul, one_div, inv_mul_cancel₀ h, EReal.coe_one, mul_one]

/-- One over the root of a row's mean square over 192 columns. -/
def headRms (x : Fin 192 → EReal) : EReal :=
  Ideal.rsqrt (Ideal.div (∑ l, x l * x l) (Ideal.ofBits .f32 0x43400000#32) + cEps)

theorem headRms_of (x : Fin 192 → EReal) (s : EReal) (hs : s = ∑ l, x l * x l) :
    Ideal.rsqrt (s * ((192⁻¹ : ℝ) : EReal) + cEps) = headRms x := by
  unfold headRms
  rw [word_192, Ideal.div_coe (by norm_num), one_div, hs]

/-- A row of 192 columns turned back: the plain columns stay, of each 32 rotary columns the first half takes from the second and the
    second from the first. -/
def unturn (cs sn : Fin 64 → EReal) (d : Fin 192 → EReal) (l : Fin 192) : EReal :=
  if h : l.val < 128 then d l
  else if g : (l.val - 128) % 32 < 16 then
    d l * cs ⟨l.val - 128, by omega⟩ + d ⟨l.val + 16, by omega⟩ * sn ⟨l.val - 112, by omega⟩
  else d l * cs ⟨l.val - 128, by omega⟩ + -(d ⟨l.val - 16, by omega⟩ * sn ⟨l.val - 144, by omega⟩)

theorem unturn_still (d : Fin 192 → EReal) : unturn (fun _ => 1) (fun _ => 0) d = d := by
  funext l
  unfold unturn
  split
  · rfl
  · split <;> simp

/-- The three tables as the kernel holds them: a row's cosines, and its sines parted between the two halves. -/
structure Tables (cosP sloP shiP : Fin 128 → EReal) (cs sn : Fin 64 → EReal) : Prop where
  cos : ∀ (j : Fin 128) (h : j.val < 64), cosP j = cs ⟨j.val, h⟩
  slo : ∀ j : Fin 128, sloP j = if h : j.val < 64 ∧ j.val % 32 < 16 then -sn ⟨j.val, h.1⟩ else 0
  shi : ∀ j : Fin 128, shiP j = if h : j.val < 64 ∧ ¬ j.val % 32 < 16 then sn ⟨j.val, h.1⟩ else 0

/-- The rotary columns turned back by two rolls of a block of 128. -/
theorem unturn_rolls {cosP sloP shiP : Fin 128 → EReal} {cs sn : Fin 64 → EReal} (T : Tables cosP sloP shiP cs sn)
    (d : Fin 192 → EReal) (e : Fin 256 → EReal) (he : ∀ l, e l = padRow d l) (j : Fin 128) :
    e ⟨128 + j.val, by omega⟩ * cosP j + e ⟨128 + (j.val + 128 - 16) % 128, by omega⟩ * sloP ⟨(j.val + 128 - 16) % 128, by omega⟩
      + e ⟨128 + (j.val + 128 - 112) % 128, by omega⟩ * shiP ⟨(j.val + 128 - 112) % 128, by omega⟩
      = padRow (unturn cs sn d) (⟨128 + j.val, by omega⟩ : Fin 256) := by
  rw [T.slo, T.shi]
  by_cases hj : j.val < 64
  · rw [T.cos j hj]
    unfold padRow unturn
    rw [dif_pos (show 128 + j.val < 192 by omega), dif_neg (show ¬ 128 + j.val < 128 by omega)]
    by_cases hg : j.val % 32 < 16
    · rw [dif_neg (by dsimp only; omega), dif_pos (by dsimp only; omega), dif_pos (by dsimp only; omega), mul_zero, add_zero, he, he]
      unfold padRow
      rw [dif_pos (by dsimp only; omega), dif_pos (by dsimp only; omega)]
      congr 1
      · congr 3; dsimp only; omega
      · congr 2 <;> (apply Fin.ext; dsimp only; omega)
    · rw [dif_pos (by dsimp only; omega), dif_neg (by dsimp only; omega), dif_neg (by dsimp only; omega), mul_zero, add_zero, he, he]
      unfold padRow
      rw [dif_pos (by dsimp only; omega), dif_pos (by dsimp only; omega), mul_neg]
      congr 1
      · congr 3; dsimp only; omega
      · congr 3 <;> (apply Fin.ext; dsimp only; omega)
  · rw [dif_neg (by dsimp only; omega), dif_neg (by dsimp only; omega), mul_zero, mul_zero, add_zero, add_zero, he]
    unfold padRow
    rw [dif_neg (show ¬ 128 + j.val < 192 by omega), dif_neg (show ¬ 128 + j.val < 192 by omega), zero_mul]

/-- A column of the norm gain's part of a row: the row turned back times the normed row. -/
def gainRow (cs sn : Fin 64 → EReal) (d x : Fin 192 → EReal) (l : Fin 192) : EReal := unturn cs sn d l * (x l * headRms x)

theorem padRow_mul (x y : Fin 192 → EReal) (l : Fin 256) : padRow x l * padRow y l = padRow (fun l => x l * y l) l := by
  by_cases h : l.val < 192 <;> simp [padRow, h]

theorem padRow_scale (x : Fin 192 → EReal) (r : EReal) (l : Fin 256) : padRow x l * r = padRow (fun l => x l * r) l := by
  by_cases h : l.val < 192 <;> simp [padRow, h]

/-- A key's 192 columns: its own 128 and the shared 64 rotary ones. -/
def keyRow (kn : Fin 128 → EReal) (kr : Fin 64 → EReal) (l : Fin 192) : EReal :=
  if h : l.val < 128 then kn ⟨l.val, h⟩ else kr ⟨l.val - 128, by omega⟩

theorem keyRow_squares (kn : Fin 128 → EReal) (kr : Fin 64 → EReal) :
    (∑ l, kn l * kn l) + (∑ j : Fin 128, padRow kr j * padRow kr j) = ∑ l, keyRow kn kr l * keyRow kn kr l := by
  rw [show (∑ j : Fin 128, padRow kr j * padRow kr j) = ∑ j, kr j * kr j from sum_pad (N := 64) (M := 64) kr kr]
  rw [show (∑ l : Fin 192, keyRow kn kr l * keyRow kn kr l) = ∑ l : Fin (128 + 64), keyRow kn kr l * keyRow kn kr l from rfl, Fin.sum_univ_add]
  refine congrArg₂ (· + ·) ?_ ?_
  · refine Finset.sum_congr rfl fun l _ => ?_
    simp [keyRow]
  · refine Finset.sum_congr rfl fun l _ => ?_
    simp [keyRow]

/-- A row through a norm over its columns, with a gain, and a product. -/
def lowRank {K : ℕ} (n : EReal) (g : Fin K → EReal) (w : Fin K → EReal) (u : Fin K → EReal) : EReal :=
  ∑ k, u k * Ideal.rsqrt (Ideal.div (∑ j, u j * u j) n + cEps) * g k * w k

end Cert.Proj

end
-- ==== Proof.ProjTile.lean ====
/- What a tile of 256 tokens adds to the two norm gains, at a column: a sum over heads and tokens of a gradient row turned back times a
   normed row. -/
module

public import proofs.«01_k».proof.Proof.ProjBlock
public import proofs.«01_k».proof.Proof.ProjMath

@[expose] public section

set_option maxRecDepth 16384

noncomputable section

namespace Cert.Proj

open Idealize.ShloMosaic Cert.ProjIdeal Cert.ProjIdeal.Gen
open Cert.Attn (padRow sum_pad)
open scoped BigOperators

variable (lat : BitVec 1) (b : Blocks Ideal)

theorem inv192 : (Named.named (F := Ideal) κ "inv192" (φ := .f32) 0x3BAAAAAB#32 : EReal) = ((192⁻¹ : ℝ) : EReal) := rfl

/-- A row of the queries of a tile. -/
theorem qAll_at (i : Fin 256) (c : Fin 1024) : (show S256x1024.Idx → EReal from qAll b) (ix2 i c)
    = lowRank (Ideal.ofBits .f32 0x43800000#32) (fun k : Fin 256 => b.qlg (ix2 0 k)) (fun k => b.wuq (ix2 c k)) (fun k => b.cq (ix2 i k)) := by
  pointwise [qAll, k0_pay21, k0_pay20, k0_pay19, k0_pay18, k0_pay17]
  rfl

/-- A row of the keys and values of a tile. -/
theorem kvAll_at (i : Fin 256) (c : Fin 1024) : (show S256x1024.Idx → EReal from kvAll b) (ix2 i c)
    = lowRank (Ideal.ofBits .f32 0x43000000#32) (fun k : Fin 128 => b.kvlg (ix2 0 k)) (fun k => b.wukv (ix2 k c)) (fun k => b.ckv (ix2 i k)) := by
  pointwise [kvAll, k0_pay27, k0_pay25, k0_pay24, k0_pay23, k0_pay26, k0_pay22]
  rfl

/-- The tables of a tile's rows. -/
def TablesOf (cs sn : Fin 256 → Fin 64 → EReal) : Prop :=
  ∀ i, Tables (fun j => b.cos (ix2 i j)) (fun j => b.slo (ix2 i j)) (fun j => b.shi (ix2 i j)) (cs i) (sn i)

section
variable {b} {cs sn : Fin 256 → Fin 64 → EReal} (T : TablesOf b cs sn)

include T in
/-- A query head's part of its gain, at a tile of latent tokens. -/
theorem gainQ_lat (acc : FVec Ideal S1x256 .f32) (qh : FVec Ideal S256x256 .f32) (d : Vec Ideal S1x256x256 .f32) (D Q : Fin 256 → Fin 192 → EReal)
    (hd : ∀ i l, d (ix3 0 i l) = Ideal.div (padRow (D i) l) scaleQ) (hq : ∀ i l, qh (ix2 i l) = padRow (Q i) l) (l : Fin 256) :
    (show S1x256.Idx → EReal from gainQ 1#1 b acc qh d) (ix2 0 l) = acc (ix2 0 l) + ∑ i, padRow (gainRow (cs i) (sn i) (D i) (Q i)) l := by
  have hd' : ∀ i l, d (ix3 0 i l) * scaleQ = padRow (D i) l := fun i l => by rw [hd, div_mul_back _ _ scaleQ_real]
  pointwise [gainQ, k0_pay68, k0_pay67, k0_pay66, k0_pay65, k0_pay58, k0_pay59, k0_pay60, meanSq, inv192]
  refine congrArg (acc (ix2 0 l) + ·) (Finset.sum_congr rfl fun i _ => ?_)
  have hs : (∑ x, qh (ix2 i x) * qh (ix2 i x)) = ∑ l, Q i l * Q i l :=
    (Finset.sum_congr rfl fun x _ => by rw [hq i x]).trans (sum_pad (N := 192) (M := 64) (Q i) (Q i))
  refine (congrArg₂ (· * ·) (x' := padRow (unturn (cs i) (sn i) (D i)) l) ?_ (congrArg₂ (· * ·) (hq i l) (headRms_of (Q i) _ hs))).trans ?_
  · by_cases h : l.val < 128
    · rw [dif_pos h]
      refine (hd' i l).trans ?_
      unfold padRow unturn
      rw [dif_pos (show l.val < 192 by omega), dif_pos (show l.val < 192 by omega), dif_pos h]
    · rw [dif_neg h]
      refine (unturn_rolls (T i) (D i) (fun l => d (ix3 0 i l) * scaleQ) (hd' i) ⟨l.val - 128, by omega⟩).trans ?_
      exact congrArg _ (Fin.ext (show 128 + (l.val - 128) = l.val by omega))
  · rw [padRow_scale (Q i), padRow_mul]
    rfl

/-- A query head's part of its gain is nothing at the context's tile. -/
theorem gainQ_ctx (acc : FVec Ideal S1x256 .f32) (qh : FVec Ideal S256x256 .f32) (d : Vec Ideal S1x256x256 .f32) (l : Fin 256) :
    (show S1x256.Idx → EReal from gainQ 0#1 b acc qh d) (ix2 0 l) = acc (ix2 0 l) := by
  pointwise [gainQ, k0_pay68, k0_pay67, k0_pay66, k0_pay65, k0_pay58, k0_pay59, k0_pay60, meanSq]
  simp

/-- A key head's part of its gain, at a plain column. -/
theorem gainKN_at (acc : FVec Ideal S1x128 .f32) (kn : FVec Ideal S256x128 .f32) (d : Vec Ideal S1x256x256 .f32) (D : Fin 256 → Fin 192 → EReal)
    (R : Fin 256 → Fin 64 → EReal) (hd : ∀ i l, d (ix3 0 l i) = Ideal.div (padRow (D i) l) scaleK) (hr : ∀ i j, b.kr (ix2 i j) = padRow (R i) j)
    (l : Fin 128) : (show S1x128.Idx → EReal from gainKN b acc kn d) (ix2 0 l) = acc (ix2 0 l)
      + ∑ i, padRow (gainRow (cs i) (sn i) (D i) (keyRow (fun l => kn (ix2 i l)) (R i))) (⟨l.val, by omega⟩ : Fin 256) := by
  have hd' : ∀ i l, d (ix3 0 l i) * scaleK = padRow (D i) l := fun i l => by rw [hd, div_mul_back _ _ scaleK_real]
  pointwise [gainKN, addColSums, scaled, rk, keyRms, k0_pay102, k0_pay101, k0_pay91, k0_pay92, inv192]
  refine congrArg (acc (ix2 0 l) + ·) (Finset.sum_congr rfl fun i _ => ?_)
  refine (congrArg₂ (· * ·) (hd' i ⟨l.val, by omega⟩) (congrArg₂ (· * ·) (x' := keyRow (fun l => kn (ix2 i l)) (R i) ⟨l.val, by omega⟩) ?_
    (headRms_of (keyRow (fun l => kn (ix2 i l)) (R i)) _ ?_))).trans ?_
  · unfold keyRow
    rw [dif_pos l.isLt]
  · rw [← keyRow_squares]
    simp only [hr]
  · unfold padRow gainRow unturn
    rw [dif_pos (show l.val < 192 by omega), dif_pos (show l.val < 192 by omega), dif_pos l.isLt]

include T in
/-- A key head's part of its gain, at a rotary column. -/
theorem gainKR_at (acc : FVec Ideal S1x128 .f32) (kn : FVec Ideal S256x128 .f32) (d : Vec Ideal S1x256x256 .f32) (D : Fin 256 → Fin 192 → EReal)
    (R : Fin 256 → Fin 64 → EReal) (hd : ∀ i l, d (ix3 0 l i) = Ideal.div (padRow (D i) l) scaleK) (hr : ∀ i j, b.kr (ix2 i j) = padRow (R i) j)
    (l : Fin 128) : (show S1x128.Idx → EReal from gainKR b acc kn d) (ix2 0 l) = acc (ix2 0 l)
      + ∑ i, padRow (gainRow (cs i) (sn i) (D i) (keyRow (fun l => kn (ix2 i l)) (R i))) (⟨128 + l.val, by omega⟩ : Fin 256) := by
  have hd' : ∀ i l, d (ix3 0 l i) * scaleK = padRow (D i) l := fun i l => by rw [hd, div_mul_back _ _ scaleK_real]
  pointwise [gainKR, addColSums, dpr, yr, scaled, rk, keyRms, k0_pay103, k0_pay101, k0_pay58, k0_pay59, k0_pay60, k0_pay91, k0_pay92, inv192]
  refine congrArg (acc (ix2 0 l) + ·) (Finset.sum_congr rfl fun i _ => ?_)
  refine (congrArg₂ (· * ·) (unturn_rolls (T i) (D i) (fun l => d (ix3 0 l i) * scaleK) (hd' i) l) (congrArg₂ (· * ·) (hr i l)
    (headRms_of (keyRow (fun l => kn (ix2 i l)) (R i)) _ ?_))).trans ?_
  · rw [← keyRow_squares]
    simp only [hr]
  · unfold gainRow padRow
    by_cases h : l.val < 64
    · rw [dif_pos (show 128 + l.val < 192 by omega), dif_pos (show 128 + l.val < 192 by omega), dif_pos h]
      refine congrArg₂ (· * ·) rfl (congrArg₂ (· * ·) ?_ rfl)
      unfold keyRow
      rw [dif_neg (show ¬ 128 + l.val < 128 by omega)]
      refine congrArg (R i) (Fin.ext ?_)
      dsimp only
      omega
    · rw [dif_neg (show ¬ 128 + l.val < 192 by omega), dif_neg (show ¬ 128 + l.val < 192 by omega), zero_mul]

end

/-- A head's matrix of a block, at an entry. -/
theorem head_at (x : Vec Ideal S4x256x256 .f32) (i j : Fin 256) : head0 x (ix3 0 i j) = x (ix3 0 i j) ∧ head1 x (ix3 0 i j) = x (ix3 1 i j)
    ∧ head2 x (ix3 0 i j) = x (ix3 2 i j) ∧ head3 x (ix3 0 i j) = x (ix3 3 i j) := by
  have hi : 0 + 1 * i.val = i.val := by omega
  have hj : 0 + 1 * j.val = j.val := by omega
  refine ⟨?_, ?_, ?_, ?_⟩ <;>
  · refine congrArg x (funext fun a => Fin.ext ?_)
    match a with
    | ⟨0, _⟩ => rfl
    | ⟨1, _⟩ => exact hi
    | ⟨2, _⟩ => exact hj

/-- The rows of a tile: its gradients, queries and keys, a head each, and the shared rotary columns of its keys. -/
structure Rows (D DK Q : Fin 256 → Fin 4 → Fin 192 → EReal) (R : Fin 256 → Fin 64 → EReal) : Prop where
  dq : ∀ (i : Fin 256) (h : Fin 4) (l : Fin 256), b.dq (ix3 h i l) = Ideal.div (padRow (D i h) l) scaleQ
  dk : ∀ (i : Fin 256) (h : Fin 4) (l : Fin 256), b.dk (ix3 h l i) = Ideal.div (padRow (DK i h) l) scaleK
  q : ∀ (i : Fin 256) (h : Fin 4) (l : Fin 256), (show S256x1024.Idx → EReal from qAll b) (ix2 i ⟨h.val * 256 + l.val, by omega⟩) = padRow (Q i h) l
  kr : ∀ (i : Fin 256) (j : Fin 128), b.kr (ix2 i j) = padRow (R i) j

/-- A key head's own columns. -/
def kvRow (i : Fin 256) (h : Fin 4) (l : Fin 128) : EReal := (show S256x1024.Idx → EReal from kvAll b) (ix2 i ⟨h.val * 256 + l.val, by omega⟩)

section
variable {b} {cs sn : Fin 256 → Fin 64 → EReal} {D DK Q : Fin 256 → Fin 4 → Fin 192 → EReal} {R : Fin 256 → Fin 64 → EReal}
variable (T : TablesOf b cs sn) (W : Rows b D DK Q R)
include T W

/-- The query norm's gain after a tile of latent tokens. -/
theorem stepQng_lat (y : Vec Ideal S1x256 .f32) (l : Fin 256) : (show S1x256.Idx → EReal from stepQng 1#1 b y) (ix2 0 l)
    = y (ix2 0 l) + ∑ h : Fin 4, ∑ i, padRow (gainRow (cs i) (sn i) (D i h) (Q i h)) l := by
  have q : ∀ (i l : Fin 256), qh0 b (ix2 i l) = padRow (Q i 0) l ∧ qh1 b (ix2 i l) = padRow (Q i 1) l ∧ qh2 b (ix2 i l) = padRow (Q i 2) l
      ∧ qh3 b (ix2 i l) = padRow (Q i 3) l := fun i l => by
    refine ⟨(Eq.trans ?_ (W.q i 0 l)), (Eq.trans ?_ (W.q i 1 l)), (Eq.trans ?_ (W.q i 2 l)), (Eq.trans ?_ (W.q i 3 l))⟩ <;> pointwise
  pointwise [stepQng, sumQng]
  refine (congrArg (y (ix2 0 l) + ·) (((gainQ_lat T _ _ _ (fun i => D i 3) (fun i => Q i 3) (fun i l => ((head_at b.dq i l).2.2.2.trans (W.dq i 3 l)))
    (fun i l => (q i l).2.2.2) l).trans (congrArg (· + _) ((gainQ_lat T _ _ _ (fun i => D i 2) (fun i => Q i 2)
    (fun i l => ((head_at b.dq i l).2.2.1.trans (W.dq i 2 l))) (fun i l => (q i l).2.2.1) l).trans (congrArg (· + _)
    ((gainQ_lat T _ _ _ (fun i => D i 1) (fun i => Q i 1) (fun i l => ((head_at b.dq i l).2.1.trans (W.dq i 1 l))) (fun i l => (q i l).2.1) l).trans
    (congrArg (· + _) (gainQ_lat T _ _ _ (fun i => D i 0) (fun i => Q i 0) (fun i l => ((head_at b.dq i l).1.trans (W.dq i 0 l)))
    (fun i l => (q i l).1) l))))))))).trans ?_
  rw [Fin.sum_univ_four]
  refine congrArg (y (ix2 0 l) + ·) (congrArg (· + _) (congrArg (· + _) (congrArg (· + _) (Eq.trans (congrArg (· + _) (?_ : _ = (0 : EReal))) (zero_add _)))))
  pointwise [k0_pay62]

omit T W in
/-- The context's tile leaves the query norm's gain. -/
theorem stepQng_ctx (y : Vec Ideal S1x256 .f32) (l : Fin 256) : (show S1x256.Idx → EReal from stepQng 0#1 b y) (ix2 0 l) = y (ix2 0 l) := by
  pointwise [stepQng, sumQng]
  refine (congrArg (y (ix2 0 l) + ·) ((gainQ_ctx _ _ _ l).trans ((gainQ_ctx _ _ _ l).trans ((gainQ_ctx _ _ _ l).trans ((gainQ_ctx _ _ _ l).trans
    (?_ : _ = (0 : EReal))))))).trans (add_zero _)
  pointwise [k0_pay62]

/-- The key norm's gain after a tile. -/
theorem stepKng_at (y : Vec Ideal S1x256 .f32) (l : Fin 256) : stepKng b y (ix2 0 l)
    = y (ix2 0 l) + ∑ h : Fin 4, ∑ i, padRow (gainRow (cs i) (sn i) (DK i h) (keyRow (kvRow b i h) (R i))) l := by
  have k : ∀ i : Fin 256, (fun l => kn0 b (ix2 i l)) = kvRow b i 0 ∧ (fun l => kn1 b (ix2 i l)) = kvRow b i 1 ∧ (fun l => kn2 b (ix2 i l)) = kvRow b i 2
      ∧ (fun l => kn3 b (ix2 i l)) = kvRow b i 3 := fun i => by
    refine ⟨funext fun l => ?_, funext fun l => ?_, funext fun l => ?_, funext fun l => ?_⟩ <;> pointwise [kvRow]
  by_cases h : l.val < 128
  · have e : stepKng b y (ix2 0 l) = left y (ix2 0 ⟨l.val, h⟩) + (show S1x128.Idx → EReal from sumKN b) (ix2 0 ⟨l.val, h⟩) := by
      unfold stepKng VecWindow.put
      rw [dif_neg (fun c => absurd ((c (1 : Fin 2)).1.trans_lt h) (lt_irrefl _)), dif_pos (fun a => by
        match a with
        | ⟨0, _⟩ => exact ⟨le_refl _, Nat.zero_lt_one⟩
        | ⟨1, _⟩ => exact ⟨Nat.zero_le _, (Nat.zero_add 128).symm ▸ h⟩)]
      refine (congrArg (show S1x128.Idx → EReal from k0_pay161 (sumKN b) (left y)) (show _ = ix2 (0 : Fin 1) (⟨l.val, h⟩ : Fin 128) from funext fun a => Fin.ext ?_)).trans ?_
      · match a with
        | ⟨0, _⟩ => rfl
        | ⟨1, _⟩ => rfl
      · pointwise [k0_pay161]
    rw [e, Fin.sum_univ_four]
    refine congrArg₂ (· + ·) (congrArg y (funext fun a => Fin.ext ?_)) (((gainKN_at (cs := cs) (sn := sn) _ _ _ (fun i => DK i 3) R
      (fun i l => ((head_at b.dk l i).2.2.2.trans (W.dk i 3 l))) W.kr ⟨l.val, h⟩).trans (congrArg (· + _) ((gainKN_at (cs := cs) (sn := sn) _ _ _ (fun i => DK i 2) R
      (fun i l => ((head_at b.dk l i).2.2.1.trans (W.dk i 2 l))) W.kr ⟨l.val, h⟩).trans (congrArg (· + _) ((gainKN_at (cs := cs) (sn := sn) _ _ _ (fun i => DK i 1) R
      (fun i l => ((head_at b.dk l i).2.1.trans (W.dk i 1 l))) W.kr ⟨l.val, h⟩).trans (congrArg (· + _) (gainKN_at (cs := cs) (sn := sn) _ _ _ (fun i => DK i 0) R
      (fun i l => ((head_at b.dk l i).1.trans (W.dk i 0 l))) W.kr ⟨l.val, h⟩))))))).trans ?_)
    · match a with
      | ⟨0, _⟩ => rfl
      | ⟨1, _⟩ => exact (by omega : 0 + 1 * l.val = l.val)
    simp only [(k _).1, (k _).2.1, (k _).2.2.1, (k _).2.2.2]
    refine congrArg (· + _) (congrArg (· + _) (congrArg (· + _) (Eq.trans (congrArg (· + _) (?_ : _ = (0 : EReal))) (zero_add _))))
    pointwise [zeroRow]
  · obtain ⟨j, hl⟩ : ∃ j : Fin 128, l = ⟨128 + j.val, by omega⟩ := ⟨⟨l.val - 128, by omega⟩, Fin.ext (by dsimp only; omega)⟩
    have e : stepKng b y (ix2 0 l) = right y (ix2 0 j) + (show S1x128.Idx → EReal from sumKR b) (ix2 0 j) := by
      unfold stepKng VecWindow.put
      rw [dif_pos (fun a => by
        match a with
        | ⟨0, _⟩ => exact ⟨le_refl _, Nat.zero_lt_one⟩
        | ⟨1, _⟩ => exact ⟨Nat.le_of_not_lt h, l.isLt⟩)]
      refine (congrArg (show S1x128.Idx → EReal from k0_pay162 (sumKR b) (right y)) (show _ = ix2 (0 : Fin 1) j from funext fun a => Fin.ext ?_)).trans ?_
      · match a with
        | ⟨0, _⟩ => rfl
        | ⟨1, _⟩ =>
          show l.val - 128 = j.val
          rw [hl]
          exact Nat.add_sub_cancel_left _ _
      · pointwise [k0_pay162]
    rw [e, hl]
    rw [Fin.sum_univ_four]
    refine congrArg₂ (· + ·) (congrArg y (funext fun a => Fin.ext ?_)) (((gainKR_at T _ _ _ (fun i => DK i 3) R
      (fun i l => ((head_at b.dk l i).2.2.2.trans (W.dk i 3 l))) W.kr j).trans (congrArg (· + _) ((gainKR_at T _ _ _ (fun i => DK i 2) R
      (fun i l => ((head_at b.dk l i).2.2.1.trans (W.dk i 2 l))) W.kr j).trans (congrArg (· + _) ((gainKR_at T _ _ _ (fun i => DK i 1) R
      (fun i l => ((head_at b.dk l i).2.1.trans (W.dk i 1 l))) W.kr j).trans (congrArg (· + _) (gainKR_at T _ _ _ (fun i => DK i 0) R
      (fun i l => ((head_at b.dk l i).1.trans (W.dk i 0 l))) W.kr j))))))).trans ?_)
    · match a with
      | ⟨0, _⟩ => rfl
      | ⟨1, _⟩ => exact (by omega : 128 + 1 * j.val = 128 + j.val)
    simp only [(k _).1, (k _).2.1, (k _).2.2.1, (k _).2.2.2]
    refine congrArg (· + _) (congrArg (· + _) (congrArg (· + _) (Eq.trans (congrArg (· + _) (?_ : _ = (0 : EReal))) (zero_add _))))
    pointwise [zeroRow]

end

/-- The gains' sums start at nothing. -/
theorem zero_qng (l : Fin 256) : (Sums.zero (F := Ideal)).qng (ix2 0 l) = 0 := by
  show (show S1x256.Idx → EReal from k0_pay12 (F := Ideal)) (ix2 0 l) = 0
  pointwise [k0_pay12]
theorem zero_kng (l : Fin 256) : (Sums.zero (F := Ideal)).kng (ix2 0 l) = 0 := by
  show (show S1x256.Idx → EReal from k0_pay13 (F := Ideal)) (ix2 0 l) = 0
  pointwise [k0_pay13]

end Cert.Proj

end
-- ==== Proof.ProjRead.lean ====
/- What the blocks of a tile hold, in terms of the arrays the host lines prepare. -/
module

public import Idealize.ShloMosaic.Lib.Pipeline.ValueKit
public import proofs.«01_k».proof.Proof.ProjPoint

@[expose] public section

set_option maxRecDepth 16384
set_option maxHeartbeats 1600000

noncomputable section

namespace Cert.Proj

open Idealize.ShloMosaic Idealize.ShloMosaic.TcCoe Cert.ProjIdeal Cert.ProjIdeal.Gen
open scoped BigOperators

/-! ## The blocks' places -/

theorem idx_row : ∀ t : Fin cfg0.N, t.val < 17 → win0_13.index t = ![t.val, 0] ∧ win0_14.index t = ![t.val, 0] ∧ win0_15.index t = ![t.val, 0]
    ∧ win0_16.index t = ![t.val, 0] ∧ win0_17.index t = ![t.val, 2] ∧ win0_18.index t = ![t.val, 3] ∧ win0_19.index t = ![0, t.val - 1, 0]
    ∧ win0_20.index t = ![0, 0, t.val] := (by decide +kernel : ∀ t : Fin grid0.N, _)
theorem idx_whole : ∀ t : Fin cfg0.N, win0_7.index t = ![0, 0] ∧ win0_8.index t = ![0, 0] ∧ win0_9.index t = ![0, 0] ∧ win0_10.index t = ![0, 0] :=
  (by decide +kernel : ∀ t : Fin grid0.N, _)

/-- Tile 0 is the context's, the others are of latent tokens. -/
theorem bit_at : ∀ t : Fin cfg0.N, latBit (grid0.coords t) = if t.val = 0 then 0#1 else 1#1 := (by decide +kernel : ∀ t : Fin grid0.N, _)

section
variable {m : (ℓ : Loc nD τ sig) → Buf (Elt Ideal) ℓ} {c : Dev nD}
variable (t : Fin cfg0.N) (ht : t.val < 17)

/-- A token of a tile. -/
def row (i : Fin 256) : Fin 4352 := ⟨256 * t.val + i.val, by omega⟩
/-- A latent token of a tile. -/
def lat (i : Fin 256) : Fin 4096 := ⟨256 * (t.val - 1) + i.val, by omega⟩

theorem blk_tab : (∀ (i : Fin 256) (j : Fin 128), (blocksAt m c t).cos (ix2 i j) = V m c main_v114 (ix2 (row t ht i) j))
    ∧ (∀ (i : Fin 256) (j : Fin 128), (blocksAt m c t).slo (ix2 i j) = V m c main_v117 (ix2 (row t ht i) j))
    ∧ ∀ (i : Fin 256) (j : Fin 128), (blocksAt m c t).shi (ix2 i j) = V m c main_v119 (ix2 (row t ht i) j) := by
  obtain ⟨h13, h14, h15, -⟩ := idx_row t ht
  refine ⟨fun i j => ?_, fun i j => ?_, fun i j => ?_⟩
  · show iblk m c 13 t (ix2 i j) = _
    blk_simp [iblk, h13]
    refine congrArg (V m c main_v114) (funext fun a => Fin.ext ?_)
    match a with
    | ⟨0, _⟩ => blk_simp [h13]; show t.val * 256 + i.val = 256 * t.val + i.val; omega
    | ⟨1, _⟩ => blk_simp [h13]
  · show iblk m c 14 t (ix2 i j) = _
    blk_simp [iblk, h14]
    refine congrArg (V m c main_v117) (funext fun a => Fin.ext ?_)
    match a with
    | ⟨0, _⟩ => blk_simp [h14]; show t.val * 256 + i.val = 256 * t.val + i.val; omega
    | ⟨1, _⟩ => blk_simp [h14]
  · show iblk m c 15 t (ix2 i j) = _
    blk_simp [iblk, h15]
    refine congrArg (V m c main_v119) (funext fun a => Fin.ext ?_)
    match a with
    | ⟨0, _⟩ => blk_simp [h15]; show t.val * 256 + i.val = 256 * t.val + i.val; omega
    | ⟨1, _⟩ => blk_simp [h15]

theorem blk_u : (∀ (i k : Fin 256), (blocksAt m c t).cq (ix2 i k) = V m c main_v56 (ix2 (row t ht i) ⟨k.val, by omega⟩))
    ∧ (∀ (i : Fin 256) (k : Fin 128), (blocksAt m c t).ckv (ix2 i k) = V m c main_v56 (ix2 (row t ht i) ⟨256 + k.val, by omega⟩))
    ∧ ∀ (i : Fin 256) (k : Fin 128), (blocksAt m c t).kr (ix2 i k) = V m c main_v56 (ix2 (row t ht i) ⟨384 + k.val, by omega⟩) := by
  obtain ⟨-, -, -, h16, h17, h18, -⟩ := idx_row t ht
  refine ⟨fun i j => ?_, fun i j => ?_, fun i j => ?_⟩
  · show iblk m c 16 t (ix2 i j) = _
    blk_simp [iblk, h16]
    refine congrArg (V m c main_v56) (funext fun a => Fin.ext ?_)
    match a with
    | ⟨0, _⟩ => blk_simp [h16]; show t.val * 256 + i.val = 256 * t.val + i.val; omega
    | ⟨1, _⟩ => blk_simp [h16]
  · show iblk m c 17 t (ix2 i j) = _
    blk_simp [iblk, h17]
    refine congrArg (V m c main_v56) (funext fun a => Fin.ext ?_)
    match a with
    | ⟨0, _⟩ => blk_simp [h17]; show t.val * 256 + i.val = 256 * t.val + i.val; omega
    | ⟨1, _⟩ => blk_simp [h17]
  · show iblk m c 18 t (ix2 i j) = _
    blk_simp [iblk, h18]
    refine congrArg (V m c main_v56) (funext fun a => Fin.ext ?_)
    match a with
    | ⟨0, _⟩ => blk_simp [h18]; show t.val * 256 + i.val = 256 * t.val + i.val; omega
    | ⟨1, _⟩ => blk_simp [h18]

theorem blk_d : (∀ (h : Fin 4) (i l : Fin 256), (blocksAt m c t).dq (ix3 h i l) = V m c main_v123 (ix3 h (lat t ht i) l))
    ∧ ∀ (h : Fin 4) (l i : Fin 256), (blocksAt m c t).dk (ix3 h l i) = V m c main_v128 (ix3 h l (row t ht i)) := by
  obtain ⟨-, -, -, -, -, -, h19, h20⟩ := idx_row t ht
  refine ⟨fun h i l => ?_, fun h l i => ?_⟩
  · show iblk m c 19 t (ix3 h i l) = _
    blk_simp [iblk, h19]
    refine congrArg (V m c main_v123) (funext fun a => Fin.ext ?_)
    match a with
    | ⟨0, _⟩ => blk_simp [h19]
    | ⟨1, _⟩ => blk_simp [h19]; show (t.val - 1) * 256 + i.val = 256 * (t.val - 1) + i.val; omega
    | ⟨2, _⟩ => blk_simp [h19]
  · show iblk m c 20 t (ix3 h l i) = _
    blk_simp [iblk, h20]
    refine congrArg (V m c main_v128) (funext fun a => Fin.ext ?_)
    match a with
    | ⟨0, _⟩ => blk_simp [h20]
    | ⟨1, _⟩ => blk_simp [h20]
    | ⟨2, _⟩ => blk_simp [h20]; show t.val * 256 + i.val = 256 * t.val + i.val; omega

theorem blk_w : (∀ k : Fin 256, (blocksAt m c t).qlg (ix2 0 k) = V m c main_v75 (ix2 0 k))
    ∧ (∀ (q : Fin 1024) (k : Fin 256), (blocksAt m c t).wuq (ix2 q k) = V m c main_v77 (ix2 q k))
    ∧ (∀ k : Fin 128, (blocksAt m c t).kvlg (ix2 0 k) = V m c main_v78 (ix2 0 k))
    ∧ ∀ (k : Fin 128) (q : Fin 1024), (blocksAt m c t).wukv (ix2 k q) = V m c main_v79 (ix2 k q) := by
  obtain ⟨h7, h8, h9, h10⟩ := idx_whole t
  refine ⟨fun k => ?_, fun q k => ?_, fun k => ?_, fun k q => ?_⟩
  · show iblk m c 7 t (ix2 0 k) = _
    blk_simp [iblk, h7]
    refine congrArg (V m c main_v75) (funext fun a => Fin.ext ?_)
    match a with
    | ⟨0, _⟩ => blk_simp [h7]
    | ⟨1, _⟩ => blk_simp [h7]
  · show iblk m c 8 t (ix2 q k) = _
    blk_simp [iblk, h8]
    refine congrArg (V m c main_v77) (funext fun a => Fin.ext ?_)
    match a with
    | ⟨0, _⟩ => blk_simp [h8]
    | ⟨1, _⟩ => blk_simp [h8]
  · show iblk m c 9 t (ix2 0 k) = _
    blk_simp [iblk, h9]
    refine congrArg (V m c main_v78) (funext fun a => Fin.ext ?_)
    match a with
    | ⟨0, _⟩ => blk_simp [h9]
    | ⟨1, _⟩ => blk_simp [h9]
  · show iblk m c 10 t (ix2 k q) = _
    blk_simp [iblk, h10]
    refine congrArg (V m c main_v79) (funext fun a => Fin.ext ?_)
    match a with
    | ⟨0, _⟩ => blk_simp [h10]
    | ⟨1, _⟩ => blk_simp [h10]

end

end Cert.Proj

end
-- ==== Proof.ProjRef.lean ====
/- What the reference computes of the norm gains, at an index: sums over tokens and heads of a gradient row turned back times a normed row. -/
module

public import proofs.«01_k».proof.Proof.Gen.ProjReferenceIdeal.Run
public import proofs.«01_k».proof.Proof.ProjMath

@[expose] public section

set_option maxRecDepth 16384

noncomputable section

namespace Cert.Proj.Ref

open Idealize.ShloMosaic Idealize.ShloMosaic.StableHlo Cert.ProjReferenceIdeal Cert.ProjReferenceIdeal.Gen Cert.ProjReferenceIdeal.Value
open Cert.Attn (padRow)
open scoped BigOperators

/-- The host's sum over the two outer axes of three. -/
theorem sum_outer {A B C : ℕ} (h : (⟨3, ![A, B, C]⟩ : Shape).ReducesTo [0, 1] ⟨1, ![C]⟩) (v : (⟨3, ![A, B, C]⟩ : Shape).Idx → EReal)
    (z : EReal) (l : Fin C) : Ideal.hostReduceAdd h v z (ix1 l) = z + ∑ a, ∑ b, v (ix3 a b l) := by
  refine congrArg (z + ·) ?_
  refine (Finset.sum_filter_eq_sum_of_fiber _ (fun k : Fin A × Fin B => ix3 k.1 k.2 l)
    (fun _ _ e => Prod.ext (congrFun e 0) (congrFun e 1)) (fun i => ⟨fun e => ⟨(i 0, i 1), ?_⟩, ?_⟩) v).trans ?_
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => exact Fin.ext rfl
  · simp only [Fintype.sum_prod_type]

/-- The sum over tokens and heads, as the reference writes it: a second sum over two axes of one element. -/
theorem sum_gain {A : ℕ} (x : FVec Ideal ⟨3, ![A, 4, 192]⟩ .f32) (h : (⟨3, ![A, 4, 192]⟩ : Shape).ReducesTo [0, 1] S192) (l : Fin 192) :
    (show S192.Idx → EReal from Host.reduceAdd (shapeCast S1x1x192 (Host.reduceAdd x (constant (F := Ideal) S_ FTy.f32 0#32) h h_S_)
      shapeCasts_S192_S1x1x192) (constant (F := Ideal) S_ FTy.f32 0#32) reducesTo_S1x1x192_S192_d0_1 h_S_) (ix1 l)
      = ∑ r : Fin A, ∑ k : Fin 4, x (ix3 r k l) := by
  pointwise
  rw [sum_outer (A := 1) (B := 1)]
  simp only [Fin.sum_univ_one]
  pointwise
  rw [sum_outer]
  simp only [zero_add]

/-- The rotary turn taken back, as the reference writes it. -/
def turnBack (x : FVec Ideal S4096x4x64 .f32) (w : FVec Ideal S4096x1x64 .f32) (lo hi : FVec Ideal S4096x4x32 .f32) (y : FVec Ideal S4096x4x192 .f32) :
    FVec Ideal S4096x4x192 .f32 :=
  addf (pad S4096x4x192 ![0, 0, 128] ![0, 0, 0] ![0, 0, 0] (addf (mulf x (broadcastInDim S4096x4x64 ![0, 1, 2] bcast_S4096x1x64_S4096x4x64_0_1_2 w))
      (concatenate S4096x4x64 2 [⟨S4096x4x32, (concatenate S4096x4x32 2 [⟨S4096x4x16, (extractStridedSlice S4096x4x16 ![0, 0, 16] lo slices_S4096x4x32_S4096x4x16_0_0_16)⟩,
        ⟨S4096x4x16, (Host.negf (extractStridedSlice S4096x4x16 ![0, 0, 0] lo slices_S4096x4x32_S4096x4x16_0_0_0))⟩] concatenates_S4096x4x16_S4096x4x16_S4096x4x32_d2)⟩,
        ⟨S4096x4x32, (concatenate S4096x4x32 2 [⟨S4096x4x16, (extractStridedSlice S4096x4x16 ![0, 0, 16] hi slices_S4096x4x32_S4096x4x16_0_0_16)⟩,
        ⟨S4096x4x16, (Host.negf (extractStridedSlice S4096x4x16 ![0, 0, 0] hi slices_S4096x4x32_S4096x4x16_0_0_0))⟩] concatenates_S4096x4x16_S4096x4x16_S4096x4x32_d2)⟩]
        concatenates_S4096x4x32_S4096x4x32_S4096x4x64_d2)) (constant S_ .f32 0x00000000#32) pads_S4096x4x64_S4096x4x192_000_000_12800 h_S_)
    (pad S4096x4x192 ![0, 0, 0] ![0, 0, 64] ![0, 0, 0] (extractStridedSlice S4096x4x128 ![0, 0, 0] y slices_S4096x4x192_S4096x4x128_0_0_0)
      (constant S_ .f32 0x00000000#32) pads_S4096x4x128_S4096x4x192_000_000_0640 h_S_)

set_option maxHeartbeats 2000000 in
theorem turnBack_at (x : FVec Ideal S4096x4x64 .f32) (w : FVec Ideal S4096x1x64 .f32) (lo hi : FVec Ideal S4096x4x32 .f32) (y : FVec Ideal S4096x4x192 .f32)
    (r : Fin 4096) (h : Fin 4) (cs sn : Fin 64 → EReal) (d : Fin 192 → EReal)
    (hx : ∀ j : Fin 64, x (ix3 r h j) = d ⟨128 + j.val, by omega⟩) (hw : ∀ j : Fin 64, w (ix3 r 0 j) = cs j)
    (hlo : ∀ j : Fin 32, lo (ix3 r h j) = d ⟨128 + j.val, by omega⟩ * sn ⟨j.val, by omega⟩)
    (hhi : ∀ j : Fin 32, hi (ix3 r h j) = d ⟨128 + (32 + j.val), by omega⟩ * sn ⟨32 + j.val, by omega⟩)
    (hy : ∀ l : Fin 192, y (ix3 r h l) = d l) (l : Fin 192) :
    (show S4096x4x192.Idx → EReal from turnBack x w lo hi y) (ix3 r h l) = unturn cs sn d l := by
  pointwise [turnBack]
  simp only [hx, hw, hlo, hhi, hy]
  unfold unturn
  by_cases h1 : l.val < 128
  · rw [dif_neg (show ¬ (128 ≤ l.val ∧ l.val - 128 < 64) by omega), dif_pos h1, dif_pos h1, zero_add]
  rw [dif_pos (show 128 ≤ l.val ∧ l.val - 128 < 64 by omega), dif_neg h1, dif_neg h1, add_zero]
  by_cases h2 : l.val - 128 < 32
  · rw [dif_pos h2]
    by_cases h3 : l.val - 128 < 16
    · rw [dif_pos h3, dif_pos (show (l.val - 128) % 32 < 16 by omega)]
      refine congrArg₂ (· + ·) (congrArg₂ (· * ·) (congrArg d (Fin.ext ?_)) rfl) (congrArg₂ (· * ·) (congrArg d (Fin.ext ?_)) (congrArg sn (Fin.ext ?_)))
        <;> (dsimp only; omega)
    · rw [dif_neg h3, dif_neg (show ¬ (l.val - 128) % 32 < 16 by omega)]
      refine congrArg₂ (· + ·) (congrArg₂ (· * ·) (congrArg d (Fin.ext ?_)) rfl)
        (congrArg Neg.neg (congrArg₂ (· * ·) (congrArg d (Fin.ext ?_)) (congrArg sn (Fin.ext ?_)))) <;> (dsimp only; omega)
  · rw [dif_neg h2]
    by_cases h3 : l.val - 128 - 32 < 16
    · rw [dif_pos h3, dif_pos (show (l.val - 128) % 32 < 16 by omega)]
      refine congrArg₂ (· + ·) (congrArg₂ (· * ·) (congrArg d (Fin.ext ?_)) rfl) (congrArg₂ (· * ·) (congrArg d (Fin.ext ?_)) (congrArg sn (Fin.ext ?_)))
        <;> (dsimp only; omega)
    · rw [dif_neg h3, dif_neg (show ¬ (l.val - 128) % 32 < 16 by omega)]
      refine congrArg₂ (· + ·) (congrArg₂ (· * ·) (congrArg d (Fin.ext ?_)) rfl)
        (congrArg Neg.neg (congrArg₂ (· * ·) (congrArg d (Fin.ext ?_)) (congrArg sn (Fin.ext ?_)))) <;> (dsimp only; omega)

variable (V0 : Valuation τ sig (Elt Ideal))

/-- The reference's arrays of cosines and sines, and its rows of gradients, queries and keys. -/
def cosR (r : Fin 4096) (j : Fin 64) : EReal := (show S4096x64.Idx → EReal from res_main_v24 V0) (ix2 r j)
def sinR (r : Fin 4096) (j : Fin 64) : EReal := (show S4096x64.Idx → EReal from res_main_v25 V0) (ix2 r j)
def uR (r : Fin 4096) (j : Fin 1984) : EReal := (show S4096x1984.Idx → EReal from res_main_v52 V0) (ix2 r j)
def ucR (r : Fin 256) (j : Fin 1984) : EReal := (show S256x1984.Idx → EReal from res_main_v79 V0) (ix2 r j)
def dqR (r : Fin 4096) (h : Fin 4) (l : Fin 192) : EReal := (show S1x4x4096x192.Idx → EReal from V0 (Proc.devRef .tc main_arg13)) (ix4 0 h r l)
def dkR (r : Fin 4352) (h : Fin 4) (l : Fin 192) : EReal := (show S1x4x4352x192.Idx → EReal from V0 (Proc.devRef .tc main_arg14)) (ix4 0 h r l)

/-- A row of a query head. -/
def queryOf (u : Fin 1984 → EReal) (h : Fin 4) (l : Fin 192) : EReal :=
  lowRank (Ideal.ofBits .f32 0x43800000#32) (fun k : Fin 256 => (show S256.Idx → EReal from V0 (Proc.devRef .tc main_arg7)) (ix1 k))
    (fun k => (show S256x768.Idx → EReal from V0 (Proc.devRef .tc main_arg8)) (ix2 k ⟨h.val * 192 + l.val, by omega⟩)) (fun k => u ⟨k.val, by omega⟩)

/-- A row of a key head. -/
def keyOf (u : Fin 1984 → EReal) (h : Fin 4) : Fin 192 → EReal :=
  keyRow (fun l => lowRank (Ideal.ofBits .f32 0x43000000#32) (fun k : Fin 128 => (show S128.Idx → EReal from V0 (Proc.devRef .tc main_arg9)) (ix1 k))
    (fun k => (show S128x1024.Idx → EReal from V0 (Proc.devRef .tc main_arg10)) (ix2 k ⟨h.val * 256 + l.val, by omega⟩)) (fun k => u ⟨256 + k.val, by omega⟩))
    (fun j => u ⟨384 + j.val, by omega⟩)

theorem query_at (r : Fin 4096) (h : Fin 4) (l : Fin 192) :
    (show S4096x4x192.Idx → EReal from res_main_v95 V0) (ix3 r h l) = queryOf V0 (uR V0 r) h l := by
  pointwise [res_main_v95, res_main_v80]
  rfl

theorem normed_query (r : Fin 4096) (h : Fin 4) (l : Fin 192) :
    (show S4096x4x192.Idx → EReal from res_main_v105 V0) (ix3 r h l) = queryOf V0 (uR V0 r) h l * headRms (queryOf V0 (uR V0 r) h) := by
  have e : (fun l => (show S4096x4x192.Idx → EReal from res_main_v95 V0) (ix3 r h l)) = queryOf V0 (uR V0 r) h := funext (query_at V0 r h)
  rw [← e]
  pointwise [res_main_v105]
  rfl

theorem key_at (r : Fin 4096) (h : Fin 4) (l : Fin 192) :
    (show S4096x4x192.Idx → EReal from res_main_v150 V0) (ix3 r h l) = keyOf V0 (uR V0 r) h l := by
  pointwise [res_main_v150, res_main_v145, res_main_v130]
  rfl

theorem normed_key (r : Fin 4096) (h : Fin 4) (l : Fin 192) :
    (show S4096x4x192.Idx → EReal from res_main_v160 V0) (ix3 r h l) = keyOf V0 (uR V0 r) h l * headRms (keyOf V0 (uR V0 r) h) := by
  have e : (fun l => (show S4096x4x192.Idx → EReal from res_main_v150 V0) (ix3 r h l)) = keyOf V0 (uR V0 r) h := funext (key_at V0 r h)
  rw [← e]
  pointwise [res_main_v160]
  rfl

theorem context_key_at (r : Fin 256) (h : Fin 4) (l : Fin 192) :
    (show S256x4x192.Idx → EReal from res_main_v206 V0) (ix3 r h l) = keyOf V0 (ucR V0 r) h l := by
  pointwise [res_main_v206, res_main_v201, res_main_v186]
  rfl

theorem normed_context_key (r : Fin 256) (h : Fin 4) (l : Fin 192) :
    (show S256x4x192.Idx → EReal from res_main_v216 V0) (ix3 r h l) = keyOf V0 (ucR V0 r) h l * headRms (keyOf V0 (ucR V0 r) h) := by
  have e : (fun l => (show S256x4x192.Idx → EReal from res_main_v206 V0) (ix3 r h l)) = keyOf V0 (ucR V0 r) h := funext (context_key_at V0 r h)
  rw [← e]
  pointwise [res_main_v216]
  rfl

/-- A row of 192 lengthened to 256, as the host writes it. -/
theorem lane_at (y : FVec Ideal S192 .f32) (l : Fin 256) :
    (show S1x256.Idx → EReal from pad S1x256 ![0, 0] ![0, 64] ![0, 0] (broadcastInDim S1x192 ![1] bcast_S192_S1x192_1 y)
      (sitofp (F := Ideal) .f32 (constantI S_ 32 0#32)) pads_S1x192_S1x256_000_0640 h_S_) (ix2 0 l) = padRow (fun l => y (ix1 l)) l := by
  pointwise
  unfold padRow
  split
  · rfl
  · simp [FloatOps.sitofp]

/-- The query norm's gain. -/
theorem gain_query (l : Fin 256) : (show S1x256.Idx → EReal from val6 V0 (Proc.devRef .tc main_v286)) (ix2 0 l)
    = padRow (fun l => ∑ r, ∑ h, gainRow (cosR V0 r) (sinR V0 r) (dqR V0 r h) (queryOf V0 (uR V0 r) h) l) l := by
  rw [val6_main_v286]
  refine (lane_at _ l).trans (congrArg (fun f : Fin 192 → EReal => padRow f l) (funext fun l => ?_))
  refine (sum_gain (A := 4096) _ _ l).trans (Finset.sum_congr rfl fun r _ => Finset.sum_congr rfl fun h _ => ?_)
  refine (congrArg₂ (· * ·) (normed_query V0 r h l) (turnBack_at (res_main_v261 V0) (res_main_v122 V0) (res_main_v266 V0) (res_main_v267 V0)
    (res_main_v229 V0) r h (cosR V0 r) (sinR V0 r) (dqR V0 r h) (fun j => ?_) (fun j => ?_) (fun j => ?_) (fun j => ?_) (fun j => ?_) l)).trans
    (mul_comm _ _)
  · pointwise [res_main_v261, res_main_v229]; rfl
  · pointwise [res_main_v122]; rfl
  · pointwise [res_main_v266, res_main_v263, res_main_v261, res_main_v229, res_main_v125]; rfl
  · pointwise [res_main_v267, res_main_v263, res_main_v261, res_main_v229, res_main_v125]; rfl
  · pointwise [res_main_v229]; rfl

/-- The key norm's gain: the context's part and the latent tokens' part. -/
theorem gain_key (l : Fin 256) : (show S1x256.Idx → EReal from val6 V0 (Proc.devRef .tc main_v288)) (ix2 0 l)
    = padRow (fun l => (∑ r : Fin 256, ∑ h, dkR V0 ⟨r.val, by omega⟩ h l * (keyOf V0 (ucR V0 r) h l * headRms (keyOf V0 (ucR V0 r) h)))
      + ∑ r : Fin 4096, ∑ h, gainRow (cosR V0 r) (sinR V0 r) (dkR V0 ⟨256 + r.val, by omega⟩ h) (keyOf V0 (uR V0 r) h) l) l := by
  rw [val6_main_v288]
  refine (lane_at _ l).trans (congrArg (fun f : Fin 192 → EReal => padRow f l) (funext fun l => ?_))
  refine congrArg₂ (· + ·)
    ((sum_gain (A := 256) _ _ l).trans (Finset.sum_congr rfl fun r _ => Finset.sum_congr rfl fun h _ => ?_))
    ((sum_gain (A := 4096) _ _ l).trans (Finset.sum_congr rfl fun r _ => Finset.sum_congr rfl fun h _ => ?_))
  · refine (congrArg₂ (· * ·) (normed_context_key V0 r h l) ?_).trans (mul_comm _ _)
    pointwise [res_main_v226]
    rfl
  refine (congrArg₂ (· * ·) (normed_key V0 r h l) (turnBack_at (res_main_v235 V0) (res_main_v177 V0) (res_main_v240 V0) (res_main_v241 V0)
    (res_main_v228 V0) r h (cosR V0 r) (sinR V0 r) (dkR V0 ⟨256 + r.val, by omega⟩ h) (fun j => ?_) (fun j => ?_) (fun j => ?_) (fun j => ?_)
    (fun j => ?_) l)).trans (mul_comm _ _)
  · pointwise [res_main_v235, res_main_v228, res_main_v226]; rfl
  · pointwise [res_main_v177]; rfl
  · pointwise [res_main_v240, res_main_v237, res_main_v235, res_main_v228, res_main_v226, res_main_v180]; rfl
  · pointwise [res_main_v241, res_main_v237, res_main_v235, res_main_v228, res_main_v226, res_main_v180]; rfl
  · pointwise [res_main_v228, res_main_v226]; rfl

end Cert.Proj.Ref

end
-- ==== Proof.ProjHost.lean ====
/- The arrays the kernel's host lines prepare, at an index: each as a function of the arguments, the token projections and the rotary tables
   being the reference's own. -/
module

public import Idealize.ShloMosaic.Lib.Pipeline.ValueKit
public import Idealize.ShloMosaic.Lib.StableHlo.RunRead
public import proofs.«01_k».proof.Proof.Gen.ProjIdeal.Frame
public import proofs.«01_k».proof.Proof.ProjRef

@[expose] public section

set_option maxRecDepth 16384

noncomputable section

namespace Cert.Proj.Lines

open Idealize.ShloMosaic Idealize.ShloMosaic.TcCoe Cert.ProjIdeal Cert.ProjIdeal.Gen
open Cert.Attn (padRow)
open scoped BigOperators

variable (m : (ℓ : Loc nD τ sig) → Buf (Elt Ideal) ℓ) (c : Dev nD)

/-- The host lines before the call, in stretches. -/
abbrev lines : List (List (HloOp τ sig (Elt Ideal))) :=
  [hostOps0, hostOps0_1, hostOps0_2, hostOps0_3, hostOps0_4, hostOps0_5, hostOps0_6, hostOps0_7, hostOps0_8, hostOps0_9, hostOps0_10, hostOps0_11,
   hostOps0_12, hostOps0_13, hostOps0_14, hostOps0_15, hostOps0_16, hostOps0_17, hostOps0_18, hostOps0_19, hostOps0_20, hostOps0_21, hostOps0_22,
   hostOps0_23, hostOps0_24]

/-- The buffers after the first `n` stretches. -/
def W (n : ℕ) : Valuation τ sig (Elt Ideal) := StableHlo.after (lines.take n).flatten (fun b => m (c, b))

theorem W_zero (b : Ref sig .tc) : W m c 0 (Proc.devRef .tc b) = m ((c : Thread nD τ).loc b) := rfl

theorem V_eq (b : Ref sig .tc) : V m c b = W m c 25 (Proc.devRef .tc b) := rfl

/-- One more stretch. -/
theorem W_succ (n : ℕ) (l : List (HloOp τ sig (Elt Ideal))) (h : lines[n]? = some l) : W m c (n + 1) = StableHlo.after l (W m c n) := by
  unfold W
  rw [List.take_add_one, h, Option.toList_some, List.flatten_append, StableHlo.after_append]
  simp only [List.flatten_cons, List.flatten_nil, List.append_nil]

/-- Stretches that don't write a buffer leave it. -/
theorem W_keep (n k : ℕ) (b : DevRef τ sig) (hn : lines.take (n + k) = lines.take n ++ (lines.drop n).take k)
    (h : ∀ op ∈ ((lines.drop n).take k).flatten, b ∉ op.writes) : W m c (n + k) b = W m c n b := by
  unfold W
  rw [hn, List.flatten_append, StableHlo.after_append]
  exact StableHlo.after_of_forall_not_mem _ _ h

/-- The reference's arguments are the kernel's. -/
def Agree (V0 : Valuation ProjReferenceIdeal.τ ProjReferenceIdeal.sig (Elt Ideal)) : Prop :=
  V0 (Proc.devRef .tc ProjReferenceIdeal.main_arg0) = m ((c : Thread nD τ).loc main_arg0)
  ∧ V0 (Proc.devRef .tc ProjReferenceIdeal.main_arg1) = m ((c : Thread nD τ).loc main_arg1)
  ∧ V0 (Proc.devRef .tc ProjReferenceIdeal.main_arg2) = m ((c : Thread nD τ).loc main_arg2)
  ∧ V0 (Proc.devRef .tc ProjReferenceIdeal.main_arg3) = m ((c : Thread nD τ).loc main_arg3)
  ∧ V0 (Proc.devRef .tc ProjReferenceIdeal.main_arg4) = m ((c : Thread nD τ).loc main_arg4)
  ∧ V0 (Proc.devRef .tc ProjReferenceIdeal.main_arg5) = m ((c : Thread nD τ).loc main_arg5)
  ∧ V0 (Proc.devRef .tc ProjReferenceIdeal.main_arg6) = m ((c : Thread nD τ).loc main_arg6)
  ∧ V0 (Proc.devRef .tc ProjReferenceIdeal.main_arg7) = m ((c : Thread nD τ).loc main_arg7)
  ∧ V0 (Proc.devRef .tc ProjReferenceIdeal.main_arg8) = m ((c : Thread nD τ).loc main_arg8)
  ∧ V0 (Proc.devRef .tc ProjReferenceIdeal.main_arg9) = m ((c : Thread nD τ).loc main_arg9)
  ∧ V0 (Proc.devRef .tc ProjReferenceIdeal.main_arg10) = m ((c : Thread nD τ).loc main_arg10)
  ∧ V0 (Proc.devRef .tc ProjReferenceIdeal.main_arg13) = m ((c : Thread nD τ).loc main_arg13)
  ∧ V0 (Proc.devRef .tc ProjReferenceIdeal.main_arg14) = m ((c : Thread nD τ).loc main_arg14)

variable {m c} {V0 : Valuation ProjReferenceIdeal.τ ProjReferenceIdeal.sig (Elt Ideal)} (A : Agree m c V0)
include A

set_option maxHeartbeats 4000000 in
/-- The context's projection. -/
theorem ctx_proj : W m c 1 (Proc.devRef .tc main_v26) = ProjReferenceIdeal.Value.res_main_v79 V0 := by
  obtain ⟨a0, a1, a2, a3, a4, a5, a6, -⟩ := A
  rw [W_succ m c 0 _ rfl]
  after_results_simp
  unfold ProjReferenceIdeal.Value.res_main_v79 ProjReferenceIdeal.Value.res_main_v53 ProjReferenceIdeal.Value.res_main_v54
  rw [a1, a3, a4, a5, a6]
  rfl

set_option maxHeartbeats 4000000 in
/-- The latent tokens' projection. -/
theorem lat_proj : W m c 1 (Proc.devRef .tc main_v53) = ProjReferenceIdeal.Value.res_main_v52 V0 := by
  obtain ⟨a0, a1, a2, a3, a4, a5, a6, -⟩ := A
  rw [W_succ m c 0 _ rfl]
  after_results_simp
  unfold ProjReferenceIdeal.Value.res_main_v52 ProjReferenceIdeal.Value.res_main_v26 ProjReferenceIdeal.Value.res_main_v27
  rw [a0, a2, a4, a5, a6]
  rfl

omit A

/-- The joined projections' first 448 columns. -/
theorem joined : W m c 1 (Proc.devRef .tc main_v55) = extractStridedSlice S4352x448 ![0, 0] (concatenate S4352x1984 0
    [⟨S256x1984, W m c 1 (Proc.devRef .tc main_v26)⟩, ⟨S4096x1984, W m c 1 (Proc.devRef .tc main_v53)⟩] concatenates_S256x1984_S4096x1984_S4352x1984_d0)
    slices_S4352x1984_S4352x448_0_0 := by
  have e : W m c 1 = StableHlo.after (hostOps0.drop 62) (StableHlo.after (hostOps0.take 62) (W m c 0)) := by
    rw [W_succ m c 0 _ rfl, ← StableHlo.after_append]
    rfl
  rw [e]
  generalize StableHlo.after (hostOps0.take 62) (W m c 0) = U
  have k : ∀ b : DevRef τ sig, (∀ op ∈ (hostOps0.drop 62 : List (HloOp τ sig (Elt Ideal))), b ∉ op.writes) → StableHlo.after (hostOps0.drop 62) U b = U b :=
    fun b => StableHlo.after_of_forall_not_mem _ _
  rw [k (Proc.devRef .tc main_v26) (by decide +kernel), k (Proc.devRef .tc main_v53) (by decide +kernel)]
  simp only [hostOps0, List.drop_succ_cons, List.drop_zero]
  after_results_simp

/-- The rotary tables. -/
theorem cos_tab : W m c 9 (Proc.devRef .tc main_v108) = ProjReferenceIdeal.Value.res_main_v24 V0 := by
  rw [W_succ m c 8 _ rfl]
  after_results_simp
  rfl
theorem sin_tab : W m c 9 (Proc.devRef .tc main_v109) = ProjReferenceIdeal.Value.res_main_v25 V0 := by
  rw [W_succ m c 8 _ rfl]
  after_results_simp
  rfl

/-- Columns whose number is below 16 modulo 32. -/
theorem low_half (j : Fin 64) : (show S64.Idx → BitVec 1 from W m c 11 (Proc.devRef .tc main_v113)) (ix1 j) = if j.val % 32 < 16 then 1#1 else 0#1 := by
  have h : W m c 11 (Proc.devRef .tc main_v113) = cmpi .slt (W m c 10 (Proc.devRef .tc main_v111)) (broadcastInDim S64 ![] bcast_S_S64 (constantI S_ 32 16#32)) := by
    rw [W_succ m c 10 _ rfl]
    after_results_simp
  rw [h, W_succ m c 9 _ rfl]
  after_results_simp
  have hc : W m c 9 (Proc.devRef .tc main_c_14) = constantI S_ 32 32#32 := by
    rw [W_succ m c 8 _ rfl]
    after_results_simp
  have hi : W m c 9 (Proc.devRef .tc main_v110) = iotaInDim S64 32 0 := by
    rw [W_succ m c 8 _ rfl]
    after_results_simp
  rw [hc, hi]
  revert j
  decide +kernel

end Cert.Proj.Lines

end
-- ==== Proof.ProjArrays.lean ====
/- The arrays the call reads, at an index: each as a function of the arguments, in the reference's terms. -/
module

public import proofs.«01_k».proof.Proof.ProjHost

@[expose] public section

set_option maxRecDepth 16384

noncomputable section

namespace Cert.Proj.Lines

open Idealize.ShloMosaic Idealize.ShloMosaic.TcCoe Cert.ProjIdeal Cert.ProjIdeal.Gen
open Cert.Attn (padRow)
open Cert.Proj.Ref (cosR sinR uR ucR dqR dkR queryOf keyOf)
open scoped BigOperators

variable {m : (ℓ : Loc nD τ sig) → Buf (Elt Ideal) ℓ} {c : Dev nD} {V0 : Valuation ProjReferenceIdeal.τ ProjReferenceIdeal.sig (Elt Ideal)} (A : Agree m c V0)

/-- The padding with the integer zero. -/
theorem pad_zero : (FloatOps.sitofp (F := Ideal) .f32 (0#32 : BitVec 32) : EReal) = 0 := by
  show (((0#32 : BitVec 32).toInt : ℝ) : EReal) = 0
  simp

/-- A rotary table with 256 rows before it and 64 columns beside it. -/
theorem pad_tab (X : FVec Ideal S4096x64 .f32) (z : FVec Ideal S_ .f32) (r : Fin 4352) (j : Fin 128) :
    (show S4352x128.Idx → EReal from pad S4352x128 ![256, 0] ![0, 64] ![0, 0] X z pads_S4096x64_S4352x128_25600_0640 h_S_) (ix2 r j)
      = if h : 256 ≤ r.val ∧ j.val < 64 then X (ix2 ⟨r.val - 256, by omega⟩ ⟨j.val, h.2⟩) else z ix0 := by
  pointwise
  by_cases h : 256 ≤ r.val ∧ j.val < 64
  · rw [dif_pos ⟨⟨h.1, by omega⟩, h.2⟩, dif_pos h]
  · rw [dif_neg (fun c => h ⟨c.1.1, c.2⟩), dif_neg h]
    exact congrArg z (funext fun a => a.elim0)

variable (V0) in
/-- A token's projection: the 256 context tokens come first. -/
def uRow (r : Fin 4352) (k : Fin 1984) : EReal := if h : r.val < 256 then ucR V0 ⟨r.val, h⟩ k else uR V0 ⟨r.val - 256, by omega⟩ k

variable (V0) in
/-- A token's rotary tables: a context token isn't turned. -/
def csRow (r : Fin 4352) (j : Fin 64) : EReal := if h : r.val < 256 then 1 else cosR V0 ⟨r.val - 256, by omega⟩ j
variable (V0) in
def snRow (r : Fin 4352) (j : Fin 64) : EReal := if h : r.val < 256 then 0 else sinR V0 ⟨r.val - 256, by omega⟩ j

/-- The table of the lower half's sines: those of the columns of a mask, with their sign turned. -/
theorem low_tab (M : IVec S64 1) (X : FVec Ideal S4096x64 .f32) (hM : ∀ j : Fin 64, M (ix1 j) = if j.val % 32 < 16 then 1#1 else 0#1) (r : Fin 4352) (j : Fin 128) :
    (show S4352x128.Idx → EReal from pad S4352x128 ![256, 0] ![0, 64] ![0, 0] (select (broadcastInDim S4096x64 ![1] bcast_S64_S4096x64_1 M)
      (Host.negf X) (broadcastInDim S4096x64 ![] bcast_S_S4096x64 (constant (F := Ideal) S_ .f32 0x00000000#32)))
      (constant (F := Ideal) S_ .f32 0x00000000#32) pads_S4096x64_S4352x128_25600_0640 h_S_) (ix2 r j)
    = if h : j.val < 64 ∧ j.val % 32 < 16 then -(if h' : r.val < 256 then 0 else X (ix2 ⟨r.val - 256, by omega⟩ ⟨j.val, h.1⟩)) else 0 := by
  rw [pad_tab]
  by_cases hr : r.val < 256
  · rw [dif_neg (by omega)]
    by_cases hj : j.val < 64 ∧ j.val % 32 < 16
    · rw [dif_pos hj, dif_pos hr, neg_zero]
      pointwise
    · rw [dif_neg hj]
      pointwise
  · by_cases hj : j.val < 64
    · rw [dif_pos (by omega)]
      pointwise
      rw [hM]
      by_cases hk : j.val % 32 < 16
      · rw [dif_pos ⟨hj, hk⟩, dif_neg hr, if_pos hk]
        rfl
      · rw [dif_neg (fun c => hk c.2), if_neg hk]
        rfl
    · rw [dif_neg (by omega), dif_neg (fun c => hj c.1)]
      pointwise

/-- The table of the upper half's sines. -/
theorem high_tab (M : IVec S64 1) (X : FVec Ideal S4096x64 .f32) (hM : ∀ j : Fin 64, M (ix1 j) = if j.val % 32 < 16 then 1#1 else 0#1) (r : Fin 4352) (j : Fin 128) :
    (show S4352x128.Idx → EReal from pad S4352x128 ![256, 0] ![0, 64] ![0, 0] (select (broadcastInDim S4096x64 ![1] bcast_S64_S4096x64_1 M)
      (broadcastInDim S4096x64 ![] bcast_S_S4096x64 (constant (F := Ideal) S_ .f32 0x00000000#32)) X)
      (constant (F := Ideal) S_ .f32 0x00000000#32) pads_S4096x64_S4352x128_25600_0640 h_S_) (ix2 r j)
    = if h : j.val < 64 ∧ ¬ j.val % 32 < 16 then (if h' : r.val < 256 then 0 else X (ix2 ⟨r.val - 256, by omega⟩ ⟨j.val, h.1⟩)) else 0 := by
  rw [pad_tab]
  by_cases hr : r.val < 256
  · rw [dif_neg (by omega)]
    by_cases hj : j.val < 64 ∧ ¬ j.val % 32 < 16
    · rw [dif_pos hj, dif_pos hr]
      pointwise
    · rw [dif_neg hj]
      pointwise
  · by_cases hj : j.val < 64
    · rw [dif_pos (by omega)]
      pointwise
      rw [hM]
      by_cases hk : j.val % 32 < 16
      · rw [dif_neg (fun c => c.2 hk), if_pos hk]
        rfl
      · rw [dif_pos ⟨hj, hk⟩, dif_neg hr, if_neg hk]
        rfl
    · rw [dif_neg (by omega), dif_neg (fun c => hj c.1)]
      pointwise

theorem slo_sel : W m c 14 (Proc.devRef .tc main_v116) = select (broadcastInDim S4096x64 ![1] bcast_S64_S4096x64_1 (W m c 13 (Proc.devRef .tc main_v113)))
      (W m c 13 (Proc.devRef .tc main_v115)) (broadcastInDim S4096x64 ![] bcast_S_S4096x64 (W m c 13 (Proc.devRef .tc main_cst_17))) := by
  rw [W_succ m c 13 _ rfl]
  generalize W m c 13 = U
  after_results_simp
  rfl
theorem slo_pad : W m c 16 (Proc.devRef .tc main_v117) = pad S4352x128 ![256, 0] ![0, 64] ![0, 0] (W m c 15 (Proc.devRef .tc main_v116)) (W m c 15 (Proc.devRef .tc main_cst_18))
      pads_S4096x64_S4352x128_25600_0640 h_S_ := by
  rw [W_succ m c 15 _ rfl]
  generalize W m c 15 = U
  after_results_simp
  rfl
theorem shi_sel : W m c 18 (Proc.devRef .tc main_v118) = select (broadcastInDim S4096x64 ![1] bcast_S64_S4096x64_1 (W m c 17 (Proc.devRef .tc main_v113)))
      (broadcastInDim S4096x64 ![] bcast_S_S4096x64 (W m c 17 (Proc.devRef .tc main_cst_19))) (W m c 17 (Proc.devRef .tc main_v109)) := by
  rw [W_succ m c 17 _ rfl]
  generalize W m c 17 = U
  after_results_simp
  rfl
theorem shi_pad : W m c 20 (Proc.devRef .tc main_v119) = pad S4352x128 ![256, 0] ![0, 64] ![0, 0] (W m c 19 (Proc.devRef .tc main_v118)) (W m c 19 (Proc.devRef .tc main_cst_20))
      pads_S4096x64_S4352x128_25600_0640 h_S_ := by
  rw [W_succ m c 19 _ rfl]
  generalize W m c 19 = U
  after_results_simp
  rfl

include A

theorem u_at (r : Fin 4352) (k : Fin 512) : (show S4352x512.Idx → EReal from V m c main_v56) (ix2 r k)
    = padRow (fun k : Fin 448 => uRow V0 r ⟨k.val, by omega⟩) k := by
  have hc : W m c 1 (Proc.devRef .tc main_c) = constantI S_ 32 0#32 := by
    rw [W_succ m c 0 _ rfl]
    after_results_simp
  have h : V m c main_v56 = pad S4352x512 ![0, 0] ![0, 64] ![0, 0] (W m c 1 (Proc.devRef .tc main_v55)) (sitofp (F := Ideal) .f32 (constantI S_ 32 0#32))
      pads_S4352x448_S4352x512_000_0640 h_S_ := by
    rw [V_eq, W_keep m c 2 23 _ rfl (by decide +kernel), W_succ m c 1 _ rfl]
    after_results_simp
    rw [hc]
    rfl
  have p : ∀ X : FVec Ideal S4352x448 .f32, (show S4352x512.Idx → EReal from pad S4352x512 ![0, 0] ![0, 64] ![0, 0] X (sitofp (F := Ideal) .f32 (constantI S_ 32 0#32))
      pads_S4352x448_S4352x512_000_0640 h_S_) (ix2 r k) = padRow (fun k : Fin 448 => X (ix2 r k)) k := fun X => by
    pointwise
    rw [pad_zero]
    rfl
  rw [h, p, joined, ctx_proj A, lat_proj A]
  refine congrArg (fun f : Fin 448 → EReal => padRow f k) (funext fun k => ?_)
  pointwise
  rfl

omit A in
theorem cos_at (r : Fin 4352) (j : Fin 128) : (show S4352x128.Idx → EReal from V m c main_v114) (ix2 r j)
    = if h : j.val < 64 then csRow V0 r ⟨j.val, h⟩ else 1 := by
  have hc : W m c 11 (Proc.devRef .tc main_cst_16) = constant (F := Ideal) S_ .f32 0x3F800000#32 := by
    rw [W_succ m c 10 _ rfl]
    after_results_simp
  have h : V m c main_v114 = pad S4352x128 ![256, 0] ![0, 64] ![0, 0] (ProjReferenceIdeal.Value.res_main_v24 V0) (constant (F := Ideal) S_ .f32 0x3F800000#32)
      pads_S4096x64_S4352x128_25600_0640 h_S_ := by
    rw [V_eq, W_keep m c 12 13 _ rfl (by decide +kernel), W_succ m c 11 _ rfl]
    after_results_simp
    rw [hc, W_keep m c 9 2 _ rfl (by decide +kernel), cos_tab (V0 := V0)]
    rfl
  rw [h, pad_tab]
  unfold csRow
  by_cases hr : r.val < 256 <;> by_cases hj : j.val < 64
  · rw [dif_neg (by omega), dif_pos hj, dif_pos hr]
    pointwise
  · rw [dif_neg (by omega), dif_neg hj]
    pointwise
  · rw [dif_pos (by omega), dif_pos hj, dif_neg hr]
    rfl
  · rw [dif_neg (by omega), dif_neg hj]
    pointwise

omit A in
theorem slo_at (r : Fin 4352) (j : Fin 128) : (show S4352x128.Idx → EReal from V m c main_v117) (ix2 r j)
    = if h : j.val < 64 ∧ j.val % 32 < 16 then -snRow V0 r ⟨j.val, h.1⟩ else 0 := by
  have h12 : W m c 13 (Proc.devRef .tc main_v115) = Host.negf (F := Ideal) (φ := .f32) (ProjReferenceIdeal.Value.res_main_v25 V0) := by
    rw [W_succ m c 12 _ rfl]
    after_results_simp
    rw [W_keep m c 9 3 _ rfl (by decide +kernel), sin_tab (V0 := V0)]
  have hc : W m c 13 (Proc.devRef .tc main_cst_17) = constant (F := Ideal) S_ .f32 0x00000000#32 := by
    rw [W_succ m c 12 _ rfl]
    after_results_simp
  have hd : W m c 15 (Proc.devRef .tc main_cst_18) = constant (F := Ideal) S_ .f32 0x00000000#32 := by
    rw [W_succ m c 14 _ rfl]
    after_results_simp
  rw [V_eq, W_keep m c 16 9 _ rfl (by decide +kernel), slo_pad, hd, W_keep m c 14 1 _ rfl (by decide +kernel), slo_sel, hc, h12,
    W_keep m c 11 2 _ rfl (by decide +kernel)]
  exact low_tab _ _ low_half r j

omit A in
theorem shi_at (r : Fin 4352) (j : Fin 128) : (show S4352x128.Idx → EReal from V m c main_v119) (ix2 r j)
    = if h : j.val < 64 ∧ ¬ j.val % 32 < 16 then snRow V0 r ⟨j.val, h.1⟩ else 0 := by
  have hc : W m c 17 (Proc.devRef .tc main_cst_19) = constant (F := Ideal) S_ .f32 0x00000000#32 := by
    rw [W_succ m c 16 _ rfl]
    after_results_simp
  have hd : W m c 19 (Proc.devRef .tc main_cst_20) = constant (F := Ideal) S_ .f32 0x00000000#32 := by
    rw [W_succ m c 18 _ rfl]
    after_results_simp
  rw [V_eq, W_keep m c 20 5 _ rfl (by decide +kernel), shi_pad, hd, W_keep m c 18 1 _ rfl (by decide +kernel), shi_sel, hc,
    W_keep m c 11 6 _ rfl (by decide +kernel), W_keep m c 9 8 _ rfl (by decide +kernel), sin_tab (V0 := V0)]
  exact high_tab _ _ low_half r j

theorem wuq_at (q : Fin 1024) (k : Fin 256) : (show S1024x256.Idx → EReal from V m c main_v77) (ix2 q k)
    = if h : q.val % 256 < 192 then (show S256x768.Idx → EReal from V0 (Proc.devRef .tc ProjReferenceIdeal.main_arg8)) (ix2 k ⟨q.val / 256 * 192 + q.val % 256, by omega⟩) else 0 := by
  obtain ⟨-, -, -, -, -, -, -, -, a8, -⟩ := A
  have hc : W m c 3 (Proc.devRef .tc main_c_7) = constantI S_ 32 0#32 := by
    rw [W_succ m c 2 _ rfl]
    after_results_simp
  have h : V m c main_v77 = truncf (F := Ideal) .bf16 (shapeCast S1024x256 (pad S4x256x256 ![0, 0, 0] ![0, 64, 0] ![0, 0, 0]
      (shapeCast S4x192x256 (transpose S768x256 [1, 0] (show S256x768.Idx → EReal from V0 (Proc.devRef .tc ProjReferenceIdeal.main_arg8)) transposes_S256x768_S768x256_1_0)
      shapeCasts_S768x256_S4x192x256)
      (sitofp (F := Ideal) .f32 (constantI S_ 32 0#32)) pads_S4x192x256_S4x256x256_000_0640_000 h_S_) shapeCasts_S4x256x256_S1024x256) bitsLt_bf16_f32 := by
    rw [V_eq, W_keep m c 5 20 _ rfl (by decide +kernel), W_succ m c 4 _ rfl]
    after_results_simp
    rw [W_succ m c 3 _ rfl]
    after_results_simp
    rw [hc, W_succ m c 2 _ rfl]
    after_results_simp
    rw [W_keep m c 0 2 _ rfl (by decide +kernel), W_zero, a8]
    rfl
  rw [h]
  pointwise
  rw [pad_zero]
  by_cases hq : q.val % 256 < 192
  · rw [dif_pos ⟨by omega, hq⟩, dif_pos hq]
  · rw [dif_neg (fun c => hq c.2), dif_neg hq]

theorem gains_at : (∀ k : Fin 256, (show S1x256.Idx → EReal from V m c main_v75) (ix2 0 k) = (show S256.Idx → EReal from V0 (Proc.devRef .tc ProjReferenceIdeal.main_arg7)) (ix1 k))
    ∧ (∀ k : Fin 128, (show S1x128.Idx → EReal from V m c main_v78) (ix2 0 k) = (show S128.Idx → EReal from V0 (Proc.devRef .tc ProjReferenceIdeal.main_arg9)) (ix1 k))
    ∧ ∀ (k : Fin 128) (q : Fin 1024), (show S128x1024.Idx → EReal from V m c main_v79) (ix2 k q)
      = (show S128x1024.Idx → EReal from V0 (Proc.devRef .tc ProjReferenceIdeal.main_arg10)) (ix2 k q) := by
  obtain ⟨-, -, -, -, -, -, -, a7, -, a9, a10, -⟩ := A
  refine ⟨fun k => ?_, fun k => ?_, fun k q => ?_⟩
  · have h : V m c main_v75 = broadcastInDim S1x256 ![1] bcast_S256_S1x256_1 (show S256.Idx → EReal from V0 (Proc.devRef .tc ProjReferenceIdeal.main_arg7)) := by
      rw [V_eq, W_keep m c 5 20 _ rfl (by decide +kernel), W_succ m c 4 _ rfl]
      after_results_simp
      rw [W_keep m c 0 4 _ rfl (by decide +kernel), W_zero, a7]
    rw [h]
    pointwise
  · have h : V m c main_v78 = broadcastInDim S1x128 ![1] bcast_S128_S1x128_1 (show S128.Idx → EReal from V0 (Proc.devRef .tc ProjReferenceIdeal.main_arg9)) := by
      rw [V_eq, W_keep m c 5 20 _ rfl (by decide +kernel), W_succ m c 4 _ rfl]
      after_results_simp
      rw [W_keep m c 0 4 _ rfl (by decide +kernel), W_zero, a9]
    rw [h]
    pointwise
  · have h : V m c main_v79 = truncf (F := Ideal) .bf16 (show FVec Ideal S128x1024 .f32 from V0 (Proc.devRef .tc ProjReferenceIdeal.main_arg10)) bitsLt_bf16_f32 := by
      rw [V_eq, W_keep m c 5 20 _ rfl (by decide +kernel), W_succ m c 4 _ rfl]
      after_results_simp
      rw [W_keep m c 0 4 _ rfl (by decide +kernel), W_zero, a10]
    rw [h]
    rfl

theorem dq_at (h : Fin 4) (r : Fin 4096) (l : Fin 256) : (show S4x4096x256.Idx → EReal from V m c main_v123) (ix3 h r l)
    = Ideal.div (padRow (dqR V0 r h) l) scaleQ := by
  obtain ⟨-, -, -, -, -, -, -, -, -, -, -, a13, -⟩ := A
  have hc : W m c 21 (Proc.devRef .tc main_c_21) = constantI S_ 32 0#32 := by
    rw [W_succ m c 20 _ rfl]
    after_results_simp
  have e : V m c main_v123 = Host.divf (F := Ideal) (φ := .f32) (pad S4x4096x256 ![0, 0, 0] ![0, 0, 64] ![0, 0, 0]
      (shapeCast S4x4096x192 (show S1x4x4096x192.Idx → EReal from V0 (Proc.devRef .tc ProjReferenceIdeal.main_arg13)) shapeCasts_S1x4x4096x192_S4x4096x192)
      (sitofp (F := Ideal) .f32 (constantI S_ 32 0#32)) pads_S4x4096x192_S4x4096x256_000_000_0640 h_S_)
      (broadcastInDim S4x4096x256 ![] bcast_S_S4x4096x256 (constant (F := Ideal) S_ .f32 0x3D93CD3A#32)) := by
    rw [V_eq, W_keep m c 23 2 _ rfl (by decide +kernel), W_succ m c 22 _ rfl]
    after_results_simp
    rw [W_succ m c 21 _ rfl]
    after_results_simp
    rw [hc, W_succ m c 20 _ rfl]
    after_results_simp
    rw [W_keep m c 0 20 _ rfl (by decide +kernel), W_zero, a13]
    rfl
  rw [e]
  pointwise
  rw [pad_zero]
  rfl

theorem dk_at (h : Fin 4) (r : Fin 4352) (l : Fin 256) : (show S4x256x4352.Idx → EReal from V m c main_v128) (ix3 h l r)
    = Ideal.div (padRow (dkR V0 r h) l) scaleK := by
  obtain ⟨-, -, -, -, -, -, -, -, -, -, -, -, a14⟩ := A
  have hc : W m c 23 (Proc.devRef .tc main_c_23) = constantI S_ 32 0#32 := by
    rw [W_succ m c 22 _ rfl]
    after_results_simp
  have e : V m c main_v128 = Host.divf (F := Ideal) (φ := .f32) (transpose S4x256x4352 [0, 2, 1] (pad S4x4352x256 ![0, 0, 0] ![0, 0, 64] ![0, 0, 0]
      (shapeCast S4x4352x192 (show S1x4x4352x192.Idx → EReal from V0 (Proc.devRef .tc ProjReferenceIdeal.main_arg14)) shapeCasts_S1x4x4352x192_S4x4352x192)
      (sitofp (F := Ideal) .f32 (constantI S_ 32 0#32)) pads_S4x4352x192_S4x4352x256_000_000_0640 h_S_) transposes_S4x4352x256_S4x256x4352_0_2_1)
      (broadcastInDim S4x256x4352 ![] bcast_S_S4x256x4352 (constant (F := Ideal) S_ .f32 0x3F317218#32)) := by
    rw [V_eq, W_succ m c 24 _ rfl]
    after_results_simp
    rw [W_succ m c 23 _ rfl]
    after_results_simp
    rw [hc, W_succ m c 22 _ rfl]
    after_results_simp
    rw [W_keep m c 0 22 _ rfl (by decide +kernel), W_zero, a14]
    rfl
  rw [e]
  pointwise
  rw [pad_zero]
  rfl

end Cert.Proj.Lines

end
-- ==== Proof.ProjEqual.lean ====
/- The two norm gains the kernel sums over its 17 tiles are the reference's sums over the tokens. -/
module

public import proofs.«01_k».proof.Proof.BwdArrays
public import proofs.«01_k».proof.Proof.ProjFrame
public import proofs.«01_k».proof.Proof.ProjTile
public import proofs.«01_k».proof.Proof.ProjRead
public import proofs.«01_k».proof.Proof.ProjArrays

@[expose] public section

set_option maxRecDepth 16384

noncomputable section

namespace Cert.Proj

open Idealize.ShloMosaic Idealize.ShloMosaic.TcCoe Cert.ProjIdeal Cert.ProjIdeal.Gen
open Cert.Attn (padRow sum_blocks ext0 ext0_of sum_ext0)
open Cert.Proj.Ref (cosR sinR uR ucR dqR dkR queryOf keyOf gain_query gain_key)
open Cert.Proj.Lines (Agree uRow csRow snRow)
open scoped BigOperators

/-- Padding a sum of rows. -/
theorem padRow_sum {ι : Type} (s : Finset ι) (f : ι → Fin 192 → EReal) (l : Fin 256) : padRow (fun l => ∑ i ∈ s, f i l) l = ∑ i ∈ s, padRow (f i) l := by
  by_cases h : l.val < 192
  · simp [padRow, h]
  · simp [padRow, h]

theorem padRow_plus (f g : Fin 192 → EReal) (l : Fin 256) : padRow (fun l => f l + g l) l = padRow f l + padRow g l := by
  by_cases h : l.val < 192
  · simp [padRow, h]
  · simp [padRow, h]

section
variable (V0 : Valuation ProjReferenceIdeal.τ ProjReferenceIdeal.sig (Elt Ideal)) (l : Fin 256)

/-- What a latent token adds to the query norm's gain. -/
def partQ (r : Fin 4096) : EReal := ∑ h, padRow (gainRow (cosR V0 r) (sinR V0 r) (dqR V0 r h) (queryOf V0 (uR V0 r) h)) l

/-- What a token adds to the key norm's gain. -/
def partK (r : Fin 4352) : EReal := ∑ h, padRow (gainRow (csRow V0 r) (snRow V0 r) (dkR V0 r h) (keyOf V0 (uRow V0 r) h)) l

theorem query_parts : (show S1x256.Idx → EReal from ProjReferenceIdeal.Value.val6 V0 (Proc.devRef .tc ProjReferenceIdeal.main_v286)) (ix2 0 l) = ∑ r, partQ V0 l r := by
  refine (gain_query V0 l).trans ((padRow_sum _ _ l).trans (Finset.sum_congr rfl fun r _ => ?_))
  exact padRow_sum _ _ l

theorem part_context (r : Fin 4352) (hr : r.val < 256) (h : Fin 4) :
    (fun l => dkR V0 r h l * (keyOf V0 (ucR V0 ⟨r.val, hr⟩) h l * headRms (keyOf V0 (ucR V0 ⟨r.val, hr⟩) h)))
      = gainRow (csRow V0 r) (snRow V0 r) (dkR V0 r h) (keyOf V0 (uRow V0 r) h) := by
  have hc : csRow V0 r = fun _ => 1 := funext fun j => dif_pos hr
  have hs : snRow V0 r = fun _ => 0 := funext fun j => dif_pos hr
  have hu : uRow V0 r = ucR V0 ⟨r.val, hr⟩ := funext fun k => dif_pos hr
  rw [hc, hs, hu]
  unfold gainRow
  rw [unturn_still]

theorem part_latent (r : Fin 4352) (hr : ¬ r.val < 256) (h : Fin 4) :
    gainRow (cosR V0 ⟨r.val - 256, by omega⟩) (sinR V0 ⟨r.val - 256, by omega⟩) (dkR V0 r h) (keyOf V0 (uR V0 ⟨r.val - 256, by omega⟩) h)
      = gainRow (csRow V0 r) (snRow V0 r) (dkR V0 r h) (keyOf V0 (uRow V0 r) h) := by
  have hc : csRow V0 r = cosR V0 ⟨r.val - 256, by omega⟩ := funext fun j => dif_neg hr
  have hs : snRow V0 r = sinR V0 ⟨r.val - 256, by omega⟩ := funext fun j => dif_neg hr
  have hu : uRow V0 r = uR V0 ⟨r.val - 256, by omega⟩ := funext fun k => dif_neg hr
  rw [hc, hs, hu]

theorem key_parts : (show S1x256.Idx → EReal from ProjReferenceIdeal.Value.val6 V0 (Proc.devRef .tc ProjReferenceIdeal.main_v288)) (ix2 0 l) = ∑ r, partK V0 l r := by
  refine (gain_key V0 l).trans ((padRow_plus _ _ l).trans (Eq.symm ?_))
  rw [show (∑ r, partK V0 l r) = ∑ r : Fin (256 + 4096), partK V0 l r from rfl, Fin.sum_univ_add]
  refine congrArg₂ (· + ·) (Eq.symm ((padRow_sum _ _ l).trans (Finset.sum_congr rfl fun r _ => (padRow_sum _ _ l).trans ?_)))
    (Eq.symm ((padRow_sum _ _ l).trans (Finset.sum_congr rfl fun r _ => (padRow_sum _ _ l).trans ?_)))
  · refine Finset.sum_congr rfl fun h _ => congrArg (fun f => padRow f l) ?_
    exact part_context V0 (Fin.castAdd 4096 r) r.isLt h
  · refine Finset.sum_congr rfl fun h _ => congrArg (fun f => padRow f l) ?_
    have e := part_latent V0 (Fin.natAdd 256 r) (by simp) h
    have hr : (⟨(Fin.natAdd 256 r).val - 256, by simp⟩ : Fin 4096) = r := Fin.ext (by simp)
    rw [hr] at e
    exact e

end

section
variable {m : (ℓ : Loc nD τ sig) → Buf (Elt Ideal) ℓ} {c : Dev nD} {V0 : Valuation ProjReferenceIdeal.τ ProjReferenceIdeal.sig (Elt Ideal)}

/-- The tables of a tile are its tokens'. -/
theorem tables_at (t : Fin cfg0.N) (ht : t.val < 17) :
    TablesOf (blocksAt m c t) (fun i => csRow V0 (row t ht i)) (fun i => snRow V0 (row t ht i)) := fun i =>
  { cos := fun j h => ((blk_tab t ht).1 i j).trans ((Lines.cos_at _ j).trans (dif_pos h))
    slo := fun j => ((blk_tab t ht).2.1 i j).trans (Lines.slo_at _ j)
    shi := fun j => ((blk_tab t ht).2.2 i j).trans (Lines.shi_at _ j) }

/-- A product with no weights is nothing. -/
theorem lowRank_none {K : ℕ} (n : EReal) (g w u : Fin K → EReal) (hw : ∀ k, w k = 0) : lowRank n g w u = 0 :=
  Finset.sum_eq_zero fun k _ => by rw [hw k, mul_zero]

variable (A : Agree m c V0)
include A

/-- The columns of a token before the gates. -/
theorem u_cols (r : Fin 4352) (k : Fin 448) (j : Fin 512) (hj : j.val = k.val) : (show S4352x512.Idx → EReal from V m c main_v56) (ix2 r j) = uRow V0 r ⟨k.val, by omega⟩ := by
  rw [Lines.u_at A]
  unfold padRow
  rw [dif_pos (by omega)]
  congr 2

theorem query_rows (t : Fin cfg0.N) (ht : t.val < 17) (i : Fin 256) (h : Fin 4) (l : Fin 256) :
    (show S256x1024.Idx → EReal from qAll (blocksAt m c t)) (ix2 i ⟨h.val * 256 + l.val, by omega⟩) = padRow (queryOf V0 (uRow V0 (row t ht i)) h) l := by
  refine (qAll_at _ i _).trans ?_
  have hu : (fun k : Fin 256 => (blocksAt m c t).cq (ix2 i k)) = fun k => uRow V0 (row t ht i) ⟨k.val, by omega⟩ :=
    funext fun k => ((blk_u t ht).1 i k).trans (u_cols A _ ⟨k.val, by omega⟩ _ rfl)
  have hg : (fun k : Fin 256 => (blocksAt m c t).qlg (ix2 0 k)) = fun k => (show S256.Idx → EReal from V0 (Proc.devRef .tc ProjReferenceIdeal.main_arg7)) (ix1 k) :=
    funext fun k => ((blk_w t).1 k).trans ((Lines.gains_at A).1 k)
  refine (congrArg₂ (fun g u => lowRank _ g _ u) hg hu).trans ?_
  have hq : (h.val * 256 + l.val) % 256 = l.val ∧ (h.val * 256 + l.val) / 256 = h.val := by omega
  unfold padRow
  by_cases hl : l.val < 192
  · rw [dif_pos hl]
    unfold queryOf
    refine congrArg (fun w => lowRank _ _ w _) (funext fun k => ((blk_w t).2.1 _ k).trans ((Lines.wuq_at A _ k).trans ?_))
    rw [dif_pos (by dsimp only; omega)]
    refine congrArg (fun j : Fin 768 => (show S256x768.Idx → EReal from V0 (Proc.devRef .tc ProjReferenceIdeal.main_arg8)) (ix2 k j)) (Fin.ext ?_)
    dsimp only
    rw [hq.1, hq.2]
  · rw [dif_neg hl]
    refine lowRank_none _ _ _ _ fun k => ((blk_w t).2.1 _ k).trans ((Lines.wuq_at A _ k).trans ?_)
    exact dif_neg (by dsimp only; omega)

theorem key_rows (t : Fin cfg0.N) (ht : t.val < 17) (i : Fin 256) (h : Fin 4) :
    keyRow (kvRow (blocksAt m c t) i h) (fun j => uRow V0 (row t ht i) ⟨384 + j.val, by omega⟩) = keyOf V0 (uRow V0 (row t ht i)) h := by
  unfold keyOf
  refine congrArg (fun f => keyRow f _) (funext fun l => (kvAll_at _ i _).trans ?_)
  have hu : (fun k : Fin 128 => (blocksAt m c t).ckv (ix2 i k)) = fun k => uRow V0 (row t ht i) ⟨256 + k.val, by omega⟩ :=
    funext fun k => ((blk_u t ht).2.1 i k).trans (u_cols A _ ⟨256 + k.val, by omega⟩ _ rfl)
  have hg : (fun k : Fin 128 => (blocksAt m c t).kvlg (ix2 0 k)) = fun k => (show S128.Idx → EReal from V0 (Proc.devRef .tc ProjReferenceIdeal.main_arg9)) (ix1 k) :=
    funext fun k => ((blk_w t).2.2.1 k).trans ((Lines.gains_at A).2.1 k)
  refine (congrArg₂ (fun g u => lowRank _ g _ u) hg hu).trans ?_
  exact congrArg (fun w => lowRank _ _ w _) (funext fun k => ((blk_w t).2.2.2 k _).trans ((Lines.gains_at A).2.2 k _))

/-- What a tile's blocks hold, in the reference's rows. -/
theorem rows_at (t : Fin cfg0.N) (ht : t.val < 17) : Rows (blocksAt m c t) (fun i h => dqR V0 (lat t ht i) h) (fun i h => dkR V0 (row t ht i) h)
    (fun i h => queryOf V0 (uRow V0 (row t ht i)) h) (fun i j => uRow V0 (row t ht i) ⟨384 + j.val, by omega⟩) where
  dq i h l := ((blk_d t ht).1 h i l).trans (Lines.dq_at A h _ l)
  dk i h l := ((blk_d t ht).2 h l i).trans (Lines.dk_at A h _ l)
  q i h l := query_rows A t ht i h l
  kr i j := ((blk_u t ht).2.2 i j).trans ((Lines.u_at A _ _).trans (by
    unfold padRow
    by_cases hj : j.val < 64
    · rw [dif_pos hj, dif_pos (by dsimp only; omega)]
    · rw [dif_neg hj, dif_neg (by dsimp only; omega)]))

/-- A tile of latent tokens adds its tokens' parts to the query norm's gain. -/
theorem tile_query (t : Fin cfg0.N) (ht : t.val < 17) (h0 : t.val ≠ 0) (y : Vec Ideal S1x256 .f32) (l : Fin 256) :
    (show S1x256.Idx → EReal from stepQng (latBit (grid0.coords t)) (blocksAt m c t) y) (ix2 0 l)
      = y (ix2 0 l) + ∑ i ∈ Finset.range 256, ext0 (partQ V0 l) (256 * (t.val - 1) + i) := by
  rw [bit_at t, if_neg h0]
  refine (stepQng_lat (tables_at (V0 := V0) t ht) (rows_at A t ht) y l).trans (congrArg (y (ix2 0 l) + ·) ?_)
  rw [Finset.sum_comm, Finset.sum_range]
  refine Finset.sum_congr rfl fun i _ => ?_
  rw [ext0_of (partQ V0 l) (lat t ht i) (256 * (t.val - 1) + i.val) rfl]
  have hr : ¬ (row t ht i).val < 256 := by show ¬ 256 * t.val + i.val < 256; omega
  have hl : (⟨(row t ht i).val - 256, by omega⟩ : Fin 4096) = lat t ht i := Fin.ext (by show 256 * t.val + i.val - 256 = 256 * (t.val - 1) + i.val; omega)
  have hc : csRow V0 (row t ht i) = cosR V0 (lat t ht i) := funext fun j => (dif_neg hr).trans (by rw [hl])
  have hs : snRow V0 (row t ht i) = sinR V0 (lat t ht i) := funext fun j => (dif_neg hr).trans (by rw [hl])
  have hu : uRow V0 (row t ht i) = uR V0 (lat t ht i) := funext fun j => (dif_neg hr).trans (by rw [hl])
  unfold partQ
  rw [hc, hs, hu]

/-- A tile adds its tokens' parts to the key norm's gain. -/
theorem tile_key (t : Fin cfg0.N) (ht : t.val < 17) (y : Vec Ideal S1x256 .f32) (l : Fin 256) :
    (show S1x256.Idx → EReal from stepKng (blocksAt m c t) y) (ix2 0 l)
      = y (ix2 0 l) + ∑ i ∈ Finset.range 256, ext0 (partK V0 l) (256 * t.val + i) := by
  refine (stepKng_at (tables_at (V0 := V0) t ht) (rows_at A t ht) y l).trans (congrArg (y (ix2 0 l) + ·) ?_)
  rw [Finset.sum_comm, Finset.sum_range]
  refine Finset.sum_congr rfl fun i _ => ?_
  rw [ext0_of (partK V0 l) (row t ht i) (256 * t.val + i.val) rfl]
  refine Finset.sum_congr rfl fun h _ => ?_
  rw [key_rows A t ht i h]

/-- The two gains after a tile: the parts of the tokens so far. -/
theorem sums_at (l : Fin 256) : ∀ (n : ℕ) (hn : n < cfg0.N), n < 17 →
    (show S1x256.Idx → EReal from (sumsTo m c n hn).qng) (ix2 0 l) = ∑ s ∈ Finset.range n, ∑ i ∈ Finset.range 256, ext0 (partQ V0 l) (256 * s + i)
    ∧ (show S1x256.Idx → EReal from (sumsTo m c n hn).kng) (ix2 0 l) = ∑ s ∈ Finset.range (n + 1), ∑ i ∈ Finset.range 256, ext0 (partK V0 l) (256 * s + i)
  | 0, hn, h => by
    refine ⟨?_, ?_⟩
    · show (show S1x256.Idx → EReal from stepQng (latBit (grid0.coords ⟨0, hn⟩)) (blocksAt m c ⟨0, hn⟩) Sums.zero.qng) (ix2 0 l) = _
      rw [bit_at ⟨0, hn⟩, if_pos rfl, Finset.range_zero, Finset.sum_empty]
      exact (stepQng_ctx _ l).trans (zero_qng l)
    · refine (tile_key A ⟨0, hn⟩ h _ l).trans ?_
      rw [Finset.sum_range_one]
      exact (congrArg (· + _) (zero_kng l)).trans (zero_add _)
  | n + 1, hn, h => by
    obtain ⟨hq, hk⟩ := sums_at l n (Nat.lt_of_succ_lt hn) (by omega)
    have e : sumsTo m c (n + 1) hn = step (latBit (grid0.coords ⟨n + 1, hn⟩)) (blocksAt m c ⟨n + 1, hn⟩) (sumsTo m c n (Nat.lt_of_succ_lt hn)) := if_pos h
    rw [e]
    refine ⟨?_, ?_⟩
    · refine (tile_query A ⟨n + 1, hn⟩ h (by simp) _ l).trans ?_
      rw [Finset.sum_range_succ _ n]
      exact congrArg (· + _) hq
    · refine (tile_key A ⟨n + 1, hn⟩ h _ l).trans ?_
      rw [Finset.sum_range_succ _ (n + 1)]
      exact congrArg (· + _) hk

/-- The two gains at the end: the last two points leave them. -/
theorem sums_end (l : Fin 256) : (show S1x256.Idx → EReal from (sumsTo m c 18 last_lt).qng) (ix2 0 l) = ∑ r, partQ V0 l r
    ∧ (show S1x256.Idx → EReal from (sumsTo m c 18 last_lt).kng) (ix2 0 l) = ∑ r, partK V0 l r := by
  have e : sumsTo m c 18 last_lt = sumsTo m c 16 (Nat.lt_of_succ_lt (Nat.lt_of_succ_lt last_lt)) :=
    (sumsTo_keep m c ⟨18, last_lt⟩ (by norm_num)).trans (sumsTo_keep m c ⟨17, Nat.lt_of_succ_lt last_lt⟩ (by norm_num))
  rw [e, ← sum_ext0 (partQ V0 l), ← sum_ext0 (partK V0 l)]
  obtain ⟨hq, hk⟩ := sums_at A l 16 (Nat.lt_of_succ_lt (Nat.lt_of_succ_lt last_lt)) (by omega)
  exact ⟨hq.trans (sum_blocks (ext0 (partQ V0 l)) 256 16), hk.trans (sum_blocks (ext0 (partK V0 l)) 256 17)⟩

/-- The query norm's gain is the reference's. -/
theorem query_gain : (show S1x256.Idx → EReal from (sumsTo m c 18 last_lt).qng)
    = ProjReferenceIdeal.Value.val6 V0 (Proc.devRef .tc ProjReferenceIdeal.main_v286) := by
  funext y
  obtain ⟨a, l, rfl⟩ : ∃ (a : Fin 1) (l : Fin 256), y = ix2 a l := ⟨y 0, y 1, eq_ix2 y⟩
  obtain rfl : a = 0 := Subsingleton.elim _ _
  exact ((sums_end A l).1).trans (query_parts V0 l).symm

/-- The key norm's gain is the reference's. -/
theorem key_gain : (show S1x256.Idx → EReal from (sumsTo m c 18 last_lt).kng)
    = ProjReferenceIdeal.Value.val6 V0 (Proc.devRef .tc ProjReferenceIdeal.main_v288) := by
  funext y
  obtain ⟨a, l, rfl⟩ : ∃ (a : Fin 1) (l : Fin 256), y = ix2 a l := ⟨y 0, y 1, eq_ix2 y⟩
  obtain rfl : a = 0 := Subsingleton.elim _ _
  exact ((sums_end A l).2).trans (key_parts V0 l).symm

end

end Cert.Proj

end
-- ==== Proof.lean ====
/- The claims about the attention's forward and backward calls and about the input projection's backward call: the programs run to the
   end and leave their arguments; at finite arguments the attention's output and its gradients of the queries, keys and values are the
   reference's, and at all arguments the projection's gradients of the two head norms' gains are. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Run
public import proofs.«01_k».proof.Proof.Pre
public import proofs.«01_k».proof.Proof.Results
public import proofs.«01_k».proof.Proof.Gen.Proj
public import proofs.«01_k».proof.Proof.Gen.ProjIdeal
public import proofs.«01_k».proof.Proof.Gen.ProjReferenceIdeal
public import proofs.«01_k».proof.Proof.Gen.ProjReferenceIdeal.Run
public import proofs.«01_k».proof.Proof.ProjFrame
public import proofs.«01_k».proof.Proof.ProjBits
public import proofs.«01_k».proof.Proof.ProjEqual
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem Cert.Kernel

/-- The reference runs and is quiescent. -/
theorem reference_frame : Cert.quiescent_ReferenceIdeal (hReferenceIdeal := Cert.ReferenceIdeal.Gen.facts) := fun m ρ _ =>
  (θ_run Cert.ReferenceIdeal.defs _ _).mono (fun r h => And.intro (fun c => (h c).2.2.2.2) (sem_eq_zero_of_no_sems rfl r.2))
    (Cert.ReferenceIdeal.Value.run (F := Ideal) m ρ)

/-- The four results agree. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => Cert.KernelIdeal.Gen.W9 m ρ c (Proc.devRef .tc Cert.KernelIdeal.main_v15),
    fun c => Cert.KernelIdeal.Gen.W9 m ρ c (Proc.devRef .tc Cert.KernelIdeal.main_v19),
    fun c => Cert.KernelIdeal.Gen.W9 m ρ c (Proc.devRef .tc Cert.KernelIdeal.main_v24),
    fun c => Cert.KernelIdeal.Gen.W9 m ρ c (Proc.devRef .tc Cert.KernelIdeal.main_v26), ?_, ?_⟩
  · refine (θ_run Cert.KernelIdeal.defs _ _).mono (fun r h c => ?_) (Cert.Attn.run_all (F := Ideal) m ρ)
    have at_end := fun b hb => h.1 c _ (Cert.KernelIdeal.Gen.mem_uc b hb)
    exact ⟨at_end _ (by decide), at_end _ (by decide), at_end _ (by decide), at_end _ (by decide),
      (at_end _ (by decide)).trans (Cert.KernelIdeal.Gen.W9_main_arg0 m ρ c), (at_end _ (by decide)).trans (Cert.KernelIdeal.Gen.W9_main_arg1 m ρ c),
      (at_end _ (by decide)).trans (Cert.KernelIdeal.Gen.W9_main_arg2 m ρ c), (at_end _ (by decide)).trans (Cert.KernelIdeal.Gen.W9_main_arg3 m ρ c)⟩
  · refine (θ_run Cert.ReferenceIdeal.defs _ _).mono (fun r h c => ?_)
      (θ_run_and (Cert.Attn.Ref.run_ref m' ρ') (Cert.ReferenceIdeal.Value.run (F := Ideal) m' ρ'))
    obtain ⟨q, hq⟩ := Cert.Attn.reals_of_olt (Cert.Attn.argQ m c) fun y => congrFun (hpre c).1 y
    obtain ⟨k, hk⟩ := Cert.Attn.reals_of_olt (Cert.Attn.argK m c) fun y => congrFun (hpre c).2.1 y
    obtain ⟨v, hv⟩ := Cert.Attn.reals_of_olt (Cert.Attn.argV m c) fun y => congrFun (hpre c).2.2.1 y
    obtain ⟨g, hg⟩ := Cert.Attn.reals_of_olt (Cert.Attn.argD m c) fun y => congrFun (hpre c).2.2.2 y
    have eq : Cert.Attn.Ref.argQ m' c = Cert.Attn.argQ m c := (hargs c).1
    have ek : Cert.Attn.Ref.argK m' c = Cert.Attn.argK m c := (hargs c).2.1
    have ev : Cert.Attn.Ref.argV m' c = Cert.Attn.argV m c := (hargs c).2.2.1
    have eg : Cert.Attn.Ref.argD m' c = Cert.Attn.argD m c := (hargs c).2.2.2
    have hr := h.1 c
    rw [eq, ek, ev, eg] at hr
    exact ⟨hr.1.trans (Cert.Attn.same_o q k v g m ρ c hq hk hv hg), hr.2.1.trans (Cert.Attn.same_dq q k v g m ρ c hq hk hv hg),
      hr.2.2.1.trans (Cert.Attn.same_dk q k v g m ρ c hq hk hv hg), hr.2.2.2.trans (Cert.Attn.same_dv q k v g m ρ c hq hk hv hg),
      (h.2 c).2.2.2.2⟩

/-- The projection's reference runs and is quiescent. -/
theorem proj_reference_frame : Cert.quiescent_ProjReferenceIdeal (hProjReferenceIdeal := Cert.ProjReferenceIdeal.Gen.facts) := fun m ρ _ =>
  (θ_run Cert.ProjReferenceIdeal.defs _ _).mono (fun r h => And.intro (fun c => (h c).2.2) (sem_eq_zero_of_no_sems rfl r.2))
    (Cert.ProjReferenceIdeal.Value.run (F := Ideal) m ρ)

/-- The arguments the two programs share, as the launch holds them. -/
theorem agree (m : (ℓ : Loc Cert.ProjIdeal.nD Cert.ProjIdeal.τ Cert.ProjIdeal.sig) → Buf (Elt Ideal) ℓ)
    (m' : (ℓ : Loc Cert.ProjReferenceIdeal.nD Cert.ProjReferenceIdeal.τ Cert.ProjReferenceIdeal.sig) → Buf (Elt Ideal) ℓ) (c : Dev Cert.ProjIdeal.nD)
    (h : Cert.Proj.Lines.Agree m c (StableHlo.launchContents m' c)) :
    (Cert.Proj.sumsTo (F := Ideal) m c 18 Cert.Proj.last_lt).qng = Cert.ProjReferenceIdeal.Value.val6 (StableHlo.launchContents m' c) (Proc.devRef .tc Cert.ProjReferenceIdeal.main_v286)
    ∧ (Cert.Proj.sumsTo (F := Ideal) m c 18 Cert.Proj.last_lt).kng = Cert.ProjReferenceIdeal.Value.val6 (StableHlo.launchContents m' c) (Proc.devRef .tc Cert.ProjReferenceIdeal.main_v288) :=
  ⟨Cert.Proj.query_gain h, Cert.Proj.key_gain h⟩

/-- The two gradients agree. -/
theorem proj_equal : Cert.algebraic_ProjIdeal_ProjReferenceIdeal (hProjIdeal := Cert.ProjIdeal.Gen.facts)
    (hProjReferenceIdeal := Cert.ProjReferenceIdeal.Gen.facts) := by
  intro m ρ m' ρ' _ hargs
  refine ⟨fun c => (Cert.Proj.sumsTo (F := Ideal) m c 18 Cert.Proj.last_lt).qng, fun c => (Cert.Proj.sumsTo (F := Ideal) m c 18 Cert.Proj.last_lt).kng, ?_, ?_⟩
  · exact (θ_run Cert.ProjIdeal.defs _ _).mono (fun r h c => ⟨(h.1 c).1.2.2.2.2.1, (h.1 c).1.2.2.2.2.2, (h.1 c).2⟩) (Cert.Proj.run (F := Ideal) m ρ)
  · refine (θ_run Cert.ProjReferenceIdeal.defs _ _).mono (fun r h c => ?_) (Cert.ProjReferenceIdeal.Value.run (F := Ideal) m' ρ')
    obtain ⟨a0, a1, a2, a3, a4, a5, a6, a7, a8, a9, a10, _, _, a13, a14, _⟩ := hargs c
    obtain ⟨hq, hk⟩ := agree m m' c ⟨a0, a1, a2, a3, a4, a5, a6, a7, a8, a9, a10, a13, a14⟩
    exact ⟨((h c).1.trans (Cert.ProjReferenceIdeal.Value.val6_main_v286 (StableHlo.launchContents m' c)).symm).trans hq.symm,
      ((h c).2.1.trans (Cert.ProjReferenceIdeal.Value.val6_main_v288 (StableHlo.launchContents m' c)).symm).trans hk.symm, (h c).2.2⟩

theorem claim : Cert.Claim := ⟨Cert.Kernel.Gen.facts, Cert.KernelIdeal.Gen.facts, Cert.ReferenceIdeal.Gen.facts, Cert.Proj.Gen.facts,
  Cert.ProjIdeal.Gen.facts, Cert.ProjReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  Cert.Proj.frame_bits, fun m ρ _ => Cert.Proj.framed (F := Ideal) m ρ, proj_reference_frame,
  IdealRules.named_const.statement Cert.KernelIdeal.κ "log2e" .f32 0x3FB8AA3B#32 (((Real.log 2)⁻¹ : ℝ) : EReal) rfl, equal,
  IdealRules.named_const.statement Cert.ProjIdeal.κ "inv192" .f32 0x3BAAAAAB#32 ((192⁻¹ : ℝ) : EReal) rfl, proj_equal⟩

end Cert.Proof

end
